-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_logits [hPre_finite_logits : Cert.Pre_finite_logits.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_logits.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).1 = (fun _ => 1#1)
    ∧ (Cert.Pre_finite_logits.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13)) (m ((c.tc : Thread Cert.Kernel5Ideal.nD Cert.Kernel5Ideal.τ).loc Cert.Kernel5Ideal.main_arg14)) (m ((c.tc : Thread Cert.Kernel5Ideal.nD Cert.Kernel5Ideal.τ).loc Cert.Kernel5Ideal.main_arg15))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_logits [hPre_finite_logits : Cert.Pre_finite_logits.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_logits.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).1 = (fun _ => 1#1)
    ∧ (Cert.Pre_finite_logits.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13)) (m ((c.tc : Thread Cert.Reference5Ideal.nD Cert.Reference5Ideal.τ).loc Cert.Reference5Ideal.main_arg14)) (m ((c.tc : Thread Cert.Reference5Ideal.nD Cert.Reference5Ideal.τ).loc Cert.Reference5Ideal.main_arg15))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Kernel5Ideal_pre_finite_logits [hKernel5Ideal : Cert.Kernel5Ideal.Facts] [hPre_finite_logits : Cert.Pre_finite_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_logits m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def quiescent_Reference5Ideal_pre_finite_logits [hReference5Ideal : Cert.Reference5Ideal.Facts] [hPre_finite_logits : Cert.Pre_finite_logits.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_logits m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v33_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v33_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v101) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite_logits [hKernel5Ideal : Cert.Kernel5Ideal.Facts] [hReference5Ideal : Cert.Reference5Ideal.Facts] [hPre_finite_logits : Cert.Pre_finite_logits.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_logits m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)) →
    ∃ (v0 : (c : Dev Cert.Kernel5Ideal.nD) → Buf (Elt Ideal) ((c.tc : Thread Cert.Kernel5Ideal.nD Cert.Kernel5Ideal.τ).loc Cert.Kernel5Ideal.main_v33_1)) (v1 : (c : Dev Cert.Kernel5Ideal.nD) → Buf (Elt Ideal) ((c.tc : Thread Cert.Kernel5Ideal.nD Cert.Kernel5Ideal.τ).loc Cert.Kernel5Ideal.main_v33_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v33_1) = v0 c
          ∧ r.2.mem ((c.tc : Thread Cert.Kernel5Ideal.nD Cert.Kernel5Ideal.τ).loc Cert.Kernel5Ideal.main_v33_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v159) = v0 c
          ∧ r.2.mem ((c.tc : Thread Cert.Reference5Ideal.nD Cert.Reference5Ideal.τ).loc Cert.Reference5Ideal.main_v161) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_finite_logits : Cert.Pre_finite_logits.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_logits (hKernel5Ideal := hKernel5Ideal) (hPre_finite_logits := hPre_finite_logits)
    ∧ quiescent_Reference5Ideal (hReference5Ideal := hReference5Ideal)
    ∧ quiescent_Reference5Ideal_pre_finite_logits (hReference5Ideal := hReference5Ideal) (hPre_finite_logits := hPre_finite_logits)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_logits (hKernel5Ideal := hKernel5Ideal) (hReference5Ideal := hReference5Ideal) (hPre_finite_logits := hPre_finite_logits)
-- ==== Pre_finite_logits.lean ====
abbrev S65536x512 : Shape := ⟨2, ![65536, 512]⟩
abbrev S2x65536x512 : Shape := ⟨3, ![2, 65536, 512]⟩
abbrev S65536x3072 : Shape := ⟨2, ![65536, 3072]⟩
abbrev S8x8192x1024 : Shape := ⟨3, ![8, 8192, 1024]⟩
abbrev S1024 : Shape := ⟨1, ![1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S65536x1024 : Shape := ⟨2, ![65536, 1024]⟩
abbrev S1x65536x512 : Shape := ⟨3, ![1, 65536, 512]⟩
abbrev S65536x4x128 : Shape := ⟨3, ![65536, 4, 128]⟩
abbrev S_ : Shape := ⟨0, ![]⟩
abbrev S65536x4 : Shape := ⟨2, ![65536, 4]⟩
abbrev S65536x4x1 : Shape := ⟨3, ![65536, 4, 1]⟩
abbrev S512 : Shape := ⟨1, ![512]⟩
abbrev S4x128 : Shape := ⟨2, ![4, 128]⟩
abbrev S1x4x128 : Shape := ⟨3, ![1, 4, 128]⟩
abbrev S512x1024 : Shape := ⟨2, ![512, 1024]⟩
abbrev S8x8192 : Shape := ⟨2, ![8, 8192]⟩
abbrev S8x8192x1 : Shape := ⟨3, ![8, 8192, 1]⟩
abbrev S1x1x1024 : Shape := ⟨3, ![1, 1, 1024]⟩
abbrev S1024x1024 : Shape := ⟨2, ![1024, 1024]⟩
abbrev S65536 : Shape := ⟨1, ![65536]⟩
abbrev S65536x1 : Shape := ⟨2, ![65536, 1]⟩
abbrev S1024x4 : Shape := ⟨2, ![1024, 4]⟩
abbrev S4 : Shape := ⟨1, ![4]⟩
abbrev S1024x32 : Shape := ⟨2, ![1024, 32]⟩
abbrev S65536x32 : Shape := ⟨2, ![65536, 32]⟩
abbrev S32 : Shape := ⟨1, ![32]⟩

class Facts : Prop where
  bitsLt_bf16_f32 : FTy.bits .bf16 < FTy.bits .f32
  slices_S65536x3072_S65536x512_0_0 : S65536x3072.Slices ![0, 0] S65536x512
  slices_S65536x3072_S65536x512_0_512 : S65536x3072.Slices ![0, 512] S65536x512
  slices_S65536x3072_S65536x1024_0_1024 : S65536x3072.Slices ![0, 1024] S65536x1024
  slices_S65536x3072_S65536x1024_0_2048 : S65536x3072.Slices ![0, 2048] S65536x1024
  slices_S2x65536x512_S1x65536x512_0_0_0 : S2x65536x512.Slices ![0, 0, 0] S1x65536x512
  shapeCasts_S1x65536x512_S65536x512 : S1x65536x512.ShapeCasts S65536x512
  slices_S2x65536x512_S1x65536x512_1_0_0 : S2x65536x512.Slices ![1, 0, 0] S1x65536x512
  shapeCasts_S65536x512_S65536x4x128 : S65536x512.ShapeCasts S65536x4x128
  reducesTo_S65536x4x128_S65536x4_d2 : S65536x4x128.ReducesTo [2] S65536x4
  h_S_ : 0 < S_.numel
  bcast_S65536x4_S65536x4x1_0_1 : S65536x4.BroadcastsInDim S65536x4x1 (![0, 1] : Fin 2 → Fin S65536x4x1.rank)
  bcast_S_S65536x4x1 : S_.BroadcastsInDim S65536x4x1 (![] : Fin 0 → Fin S65536x4x1.rank)
  bcast_S65536x4x1_S65536x4x128_0_1_2 : S65536x4x1.BroadcastsInDim S65536x4x128 (![0, 1, 2] : Fin 3 → Fin S65536x4x128.rank)
  shapeCasts_S1x512_S512 : S1x512.ShapeCasts S512
  shapeCasts_S512_S4x128 : S512.ShapeCasts S4x128
  bcast_S4x128_S1x4x128_1_2 : S4x128.BroadcastsInDim S1x4x128 (![1, 2] : Fin 2 → Fin S1x4x128.rank)
  bcast_S1x4x128_S65536x4x128_0_1_2 : S1x4x128.BroadcastsInDim S65536x4x128 (![0, 1, 2] : Fin 3 → Fin S65536x4x128.rank)
  bcast_S_S65536x4x128 : S_.BroadcastsInDim S65536x4x128 (![] : Fin 0 → Fin S65536x4x128.rank)
  shapeCasts_S65536x4x128_S65536x512 : S65536x4x128.ShapeCasts S65536x512
  bcast_S_S65536x1024 : S_.BroadcastsInDim S65536x1024 (![] : Fin 0 → Fin S65536x1024.rank)
  shapeCasts_S1x512x1024_S512x1024 : S1x512x1024.ShapeCasts S512x1024
  reducesTo_S8x8192x1024_S8x8192_d2 : S8x8192x1024.ReducesTo [2] S8x8192
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x1024_0_1_2 : S8x8192x1.BroadcastsInDim S8x8192x1024 (![0, 1, 2] : Fin 3 → Fin S8x8192x1024.rank)
  bcast_S1024_S1x1x1024_2 : S1024.BroadcastsInDim S1x1x1024 (![2] : Fin 1 → Fin S1x1x1024.rank)
  bcast_S1x1x1024_S8x8192x1024_0_1_2 : S1x1x1024.BroadcastsInDim S8x8192x1024 (![0, 1, 2] : Fin 3 → Fin S8x8192x1024.rank)
  shapeCasts_S8x8192x1024_S65536x1024 : S8x8192x1024.ShapeCasts S65536x1024
  shapeCasts_S1x1024x1024_S1024x1024 : S1x1024x1024.ShapeCasts S1024x1024
  shapeCasts_S1x1024_S1024 : S1x1024.ShapeCasts S1024
  reducesTo_S65536x1024_S65536_d1 : S65536x1024.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  shapeCasts_S1x1024x4_S1024x4 : S1x1024x4.ShapeCasts S1024x4
  shapeCasts_S1x4_S4 : S1x4.ShapeCasts S4
  bcast_S4_S1x4_1 : S4.BroadcastsInDim S1x4 (![1] : Fin 1 → Fin S1x4.rank)
  bcast_S1x4_S65536x4_0_1 : S1x4.BroadcastsInDim S65536x4 (![0, 1] : Fin 2 → Fin S65536x4.rank)
  shapeCasts_S1x1024x32_S1024x32 : S1x1024x32.ShapeCasts S1024x32
  shapeCasts_S1x32_S32 : S1x32.ShapeCasts S32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x4 : S_.BroadcastsInDim S65536x4 (![] : Fin 0 → Fin S65536x4.rank)
  bcast_S_S65536x32 : S_.BroadcastsInDim S65536x32 (![] : Fin 0 → Fin S65536x32.rank)
  dot_S65536x512_S512x1024_S65536x1024_1_0_0_1_n_n_wf : DotDims.WF S65536x512 S512x1024 S65536x1024 [1] [0] [0] [1] [] []
  dot_S65536x1024_S1024x1024_S65536x1024_1_0_0_1_n_n_wf : DotDims.WF S65536x1024 S1024x1024 S65536x1024 [1] [0] [0] [1] [] []
  dot_S65536x1024_S1024x4_S65536x4_1_0_0_1_n_n_wf : DotDims.WF S65536x1024 S1024x4 S65536x4 [1] [0] [0] [1] [] []
  dot_S65536x1024_S1024x32_S65536x32_1_0_0_1_n_n_wf : DotDims.WF S65536x1024 S1024x32 S65536x32 [1] [0] [0] [1] [] []

variable [Facts]

def dot_S65536x512_S512x1024_S65536x1024_1_0_0_1_n_n : DotDims S65536x512 S512x1024 S65536x1024 where
  lhsContracting := [1]
  rhsContracting := [0]
  lhsNonContracting := [0]
  rhsNonContracting := [1]
  lhsBatch := []
  rhsBatch := []
  wf := dot_S65536x512_S512x1024_S65536x1024_1_0_0_1_n_n_wf
def dot_S65536x1024_S1024x1024_S65536x1024_1_0_0_1_n_n : DotDims S65536x1024 S1024x1024 S65536x1024 where
  lhsContracting := [1]
  rhsContracting := [0]
  lhsNonContracting := [0]
  rhsNonContracting := [1]
  lhsBatch := []
  rhsBatch := []
  wf := dot_S65536x1024_S1024x1024_S65536x1024_1_0_0_1_n_n_wf
def dot_S65536x1024_S1024x4_S65536x4_1_0_0_1_n_n : DotDims S65536x1024 S1024x4 S65536x4 where
  lhsContracting := [1]
  rhsContracting := [0]
  lhsNonContracting := [0]
  rhsNonContracting := [1]
  lhsBatch := []
  rhsBatch := []
  wf := dot_S65536x1024_S1024x4_S65536x4_1_0_0_1_n_n_wf
def dot_S65536x1024_S1024x32_S65536x32_1_0_0_1_n_n : DotDims S65536x1024 S1024x32 S65536x32 where
  lhsContracting := [1]
  rhsContracting := [0]
  lhsNonContracting := [0]
  rhsNonContracting := [1]
  lhsBatch := []
  rhsBatch := []
  wf := dot_S65536x1024_S1024x32_S65536x32_1_0_0_1_n_n_wf
def fn_silu {F : FTy → Type} [FloatOps F] (arg0 : FVec F S65536x4x128 .f32) : FVec F S65536x4x128 .f32 :=
  let v0 : FVec F S65536x4x128 .f32 := Host.negf arg0
  let v1 : FVec F S65536x4x128 .f32 := Host.exp v0
  let cst : FVec F S_ .f32 := constant S_ .f32 0x3F800000#32
  let v2 : FVec F S65536x4x128 .f32 := broadcastInDim S65536x4x128 ![] bcast_S_S65536x4x128 cst
  let v3 : FVec F S65536x4x128 .f32 := addf v2 v1
  let cst_0 : FVec F S_ .f32 := constant S_ .f32 0x3F800000#32
  let v4 : FVec F S65536x4x128 .f32 := broadcastInDim S65536x4x128 ![] bcast_S_S65536x4x128 cst_0
  let v5 : FVec F S65536x4x128 .f32 := Host.divf v4 v3
  let v6 : FVec F S65536x4x128 .f32 := mulf arg0 v5
  v6

def fn_part6 {F : FTy → Type} [FloatOps F] (main_v113 : FVec F S65536x32 .f32) (main_v118 : IVec S65536x4 1) (main_v120 : IVec S65536x32 1) (main_v121 : FVec F S65536x32 .f32) : IVec S65536x4 1 × IVec S65536x32 1 :=
  let main_v122 : IVec S65536x32 1 := cmpf .olt main_v113 main_v121
  let main_v123 : IVec S65536x32 1 := andi main_v120 main_v122
  (main_v118, main_v123)

def fn_part5 {F : FTy → Type} [FloatOps F] (main_arg12 : FVec F S1x1024x4 .f32) (main_arg13 : FVec F S1x4 .f32) (main_arg14 : FVec F S1x1024x32 .f32) (main_arg15 : FVec F S1x32 .f32) (main_v101 : FVec F S65536x1024 .f32) : IVec S65536x4 1 × IVec S65536x32 1 :=
  let main_v102 : FVec F S1024x4 .f32 := shapeCast S1024x4 main_arg12 shapeCasts_S1x1024x4_S1024x4
  let main_v103 : FVec F S65536x4 .f32 := (fun l r => Host.dotGeneral dot_S65536x1024_S1024x4_S65536x4_1_0_0_1_n_n none l r) main_v101 main_v102
  let main_v104 : FVec F S4 .f32 := shapeCast S4 main_arg13 shapeCasts_S1x4_S4
  let main_v105 : FVec F S1x4 .f32 := broadcastInDim S1x4 ![1] bcast_S4_S1x4_1 main_v104
  let main_v106 : FVec F S65536x4 .f32 := broadcastInDim S65536x4 ![0, 1] bcast_S1x4_S65536x4_0_1 main_v105
  let main_v107 : FVec F S65536x4 .f32 := addf main_v103 main_v106
  let main_v108 : FVec F S1024x32 .f32 := shapeCast S1024x32 main_arg14 shapeCasts_S1x1024x32_S1024x32
  let main_v109 : FVec F S65536x32 .f32 := (fun l r => Host.dotGeneral dot_S65536x1024_S1024x32_S65536x32_1_0_0_1_n_n none l r) main_v101 main_v108
  let main_v110 : FVec F S32 .f32 := shapeCast S32 main_arg15 shapeCasts_S1x32_S32
  let main_v111 : FVec F S1x32 .f32 := broadcastInDim S1x32 ![1] bcast_S32_S1x32_1 main_v110
  let main_v112 : FVec F S65536x32 .f32 := broadcastInDim S65536x32 ![0, 1] bcast_S1x32_S65536x32_0_1 main_v111
  let main_v113 : FVec F S65536x32 .f32 := addf main_v109 main_v112
  let main_cst_17 : FVec F S_ .f32 := constant S_ .f32 0xFF800000#32
  let main_v114 : FVec F S65536x4 .f32 := broadcastInDim S65536x4 ![] bcast_S_S65536x4 main_cst_17
  let main_v115 : IVec S65536x4 1 := cmpf .ogt main_v107 main_v114
  let main_cst_18 : FVec F S_ .f32 := constant S_ .f32 0x7F800000#32
  let main_v116 : FVec F S65536x4 .f32 := broadcastInDim S65536x4 ![] bcast_S_S65536x4 main_cst_18
  let main_v117 : IVec S65536x4 1 := cmpf .olt main_v107 main_v116
  let main_v118 : IVec S65536x4 1 := andi main_v115 main_v117
  let main_cst_19 : FVec F S_ .f32 := constant S_ .f32 0xFF800000#32
  let main_v119 : FVec F S65536x32 .f32 := broadcastInDim S65536x32 ![] bcast_S_S65536x32 main_cst_19
  let main_v120 : IVec S65536x32 1 := cmpf .ogt main_v113 main_v119
  let main_cst_20 : FVec F S_ .f32 := constant S_ .f32 0x7F800000#32
  let main_v121 : FVec F S65536x32 .f32 := broadcastInDim S65536x32 ![] bcast_S_S65536x32 main_cst_20
  fn_part6 (F := F) main_v113 main_v118 main_v120 main_v121

def fn_part4 {F : FTy → Type} [FloatOps F] (main_arg12 : FVec F S1x1024x4 .f32) (main_arg13 : FVec F S1x4 .f32) (main_arg14 : FVec F S1x1024x32 .f32) (main_arg15 : FVec F S1x32 .f32) (main_v77 : FVec F S65536x1024 .f32) (main_v78 : FVec F S1024 .f32) (main_v79 : FVec F S1024 .f32) (main_v81 : FVec F S65536x1 .f32) : IVec S65536x4 1 × IVec S65536x32 1 :=
  let main_cst_13 : FVec F S_ .f32 := constant S_ .f32 0x44800000#32
  let main_v82 : FVec F S65536x1 .f32 := broadcastInDim S65536x1 ![] bcast_S_S65536x1 main_cst_13
  let main_v83 : FVec F S65536x1 .f32 := Host.divf main_v81 main_v82
  let main_v84 : FVec F S65536x1024 .f32 := broadcastInDim S65536x1024 ![0, 1] bcast_S65536x1_S65536x1024_0_1 main_v83
  let main_v85 : FVec F S65536x1024 .f32 := subf main_v77 main_v84
  let main_v86 : FVec F S65536x1024 .f32 := mulf main_v85 main_v85
  let main_cst_14 : FVec F S_ .f32 := constant S_ .f32 0x00000000#32
  let main_v87 : FVec F S65536 .f32 := (fun x v => Host.reduceAdd x v reducesTo_S65536x1024_S65536_d1 h_S_) main_v86 main_cst_14
  let main_v88 : FVec F S65536x1 .f32 := broadcastInDim S65536x1 ![0] bcast_S65536_S65536x1_0 main_v87
  let main_cst_15 : FVec F S_ .f32 := constant S_ .f32 0x44800000#32
  let main_v89 : FVec F S65536x1 .f32 := broadcastInDim S65536x1 ![] bcast_S_S65536x1 main_cst_15
  let main_v90 : FVec F S65536x1 .f32 := Host.divf main_v88 main_v89
  let main_cst_16 : FVec F S_ .f32 := constant S_ .f32 0x3727C5AC#32
  let main_v91 : FVec F S65536x1 .f32 := broadcastInDim S65536x1 ![] bcast_S_S65536x1 main_cst_16
  let main_v92 : FVec F S65536x1 .f32 := addf main_v90 main_v91
  let main_v93 : FVec F S65536x1 .f32 := Host.rsqrt main_v92
  let main_v94 : FVec F S65536x1024 .f32 := broadcastInDim S65536x1024 ![0, 1] bcast_S65536x1_S65536x1024_0_1 main_v93
  let main_v95 : FVec F S65536x1024 .f32 := mulf main_v85 main_v94
  let main_v96 : FVec F S1x1024 .f32 := broadcastInDim S1x1024 ![1] bcast_S1024_S1x1024_1 main_v78
  let main_v97 : FVec F S65536x1024 .f32 := broadcastInDim S65536x1024 ![0, 1] bcast_S1x1024_S65536x1024_0_1 main_v96
  let main_v98 : FVec F S65536x1024 .f32 := mulf main_v95 main_v97
  let main_v99 : FVec F S1x1024 .f32 := broadcastInDim S1x1024 ![1] bcast_S1024_S1x1024_1 main_v79
  let main_v100 : FVec F S65536x1024 .f32 := broadcastInDim S65536x1024 ![0, 1] bcast_S1x1024_S65536x1024_0_1 main_v99
  let main_v101 : FVec F S65536x1024 .f32 := addf main_v98 main_v100
  fn_part5 (F := F) main_arg12 main_arg13 main_arg14 main_arg15 main_v101

def fn_part3 {F : FTy → Type} [FloatOps F] (main_arg4 : FVec F S1024 .f32) (main_arg5 : FVec F S1024 .f32) (main_arg9 : FVec F S1x1024x1024 .f32) (main_arg10 : FVec F S1x1024 .f32) (main_arg11 : FVec F S1x1024 .f32) (main_arg12 : FVec F S1x1024x4 .f32) (main_arg13 : FVec F S1x4 .f32) (main_arg14 : FVec F S1x1024x32 .f32) (main_arg15 : FVec F S1x32 .f32) (main_v49 : FVec F S65536x1024 .f32) (main_v55 : FVec F S8x8192x1024 .f32) (main_v60 : FVec F S8x8192x1 .f32) : IVec S65536x4 1 × IVec S65536x32 1 :=
  let main_cst_10 : FVec F S_ .f32 := constant S_ .f32 0x3727C5AC#32
  let main_v61 : FVec F S8x8192x1 .f32 := broadcastInDim S8x8192x1 ![] bcast_S_S8x8192x1 main_cst_10
  let main_v62 : FVec F S8x8192x1 .f32 := addf main_v60 main_v61
  let main_v63 : FVec F S8x8192x1 .f32 := Host.rsqrt main_v62
  let main_v64 : FVec F S8x8192x1024 .f32 := broadcastInDim S8x8192x1024 ![0, 1, 2] bcast_S8x8192x1_S8x8192x1024_0_1_2 main_v63
  let main_v65 : FVec F S8x8192x1024 .f32 := mulf main_v55 main_v64
  let main_v66 : FVec F S1x1x1024 .f32 := broadcastInDim S1x1x1024 ![2] bcast_S1024_S1x1x1024_2 main_arg4
  let main_v67 : FVec F S8x8192x1024 .f32 := broadcastInDim S8x8192x1024 ![0, 1, 2] bcast_S1x1x1024_S8x8192x1024_0_1_2 main_v66
  let main_v68 : FVec F S8x8192x1024 .f32 := mulf main_v65 main_v67
  let main_v69 : FVec F S1x1x1024 .f32 := broadcastInDim S1x1x1024 ![2] bcast_S1024_S1x1x1024_2 main_arg5
  let main_v70 : FVec F S8x8192x1024 .f32 := broadcastInDim S8x8192x1024 ![0, 1, 2] bcast_S1x1x1024_S8x8192x1024_0_1_2 main_v69
  let main_v71 : FVec F S8x8192x1024 .f32 := addf main_v68 main_v70
  let main_v72 : FVec F S65536x1024 .f32 := shapeCast S65536x1024 main_v71 shapeCasts_S8x8192x1024_S65536x1024
  let main_cst_11 : FVec F S_ .f32 := constant S_ .f32 0x3F9837F0#32
  let main_v73 : FVec F S65536x1024 .f32 := broadcastInDim S65536x1024 ![] bcast_S_S65536x1024 main_cst_11
  let main_v74 : FVec F S65536x1024 .f32 := mulf main_v73 main_v72
  let main_v75 : FVec F S1024x1024 .f32 := shapeCast S1024x1024 main_arg9 shapeCasts_S1x1024x1024_S1024x1024
  let main_v76 : FVec F S65536x1024 .f32 := (fun l r => Host.dotGeneral dot_S65536x1024_S1024x1024_S65536x1024_1_0_0_1_n_n none l r) main_v49 main_v75
  let main_v77 : FVec F S65536x1024 .f32 := addf main_v74 main_v76
  let main_v78 : FVec F S1024 .f32 := shapeCast S1024 main_arg10 shapeCasts_S1x1024_S1024
  let main_v79 : FVec F S1024 .f32 := shapeCast S1024 main_arg11 shapeCasts_S1x1024_S1024
  let main_cst_12 : FVec F S_ .f32 := constant S_ .f32 0x00000000#32
  let main_v80 : FVec F S65536 .f32 := (fun x v => Host.reduceAdd x v reducesTo_S65536x1024_S65536_d1 h_S_) main_v77 main_cst_12
  let main_v81 : FVec F S65536x1 .f32 := broadcastInDim S65536x1 ![0] bcast_S65536_S65536x1_0 main_v80
  fn_part4 (F := F) main_arg12 main_arg13 main_arg14 main_arg15 main_v77 main_v78 main_v79 main_v81

def fn_part2 {F : FTy → Type} [FloatOps F] (main_arg3 : FVec F S8x8192x1024 .f32) (main_arg4 : FVec F S1024 .f32) (main_arg5 : FVec F S1024 .f32) (main_arg8 : FVec F S1x512x1024 .f32) (main_arg9 : FVec F S1x1024x1024 .f32) (main_arg10 : FVec F S1x1024 .f32) (main_arg11 : FVec F S1x1024 .f32) (main_arg12 : FVec F S1x1024x4 .f32) (main_arg13 : FVec F S1x4 .f32) (main_arg14 : FVec F S1x1024x32 .f32) (main_arg15 : FVec F S1x32 .f32) (main_v29 : FVec F S65536x512 .f32) (main_v39 : FVec F S65536x1024 .f32) (main_v41 : FVec F S65536x1024 .f32) (main_cst_4 : FVec F S_ .f32) : IVec S65536x4 1 × IVec S65536x32 1 :=
  let main_v42 : FVec F S65536x1024 .f32 := broadcastInDim S65536x1024 ![] bcast_S_S65536x1024 main_cst_4
  let main_v43 : FVec F S65536x1024 .f32 := addf main_v42 main_v41
  let main_cst_5 : FVec F S_ .f32 := constant S_ .f32 0x3F800000#32
  let main_v44 : FVec F S65536x1024 .f32 := broadcastInDim S65536x1024 ![] bcast_S_S65536x1024 main_cst_5
  let main_v45 : FVec F S65536x1024 .f32 := Host.divf main_v44 main_v43
  let main_v46 : FVec F S512x1024 .f32 := shapeCast S512x1024 main_arg8 shapeCasts_S1x512x1024_S512x1024
  let main_v47 : FVec F S65536x1024 .f32 := (fun l r => Host.dotGeneral dot_S65536x512_S512x1024_S65536x1024_1_0_0_1_n_n none l r) main_v29 main_v46
  let main_v48 : FVec F S65536x1024 .f32 := mulf main_v45 main_v47
  let main_v49 : FVec F S65536x1024 .f32 := addf main_v39 main_v48
  let main_cst_6 : FVec F S_ .f32 := constant S_ .f32 0x00000000#32
  let main_v50 : FVec F S8x8192 .f32 := (fun x v => Host.reduceAdd x v reducesTo_S8x8192x1024_S8x8192_d2 h_S_) main_arg3 main_cst_6
  let main_v51 : FVec F S8x8192x1 .f32 := broadcastInDim S8x8192x1 ![0, 1] bcast_S8x8192_S8x8192x1_0_1 main_v50
  let main_cst_7 : FVec F S_ .f32 := constant S_ .f32 0x44800000#32
  let main_v52 : FVec F S8x8192x1 .f32 := broadcastInDim S8x8192x1 ![] bcast_S_S8x8192x1 main_cst_7
  let main_v53 : FVec F S8x8192x1 .f32 := Host.divf main_v51 main_v52
  let main_v54 : FVec F S8x8192x1024 .f32 := broadcastInDim S8x8192x1024 ![0, 1, 2] bcast_S8x8192x1_S8x8192x1024_0_1_2 main_v53
  let main_v55 : FVec F S8x8192x1024 .f32 := subf main_arg3 main_v54
  let main_v56 : FVec F S8x8192x1024 .f32 := mulf main_v55 main_v55
  let main_cst_8 : FVec F S_ .f32 := constant S_ .f32 0x00000000#32
  let main_v57 : FVec F S8x8192 .f32 := (fun x v => Host.reduceAdd x v reducesTo_S8x8192x1024_S8x8192_d2 h_S_) main_v56 main_cst_8
  let main_v58 : FVec F S8x8192x1 .f32 := broadcastInDim S8x8192x1 ![0, 1] bcast_S8x8192_S8x8192x1_0_1 main_v57
  let main_cst_9 : FVec F S_ .f32 := constant S_ .f32 0x44800000#32
  let main_v59 : FVec F S8x8192x1 .f32 := broadcastInDim S8x8192x1 ![] bcast_S_S8x8192x1 main_cst_9
  let main_v60 : FVec F S8x8192x1 .f32 := Host.divf main_v58 main_v59
  fn_part3 (F := F) main_arg4 main_arg5 main_arg9 main_arg10 main_arg11 main_arg12 main_arg13 main_arg14 main_arg15 main_v49 main_v55 main_v60

def fn_part1 {F : FTy → Type} [FloatOps F] (main_arg0 : FVec F S65536x512 .bf16) (main_arg3 : FVec F S8x8192x1024 .f32) (main_arg4 : FVec F S1024 .f32) (main_arg5 : FVec F S1024 .f32) (main_arg6 : FVec F S1x512 .f32) (main_arg7 : FVec F S1x512x1024 .f32) (main_arg8 : FVec F S1x512x1024 .f32) (main_arg9 : FVec F S1x1024x1024 .f32) (main_arg10 : FVec F S1x1024 .f32) (main_arg11 : FVec F S1x1024 .f32) (main_arg12 : FVec F S1x1024x4 .f32) (main_arg13 : FVec F S1x4 .f32) (main_arg14 : FVec F S1x1024x32 .f32) (main_arg15 : FVec F S1x32 .f32) (main_v2 : FVec F S65536x512 .f32) (main_v3 : FVec F S65536x1024 .f32) (main_v4 : FVec F S65536x1024 .f32) (main_v20 : FVec F S65536x4x128 .f32) : IVec S65536x4 1 × IVec S65536x32 1 :=
  let main_v21 : FVec F S512 .f32 := shapeCast S512 main_arg6 shapeCasts_S1x512_S512
  let main_v22 : FVec F S4x128 .f32 := shapeCast S4x128 main_v21 shapeCasts_S512_S4x128
  let main_v23 : FVec F S1x4x128 .f32 := broadcastInDim S1x4x128 ![1, 2] bcast_S4x128_S1x4x128_1_2 main_v22
  let main_v24 : FVec F S65536x4x128 .f32 := broadcastInDim S65536x4x128 ![0, 1, 2] bcast_S1x4x128_S65536x4x128_0_1_2 main_v23
  let main_v25 : FVec F S65536x4x128 .f32 := mulf main_v20 main_v24
  let main_v26 : FVec F S65536x4x128 .f32 := shapeCast S65536x4x128 main_v2 shapeCasts_S65536x512_S65536x4x128
  let main_v27 : FVec F S65536x4x128 .f32 := fn_silu (F := F) main_v26
  let main_v28 : FVec F S65536x4x128 .f32 := mulf main_v25 main_v27
  let main_v29 : FVec F S65536x512 .f32 := shapeCast S65536x512 main_v28 shapeCasts_S65536x4x128_S65536x512
  let main_v30 : FVec F S65536x1024 .f32 := Host.negf main_v3
  let main_v31 : FVec F S65536x1024 .f32 := Host.exp main_v30
  let main_cst_2 : FVec F S_ .f32 := constant S_ .f32 0x3F800000#32
  let main_v32 : FVec F S65536x1024 .f32 := broadcastInDim S65536x1024 ![] bcast_S_S65536x1024 main_cst_2
  let main_v33 : FVec F S65536x1024 .f32 := addf main_v32 main_v31
  let main_cst_3 : FVec F S_ .f32 := constant S_ .f32 0x3F800000#32
  let main_v34 : FVec F S65536x1024 .f32 := broadcastInDim S65536x1024 ![] bcast_S_S65536x1024 main_cst_3
  let main_v35 : FVec F S65536x1024 .f32 := Host.divf main_v34 main_v33
  let main_v36 : FVec F S65536x512 .f32 := (extf .f32 · bitsLt_bf16_f32) main_arg0
  let main_v37 : FVec F S512x1024 .f32 := shapeCast S512x1024 main_arg7 shapeCasts_S1x512x1024_S512x1024
  let main_v38 : FVec F S65536x1024 .f32 := (fun l r => Host.dotGeneral dot_S65536x512_S512x1024_S65536x1024_1_0_0_1_n_n none l r) main_v36 main_v37
  let main_v39 : FVec F S65536x1024 .f32 := mulf main_v35 main_v38
  let main_v40 : FVec F S65536x1024 .f32 := Host.negf main_v4
  let main_v41 : FVec F S65536x1024 .f32 := Host.exp main_v40
  let main_cst_4 : FVec F S_ .f32 := constant S_ .f32 0x3F800000#32
  fn_part2 (F := F) main_arg3 main_arg4 main_arg5 main_arg8 main_arg9 main_arg10 main_arg11 main_arg12 main_arg13 main_arg14 main_arg15 main_v29 main_v39 main_v41 main_cst_4

def fn {F : FTy → Type} [FloatOps F] (main_arg0 : FVec F S65536x512 .bf16) (main_arg1 : FVec F S2x65536x512 .f32) (main_arg2 : FVec F S65536x3072 .bf16) (main_arg3 : FVec F S8x8192x1024 .f32) (main_arg4 : FVec F S1024 .f32) (main_arg5 : FVec F S1024 .f32) (main_arg6 : FVec F S1x512 .f32) (main_arg7 : FVec F S1x512x1024 .f32) (main_arg8 : FVec F S1x512x1024 .f32) (main_arg9 : FVec F S1x1024x1024 .f32) (main_arg10 : FVec F S1x1024 .f32) (main_arg11 : FVec F S1x1024 .f32) (main_arg12 : FVec F S1x1024x4 .f32) (main_arg13 : FVec F S1x4 .f32) (main_arg14 : FVec F S1x1024x32 .f32) (main_arg15 : FVec F S1x32 .f32) : IVec S65536x4 1 × IVec S65536x32 1 :=
  let main_v0 : FVec F S65536x3072 .f32 := (extf .f32 · bitsLt_bf16_f32) main_arg2
  let main_v1 : FVec F S65536x512 .f32 := (extractStridedSlice S65536x512 ![0, 0] · slices_S65536x3072_S65536x512_0_0) main_v0
  let main_v2 : FVec F S65536x512 .f32 := (extractStridedSlice S65536x512 ![0, 512] · slices_S65536x3072_S65536x512_0_512) main_v0
  let main_v3 : FVec F S65536x1024 .f32 := (extractStridedSlice S65536x1024 ![0, 1024] · slices_S65536x3072_S65536x1024_0_1024) main_v0
  let main_v4 : FVec F S65536x1024 .f32 := (extractStridedSlice S65536x1024 ![0, 2048] · slices_S65536x3072_S65536x1024_0_2048) main_v0
  let main_v5 : FVec F S1x65536x512 .f32 := (extractStridedSlice S1x65536x512 ![0, 0, 0] · slices_S2x65536x512_S1x65536x512_0_0_0) main_arg1
  let main_v6 : FVec F S65536x512 .f32 := shapeCast S65536x512 main_v5 shapeCasts_S1x65536x512_S65536x512
  let main_v7 : FVec F S1x65536x512 .f32 := (extractStridedSlice S1x65536x512 ![1, 0, 0] · slices_S2x65536x512_S1x65536x512_1_0_0) main_arg1
  let main_v8 : FVec F S65536x512 .f32 := shapeCast S65536x512 main_v7 shapeCasts_S1x65536x512_S65536x512
  let main_v9 : FVec F S65536x512 .f32 := addf main_v6 main_v8
  let main_v10 : FVec F S65536x4x128 .f32 := shapeCast S65536x4x128 main_v9 shapeCasts_S65536x512_S65536x4x128
  let main_v11 : FVec F S65536x4x128 .f32 := mulf main_v10 main_v10
  let main_cst : FVec F S_ .f32 := constant S_ .f32 0x00000000#32
  let main_v12 : FVec F S65536x4 .f32 := (fun x v => Host.reduceAdd x v reducesTo_S65536x4x128_S65536x4_d2 h_S_) main_v11 main_cst
  let main_v13 : FVec F S65536x4x1 .f32 := broadcastInDim S65536x4x1 ![0, 1] bcast_S65536x4_S65536x4x1_0_1 main_v12
  let main_cst_0 : FVec F S_ .f32 := constant S_ .f32 0x43000000#32
  let main_v14 : FVec F S65536x4x1 .f32 := broadcastInDim S65536x4x1 ![] bcast_S_S65536x4x1 main_cst_0
  let main_v15 : FVec F S65536x4x1 .f32 := Host.divf main_v13 main_v14
  let main_cst_1 : FVec F S_ .f32 := constant S_ .f32 0x358637BD#32
  let main_v16 : FVec F S65536x4x1 .f32 := broadcastInDim S65536x4x1 ![] bcast_S_S65536x4x1 main_cst_1
  let main_v17 : FVec F S65536x4x1 .f32 := addf main_v15 main_v16
  let main_v18 : FVec F S65536x4x1 .f32 := Host.rsqrt main_v17
  let main_v19 : FVec F S65536x4x128 .f32 := broadcastInDim S65536x4x128 ![0, 1, 2] bcast_S65536x4x1_S65536x4x128_0_1_2 main_v18
  let main_v20 : FVec F S65536x4x128 .f32 := mulf main_v10 main_v19
  fn_part1 (F := F) main_arg0 main_arg3 main_arg4 main_arg5 main_arg6 main_arg7 main_arg8 main_arg9 main_arg10 main_arg11 main_arg12 main_arg13 main_arg14 main_arg15 main_v2 main_v3 main_v4 main_v20
-- ==== Pre_finite_scores.lean ====
abbrev S8x8192x1536 : Shape := ⟨3, ![8, 8192, 1536]⟩
abbrev S8x15x31 : Shape := ⟨3, ![8, 15, 31]⟩
abbrev S8x8192x1024 : Shape := ⟨3, ![8, 8192, 1024]⟩
abbrev S_ : Shape := ⟨0, ![]⟩

class Facts : Prop where
  slices_S8x8192x1536_S8x8192x1024_0_0_0 : S8x8192x1536.Slices ![0, 0, 0] S8x8192x1024
  bitsLt_bf16_f32 : FTy.bits .bf16 < FTy.bits .f32
  bcast_S_S8x8192x1024 : S_.BroadcastsInDim S8x8192x1024 (![] : Fin 0 → Fin S8x8192x1024.rank)
  bcast_S_S8x15x31 : S_.BroadcastsInDim S8x15x31 (![] : Fin 0 → Fin S8x15x31.rank)

variable [Facts]

def fn {F : FTy → Type} [FloatOps F] (main_arg0 : FVec F S8x8192x1536 .bf16) (main_arg1 : FVec F S8x15x31 .f32) : IVec S8x8192x1024 1 × IVec S8x15x31 1 :=
  let main_v0 : FVec F S8x8192x1024 .bf16 := (extractStridedSlice S8x8192x1024 ![0, 0, 0] · slices_S8x8192x1536_S8x8192x1024_0_0_0) main_arg0
  let main_v1 : FVec F S8x8192x1024 .f32 := (extf .f32 · bitsLt_bf16_f32) main_v0
  let main_cst : FVec F S_ .f32 := constant S_ .f32 0xFF800000#32
  let main_v2 : FVec F S8x8192x1024 .f32 := broadcastInDim S8x8192x1024 ![] bcast_S_S8x8192x1024 main_cst
  let main_v3 : IVec S8x8192x1024 1 := cmpf .ogt main_v1 main_v2
  let main_cst_0 : FVec F S_ .f32 := constant S_ .f32 0x7F800000#32
  let main_v4 : FVec F S8x8192x1024 .f32 := broadcastInDim S8x8192x1024 ![] bcast_S_S8x8192x1024 main_cst_0
  let main_v5 : IVec S8x8192x1024 1 := cmpf .olt main_v1 main_v4
  let main_v6 : IVec S8x8192x1024 1 := andi main_v3 main_v5
  let main_cst_1 : FVec F S_ .f32 := constant S_ .f32 0xFF800000#32
  let main_v7 : FVec F S8x15x31 .f32 := broadcastInDim S8x15x31 ![] bcast_S_S8x15x31 main_cst_1
  let main_v8 : IVec S8x15x31 1 := cmpf .ogt main_arg1 main_v7
  let main_cst_2 : FVec F S_ .f32 := constant S_ .f32 0x7F800000#32
  let main_v9 : FVec F S8x15x31 .f32 := broadcastInDim S8x15x31 ![] bcast_S_S8x15x31 main_cst_2
  let main_v10 : IVec S8x15x31 1 := cmpf .olt main_arg1 main_v9
  let main_v11 : IVec S8x15x31 1 := andi main_v8 main_v10
  (main_v6, main_v11)
-- ==== Kernel.lean ====
abbrev S8x8192x1536 : Shape := ⟨3, ![8, 8192, 1536]⟩
abbrev S8x15x31 : Shape := ⟨3, ![8, 15, 31]⟩
abbrev S256 : Shape := ⟨1, ![256]⟩
abbrev S768 : Shape := ⟨1, ![768]⟩
abbrev S_ : Shape := ⟨0, ![]⟩
abbrev S256x1 : Shape := ⟨2, ![256, 1]⟩
abbrev S1x768 : Shape := ⟨2, ![1, 768]⟩
abbrev S256x768 : Shape := ⟨2, ![256, 768]⟩
abbrev S1x256x768 : Shape := ⟨3, ![1, 256, 768]⟩
abbrev S3x256x768 : Shape := ⟨3, ![3, 256, 768]⟩
abbrev S3x256x768x1 : Shape := ⟨4, ![3, 256, 768, 1]⟩
abbrev S3x256x768x2 : Shape := ⟨4, ![3, 256, 768, 2]⟩
abbrev S8x3x256x768 : Shape := ⟨4, ![8, 3, 256, 768]⟩
abbrev S1x3x256x768 : Shape := ⟨4, ![1, 3, 256, 768]⟩
abbrev S3x8x256x768 : Shape := ⟨4, ![3, 8, 256, 768]⟩
abbrev S3x4x2x256x768 : Shape := ⟨5, ![3, 4, 2, 256, 768]⟩
abbrev S8x8192x512 : Shape := ⟨3, ![8, 8192, 512]⟩
abbrev S1x256x128 : Shape := ⟨3, ![1, 256, 128]⟩
abbrev S1x8192x128 : Shape := ⟨3, ![1, 8192, 128]⟩
abbrev S1x1x2x256x768 : Shape := ⟨5, ![1, 1, 2, 256, 768]⟩
abbrev S1x768x128 : Shape := ⟨3, ![1, 768, 128]⟩
abbrev S768x128 : Shape := ⟨2, ![768, 128]⟩
abbrev S256x128 : Shape := ⟨2, ![256, 128]⟩
abbrev S1x128 : Shape := ⟨2, ![1, 128]⟩
abbrev S1x1x1x256x768 : Shape := ⟨5, ![1, 1, 1, 256, 768]⟩

abbrev nBuf : Space → Nat
  | .hbm => 257
  | .vmem => 10
  | .smem => 0
  | _ => 0

abbrev hbmTy0_0 (i : Nat) : BufTy := match i % 128 with
  | 0 => ⟨S8x8192x1536, .bf16⟩
  | 1 => ⟨S8x15x31, .f32⟩
  | 2 => ⟨S256, .i32⟩
  | 3 => ⟨S768, .i32⟩
  | 4 => ⟨S_, .i32⟩
  | 5 => ⟨S256, .i32⟩
  | 6 => ⟨S256, .i32⟩
  | 7 => ⟨S256x1, .i32⟩
  | 8 => ⟨S_, .i32⟩
  | 9 => ⟨S768, .i32⟩
  | 10 => ⟨S768, .i32⟩
  | 11 => ⟨S1x768, .i32⟩
  | 12 => ⟨S_, .i32⟩
  | 13 => ⟨S256x1, .i32⟩
  | 14 => ⟨S256x1, .i32⟩
  | 15 => ⟨S_, .i32⟩
  | 16 => ⟨S_, .i32⟩
  | 17 => ⟨S_, .i32⟩
  | 18 => ⟨S256x1, .i32⟩
  | 19 => ⟨S256x1, .i32⟩
  | 20 => ⟨S_, .i32⟩
  | 21 => ⟨S256x1, .i32⟩
  | 22 => ⟨S256x1, .i32⟩
  | 23 => ⟨S256x768, .i32⟩
  | 24 => ⟨S256x768, .i32⟩
  | 25 => ⟨S256x768, .i1⟩
  | 26 => ⟨S_, .i32⟩
  | 27 => ⟨S256x1, .i32⟩
  | 28 => ⟨S256x1, .i32⟩
  | 29 => ⟨S256x768, .i32⟩
  | 30 => ⟨S256x768, .i32⟩
  | 31 => ⟨S256x768, .i1⟩
  | 32 => ⟨S256x768, .i1⟩
  | 33 => ⟨S256x768, .i32⟩
  | 34 => ⟨S256x768, .i32⟩
  | 35 => ⟨S256x768, .i32⟩
  | 36 => ⟨S_, .i32⟩
  | 37 => ⟨S256x768, .i32⟩
  | 38 => ⟨S256x768, .i32⟩
  | 39 => ⟨S_, .i32⟩
  | 40 => ⟨S256x768, .i32⟩
  | 41 => ⟨S256x768, .i32⟩
  | 42 => ⟨S_, .i32⟩
  | 43 => ⟨S_, .i32⟩
  | 44 => ⟨S_, .i32⟩
  | 45 => ⟨S256x768, .i32⟩
  | 46 => ⟨S256x768, .i32⟩
  | 47 => ⟨S_, .i32⟩
  | 48 => ⟨S256x768, .i32⟩
  | 49 => ⟨S256x768, .i32⟩
  | 50 => ⟨S_, .i32⟩
  | 51 => ⟨S256, .i32⟩
  | 52 => ⟨S256, .i32⟩
  | 53 => ⟨S_, .i32⟩
  | 54 => ⟨S256, .i32⟩
  | 55 => ⟨S256, .i32⟩
  | 56 => ⟨S256x1, .i32⟩
  | 57 => ⟨S_, .i32⟩
  | 58 => ⟨S768, .i32⟩
  | 59 => ⟨S768, .i32⟩
  | 60 => ⟨S_, .i32⟩
  | 61 => ⟨S768, .i32⟩
  | 62 => ⟨S768, .i32⟩
  | 63 => ⟨S1x768, .i32⟩
  | 64 => ⟨S_, .i32⟩
  | 65 => ⟨S256x1, .i32⟩
  | 66 => ⟨S256x1, .i32⟩
  | 67 => ⟨S_, .i32⟩
  | 68 => ⟨S_, .i32⟩
  | 69 => ⟨S_, .i32⟩
  | 70 => ⟨S256x1, .i32⟩
  | 71 => ⟨S256x1, .i32⟩
  | 72 => ⟨S_, .i32⟩
  | 73 => ⟨S256x1, .i32⟩
  | 74 => ⟨S256x1, .i32⟩
  | 75 => ⟨S256x768, .i32⟩
  | 76 => ⟨S256x768, .i32⟩
  | 77 => ⟨S256x768, .i1⟩
  | 78 => ⟨S_, .i32⟩
  | 79 => ⟨S256x1, .i32⟩
  | 80 => ⟨S256x1, .i32⟩
  | 81 => ⟨S256x768, .i32⟩
  | 82 => ⟨S256x768, .i32⟩
  | 83 => ⟨S256x768, .i1⟩
  | 84 => ⟨S256x768, .i1⟩
  | 85 => ⟨S256x768, .i32⟩
  | 86 => ⟨S256x768, .i32⟩
  | 87 => ⟨S256x768, .i32⟩
  | 88 => ⟨S_, .i32⟩
  | 89 => ⟨S256x768, .i32⟩
  | 90 => ⟨S256x768, .i32⟩
  | 91 => ⟨S_, .i32⟩
  | 92 => ⟨S256x768, .i32⟩
  | 93 => ⟨S256x768, .i32⟩
  | 94 => ⟨S_, .i32⟩
  | 95 => ⟨S_, .i32⟩
  | 96 => ⟨S_, .i32⟩
  | 97 => ⟨S256x768, .i32⟩
  | 98 => ⟨S256x768, .i32⟩
  | 99 => ⟨S_, .i32⟩
  | 100 => ⟨S256x768, .i32⟩
  | 101 => ⟨S256x768, .i32⟩
  | 102 => ⟨S_, .i32⟩
  | 103 => ⟨S256x768, .i32⟩
  | 104 => ⟨S256x768, .i32⟩
  | 105 => ⟨S256x768, .i32⟩
  | 106 => ⟨S256x768, .i1⟩
  | 107 => ⟨S_, .i32⟩
  | 108 => ⟨S256, .i32⟩
  | 109 => ⟨S256, .i32⟩
  | 110 => ⟨S_, .i32⟩
  | 111 => ⟨S256, .i32⟩
  | 112 => ⟨S256, .i32⟩
  | 113 => ⟨S256x1, .i32⟩
  | 114 => ⟨S_, .i32⟩
  | 115 => ⟨S768, .i32⟩
  | 116 => ⟨S768, .i32⟩
  | 117 => ⟨S_, .i32⟩
  | 118 => ⟨S768, .i32⟩
  | 119 => ⟨S768, .i32⟩
  | 120 => ⟨S1x768, .i32⟩
  | 121 => ⟨S_, .i32⟩
  | 122 => ⟨S256x1, .i32⟩
  | 123 => ⟨S256x1, .i32⟩
  | 124 => ⟨S_, .i32⟩
  | 125 => ⟨S_, .i32⟩
  | 126 => ⟨S_, .i32⟩
  | 127 => ⟨S256x1, .i32⟩
  | _ => ⟨S8x8192x1536, .bf16⟩

abbrev hbmTy0_1 (i : Nat) : BufTy := match i % 128 with
  | 0 => ⟨S256x1, .i32⟩
  | 1 => ⟨S_, .i32⟩
  | 2 => ⟨S256x1, .i32⟩
  | 3 => ⟨S256x1, .i32⟩
  | 4 => ⟨S256x768, .i32⟩
  | 5 => ⟨S256x768, .i32⟩
  | 6 => ⟨S256x768, .i1⟩
  | 7 => ⟨S_, .i32⟩
  | 8 => ⟨S256x1, .i32⟩
  | 9 => ⟨S256x1, .i32⟩
  | 10 => ⟨S256x768, .i32⟩
  | 11 => ⟨S256x768, .i32⟩
  | 12 => ⟨S256x768, .i1⟩
  | 13 => ⟨S256x768, .i1⟩
  | 14 => ⟨S256x768, .i32⟩
  | 15 => ⟨S256x768, .i32⟩
  | 16 => ⟨S256x768, .i32⟩
  | 17 => ⟨S_, .i32⟩
  | 18 => ⟨S256x768, .i32⟩
  | 19 => ⟨S256x768, .i32⟩
  | 20 => ⟨S_, .i32⟩
  | 21 => ⟨S256x768, .i32⟩
  | 22 => ⟨S256x768, .i32⟩
  | 23 => ⟨S_, .i32⟩
  | 24 => ⟨S_, .i32⟩
  | 25 => ⟨S_, .i32⟩
  | 26 => ⟨S256x768, .i32⟩
  | 27 => ⟨S256x768, .i32⟩
  | 28 => ⟨S_, .i32⟩
  | 29 => ⟨S256x768, .i32⟩
  | 30 => ⟨S256x768, .i32⟩
  | 31 => ⟨S_, .i32⟩
  | 32 => ⟨S256x768, .i32⟩
  | 33 => ⟨S256x768, .i32⟩
  | 34 => ⟨S256x768, .i32⟩
  | 35 => ⟨S256x768, .i1⟩
  | 36 => ⟨S_, .i32⟩
  | 37 => ⟨S256, .i32⟩
  | 38 => ⟨S256, .i32⟩
  | 39 => ⟨S_, .i32⟩
  | 40 => ⟨S256, .i32⟩
  | 41 => ⟨S256, .i32⟩
  | 42 => ⟨S256x1, .i32⟩
  | 43 => ⟨S_, .i32⟩
  | 44 => ⟨S768, .i32⟩
  | 45 => ⟨S768, .i32⟩
  | 46 => ⟨S_, .i32⟩
  | 47 => ⟨S768, .i32⟩
  | 48 => ⟨S768, .i32⟩
  | 49 => ⟨S1x768, .i32⟩
  | 50 => ⟨S_, .i32⟩
  | 51 => ⟨S256x1, .i32⟩
  | 52 => ⟨S256x1, .i32⟩
  | 53 => ⟨S_, .i32⟩
  | 54 => ⟨S_, .i32⟩
  | 55 => ⟨S_, .i32⟩
  | 56 => ⟨S256x1, .i32⟩
  | 57 => ⟨S256x1, .i32⟩
  | 58 => ⟨S_, .i32⟩
  | 59 => ⟨S256x1, .i32⟩
  | 60 => ⟨S256x1, .i32⟩
  | 61 => ⟨S256x768, .i32⟩
  | 62 => ⟨S256x768, .i32⟩
  | 63 => ⟨S256x768, .i1⟩
  | 64 => ⟨S_, .i32⟩
  | 65 => ⟨S256x1, .i32⟩
  | 66 => ⟨S256x1, .i32⟩
  | 67 => ⟨S256x768, .i32⟩
  | 68 => ⟨S256x768, .i32⟩
  | 69 => ⟨S256x768, .i1⟩
  | 70 => ⟨S256x768, .i1⟩
  | 71 => ⟨S256x768, .i32⟩
  | 72 => ⟨S256x768, .i32⟩
  | 73 => ⟨S256x768, .i32⟩
  | 74 => ⟨S_, .i32⟩
  | 75 => ⟨S256x768, .i32⟩
  | 76 => ⟨S256x768, .i32⟩
  | 77 => ⟨S_, .i32⟩
  | 78 => ⟨S256x768, .i32⟩
  | 79 => ⟨S256x768, .i32⟩
  | 80 => ⟨S_, .i32⟩
  | 81 => ⟨S_, .i32⟩
  | 82 => ⟨S_, .i32⟩
  | 83 => ⟨S256x768, .i32⟩
  | 84 => ⟨S256x768, .i32⟩
  | 85 => ⟨S_, .i32⟩
  | 86 => ⟨S256x768, .i32⟩
  | 87 => ⟨S256x768, .i32⟩
  | 88 => ⟨S_, .i32⟩
  | 89 => ⟨S256x768, .i32⟩
  | 90 => ⟨S256x768, .i32⟩
  | 91 => ⟨S256x768, .i32⟩
  | 92 => ⟨S256x768, .i1⟩
  | 93 => ⟨S1x256x768, .i32⟩
  | 94 => ⟨S1x256x768, .i32⟩
  | 95 => ⟨S1x256x768, .i32⟩
  | 96 => ⟨S3x256x768, .i32⟩
  | 97 => ⟨S1x256x768, .i1⟩
  | 98 => ⟨S1x256x768, .i1⟩
  | 99 => ⟨S1x256x768, .i1⟩
  | 100 => ⟨S3x256x768, .i1⟩
  | 101 => ⟨S3x256x768, .i32⟩
  | 102 => ⟨S_, .i32⟩
  | 103 => ⟨S3x256x768, .i32⟩
  | 104 => ⟨S3x256x768, .i1⟩
  | 105 => ⟨S_, .i32⟩
  | 106 => ⟨S3x256x768, .i32⟩
  | 107 => ⟨S3x256x768, .i32⟩
  | 108 => ⟨S3x256x768, .i32⟩
  | 109 => ⟨S_, .i32⟩
  | 110 => ⟨S3x256x768, .i32⟩
  | 111 => ⟨S3x256x768, .i1⟩
  | 112 => ⟨S_, .i32⟩
  | 113 => ⟨S3x256x768, .i32⟩
  | 114 => ⟨S3x256x768, .i32⟩
  | 115 => ⟨S3x256x768, .i32⟩
  | 116 => ⟨S3x256x768x1, .i32⟩
  | 117 => ⟨S3x256x768x1, .i32⟩
  | 118 => ⟨S3x256x768x2, .i32⟩
  | 119 => ⟨S8x3x256x768, .f32⟩
  | 120 => ⟨S1x3x256x768, .i1⟩
  | 121 => ⟨S_, .f32⟩
  | 122 => ⟨S_, .f32⟩
  | 123 => ⟨S8x3x256x768, .i1⟩
  | 124 => ⟨S8x3x256x768, .f32⟩
  | 125 => ⟨S8x3x256x768, .f32⟩
  | 126 => ⟨S3x8x256x768, .f32⟩
  | 127 => ⟨S3x4x2x256x768, .f32⟩
  | _ => ⟨S8x8192x1536, .bf16⟩

abbrev hbmTy0_2 (i : Nat) : BufTy := match i % 128 with
  | 0 => ⟨S8x8192x512, .bf16⟩
  | _ => ⟨S8x8192x1536, .bf16⟩

abbrev hbmTy (i : Nat) : BufTy := match i / 128 with
  | 0 => hbmTy0_0 i
  | 1 => hbmTy0_1 i
  | 2 => hbmTy0_2 i
  | _ => ⟨S8x8192x1536, .bf16⟩

abbrev bufTy : (tb : Table) → Fin (tcTables nBuf tb) → BufTy
  | .hbm, ⟨i, _⟩ => hbmTy i
  | .local _ .vmem, ⟨0, _⟩ => ⟨S1x256x128, .bf16⟩
  | .local _ .vmem, ⟨1, _⟩ => ⟨S1x256x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x1x2x256x768, .f32⟩
  | .local _ .vmem, ⟨7, _⟩ => ⟨S1x1x2x256x768, .f32⟩
  | .local _ .vmem, ⟨8, _⟩ => ⟨S1x256x128, .bf16⟩
  | .local _ .vmem, ⟨9, _⟩ => ⟨S1x256x128, .bf16⟩
  | _, _ => ⟨S8x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_c_3 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_c_7 : Ref sig .tc := ⟨.hbm, 42, rfl⟩
abbrev main_c_8 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v27 : Ref sig .tc := ⟨.hbm, 49, rfl⟩
abbrev main_c_9 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_c_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_13 : Ref sig .tc := ⟨.hbm, 64, rfl⟩
abbrev main_v38 : Ref sig .tc := ⟨.hbm, 65, rfl⟩
abbrev main_v39 : Ref sig .tc := ⟨.hbm, 66, rfl⟩
abbrev main_c_14 : Ref sig .tc := ⟨.hbm, 67, rfl⟩
abbrev main_c_15 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_16 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_17 : Ref sig .tc := ⟨.hbm, 88, rfl⟩
abbrev main_v53 : Ref sig .tc := ⟨.hbm, 89, rfl⟩
abbrev main_v54 : Ref sig .tc := ⟨.hbm, 90, rfl⟩
abbrev main_c_18 : Ref sig .tc := ⟨.hbm, 91, rfl⟩
abbrev main_v55 : Ref sig .tc := ⟨.hbm, 92, rfl⟩
abbrev main_v56 : Ref sig .tc := ⟨.hbm, 93, rfl⟩
abbrev main_c_19 : Ref sig .tc := ⟨.hbm, 94, rfl⟩
abbrev main_c_20 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v57 : Ref sig .tc := ⟨.hbm, 101, rfl⟩
abbrev main_c_21 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_22 : Ref sig .tc := ⟨.hbm, 107, rfl⟩
abbrev main_v62 : Ref sig .tc := ⟨.hbm, 108, rfl⟩
abbrev main_v63 : Ref sig .tc := ⟨.hbm, 109, rfl⟩
abbrev main_c_23 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_24 : Ref sig .tc := ⟨.hbm, 114, rfl⟩
abbrev main_v67 : Ref sig .tc := ⟨.hbm, 115, rfl⟩
abbrev main_v68 : Ref sig .tc := ⟨.hbm, 116, rfl⟩
abbrev main_c_25 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_c_26 : Ref sig .tc := ⟨.hbm, 121, rfl⟩
abbrev main_v72 : Ref sig .tc := ⟨.hbm, 122, rfl⟩
abbrev main_v73 : Ref sig .tc := ⟨.hbm, 123, rfl⟩
abbrev main_c_27 : Ref sig .tc := ⟨.hbm, 124, rfl⟩
abbrev main_c_28 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_call4_v3 : Ref sig .tc := ⟨.hbm, 129, rfl⟩
abbrev main_call4_v4 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_c_29 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_c_30 : Ref sig .tc := ⟨.hbm, 145, rfl⟩
abbrev main_v87 : Ref sig .tc := ⟨.hbm, 146, rfl⟩
abbrev main_v88 : Ref sig .tc := ⟨.hbm, 147, rfl⟩
abbrev main_c_31 : Ref sig .tc := ⟨.hbm, 148, rfl⟩
abbrev main_v89 : Ref sig .tc := ⟨.hbm, 149, rfl⟩
abbrev main_v90 : Ref sig .tc := ⟨.hbm, 150, rfl⟩
abbrev main_c_32 : Ref sig .tc := ⟨.hbm, 151, rfl⟩
abbrev main_c_33 : Ref sig .tc := ⟨.hbm, 152, rfl⟩
abbrev main_call5_v0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_v91 : Ref sig .tc := ⟨.hbm, 158, rfl⟩
abbrev main_c_34 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_c_35 : Ref sig .tc := ⟨.hbm, 164, rfl⟩
abbrev main_v96 : Ref sig .tc := ⟨.hbm, 165, rfl⟩
abbrev main_v97 : Ref sig .tc := ⟨.hbm, 166, rfl⟩
abbrev main_c_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_c_37 : Ref sig .tc := ⟨.hbm, 171, rfl⟩
abbrev main_v101 : Ref sig .tc := ⟨.hbm, 172, rfl⟩
abbrev main_v102 : Ref sig .tc := ⟨.hbm, 173, rfl⟩
abbrev main_c_38 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_c_39 : Ref sig .tc := ⟨.hbm, 178, rfl⟩
abbrev main_v106 : Ref sig .tc := ⟨.hbm, 179, rfl⟩
abbrev main_v107 : Ref sig .tc := ⟨.hbm, 180, rfl⟩
abbrev main_c_40 : Ref sig .tc := ⟨.hbm, 181, rfl⟩
abbrev main_c_41 : Ref sig .tc := ⟨.hbm, 182, rfl⟩
abbrev main_call6_v0 : Ref sig .tc := ⟨.hbm, 183, rfl⟩
abbrev main_call6_v1 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_c_42 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_c_43 : Ref sig .tc := ⟨.hbm, 202, rfl⟩
abbrev main_v121 : Ref sig .tc := ⟨.hbm, 203, rfl⟩
abbrev main_v122 : Ref sig .tc := ⟨.hbm, 204, rfl⟩
abbrev main_c_44 : Ref sig .tc := ⟨.hbm, 205, rfl⟩
abbrev main_v123 : Ref sig .tc := ⟨.hbm, 206, rfl⟩
abbrev main_v124 : Ref sig .tc := ⟨.hbm, 207, rfl⟩
abbrev main_c_45 : Ref sig .tc := ⟨.hbm, 208, rfl⟩
abbrev main_c_46 : Ref sig .tc := ⟨.hbm, 209, rfl⟩
abbrev main_call7_v0 : Ref sig .tc := ⟨.hbm, 210, rfl⟩
abbrev main_call7_v1 : Ref sig .tc := ⟨.hbm, 211, rfl⟩
abbrev main_call7_v2 : Ref sig .tc := ⟨.hbm, 212, rfl⟩
abbrev main_call7_v3 : Ref sig .tc := ⟨.hbm, 213, rfl⟩
abbrev main_call7_v4 : Ref sig .tc := ⟨.hbm, 214, rfl⟩
abbrev main_v125 : Ref sig .tc := ⟨.hbm, 215, rfl⟩
abbrev main_c_47 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_c_48 : Ref sig .tc := ⟨.hbm, 230, rfl⟩
abbrev main_v139 : Ref sig .tc := ⟨.hbm, 231, rfl⟩
abbrev main_v140 : Ref sig .tc := ⟨.hbm, 232, rfl⟩
abbrev main_c_49 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_c_50 : Ref sig .tc := ⟨.hbm, 237, rfl⟩
abbrev main_v144 : Ref sig .tc := ⟨.hbm, 238, rfl⟩
abbrev main_v145 : Ref sig .tc := ⟨.hbm, 239, rfl⟩
abbrev main_c_51 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_cst : Ref sig .tc := ⟨.hbm, 249, rfl⟩
abbrev main_call8_v0 : Ref sig .tc := ⟨.hbm, 250, rfl⟩
abbrev main_call8_v1 : Ref sig .tc := ⟨.hbm, 251, rfl⟩
abbrev main_call8_v2 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 32], ![false, false, false]⟩

def k0_mult1 (i : grid0.Coords) : BitVec 32 :=
  let c116_i32 : BitVec 32 := 116#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  v4
def k0_off1 (i : grid0.Coords) : Fin 3 → Nat :=
  let c0 : Index := 0#32
  let c116_i32 : BitVec 32 := 116#32
  let c0_i32 : BitVec 32 := 0#32
  let arg2 : BitVec 32 := BitVec.ofNat 32 (i 2).val
  let c4_i32 : BitVec 32 := 4#32
  let v0 : BitVec 32 := Scalar.muli arg2 c4_i32
  let c4_i32_0 : BitVec 32 := 4#32
  let v1 : BitVec 32 := Scalar.subi v0 c4_i32_0
  let v2 : BitVec 32 := Scalar.maxsi c0_i32 v1
  let v3 : BitVec 32 := Scalar.minsi c116_i32 v2
  let c64_i32 : BitVec 32 := 64#32
  let v4 : BitVec 32 := Scalar.muli v3 c64_i32
  let v5 : BitVec 32 := v4
  let v6 : Index := Scalar.indexCast v5
  let c0_1 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c31_i32 : BitVec 32 := 31#32
  let v1 : BitVec 1 := Scalar.cmpi .eq arg2 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, arg1.toNat, c0_i32_1.toNat, c0_i32_2.toNat, c0_i32_3.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x8192x1536 : Shape := ⟨3, ![8, 8192, 1536]⟩
abbrev S8x15x31 : Shape := ⟨3, ![8, 15, 31]⟩
abbrev S8x8192x512 : Shape := ⟨3, ![8, 8192, 512]⟩
abbrev S8x8192x8x64 : Shape := ⟨4, ![8, 8192, 8, 64]⟩
abbrev S128 : Shape := ⟨1, ![128]⟩
abbrev S128x1x1x1 : Shape := ⟨4, ![128, 1, 1, 1]⟩
abbrev S64 : Shape := ⟨1, ![64]⟩
abbrev S1x64x1x1 : Shape := ⟨4, ![1, 64, 1, 1]⟩
abbrev S_ : Shape := ⟨0, ![]⟩
abbrev S8 : Shape := ⟨1, ![8]⟩
abbrev S8x1 : Shape := ⟨2, ![8, 1]⟩
abbrev S1x1x8x1 : Shape := ⟨4, ![1, 1, 8, 1]⟩
abbrev S128x1x8x1 : Shape := ⟨4, ![128, 1, 8, 1]⟩
abbrev S16 : Shape := ⟨1, ![16]⟩
abbrev S1x1x1x16 : Shape := ⟨4, ![1, 1, 1, 16]⟩
abbrev S1x64x1x16 : Shape := ⟨4, ![1, 64, 1, 16]⟩
abbrev S128x64x8x16 : Shape := ⟨4, ![128, 64, 8, 16]⟩
abbrev S8192x128 : Shape := ⟨2, ![8192, 128]⟩
abbrev S8192x128x1 : Shape := ⟨3, ![8192, 128, 1]⟩
abbrev S8x8192x128x8x64 : Shape := ⟨5, ![8, 8192, 128, 8, 64]⟩
abbrev S8x8x8192x128 : Shape := ⟨4, ![8, 8, 8192, 128]⟩
abbrev S8192x128x2 : Shape := ⟨3, ![8192, 128, 2]⟩
abbrev S8x8192x128 : Shape := ⟨3, ![8, 8192, 128]⟩
abbrev S1x8x8192x128 : Shape := ⟨4, ![1, 8, 8192, 128]⟩
abbrev S8x8x8192 : Shape := ⟨3, ![8, 8, 8192]⟩
abbrev S8x8x8192x1 : Shape := ⟨4, ![8, 8, 8192, 1]⟩

abbrev nBuf : Space → Nat
  | .hbm => 130
  | .vmem => 0
  | .smem => 0
  | _ => 0

abbrev hbmTy0_0 (i : Nat) : BufTy := match i % 128 with
  | 0 => ⟨S8x8192x1536, .bf16⟩
  | 1 => ⟨S8x15x31, .f32⟩
  | 2 => ⟨S8x8192x1536, .f32⟩
  | 3 => ⟨S8x8192x512, .f32⟩
  | 4 => ⟨S8x8192x512, .f32⟩
  | 5 => ⟨S8x8192x512, .f32⟩
  | 6 => ⟨S8x8192x8x64, .f32⟩
  | 7 => ⟨S8x8192x8x64, .f32⟩
  | 8 => ⟨S8x8192x8x64, .f32⟩
  | 9 => ⟨S128, .i32⟩
  | 10 => ⟨S128x1x1x1, .i32⟩
  | 11 => ⟨S64, .i32⟩
  | 12 => ⟨S1x64x1x1, .i32⟩
  | 13 => ⟨S_, .i32⟩
  | 14 => ⟨S128x1x1x1, .i32⟩
  | 15 => ⟨S128x1x1x1, .i32⟩
  | 16 => ⟨S_, .i32⟩
  | 17 => ⟨S_, .i32⟩
  | 18 => ⟨S_, .i32⟩
  | 19 => ⟨S128x1x1x1, .i32⟩
  | 20 => ⟨S128x1x1x1, .i32⟩
  | 21 => ⟨S_, .i32⟩
  | 22 => ⟨S128x1x1x1, .i32⟩
  | 23 => ⟨S128x1x1x1, .i32⟩
  | 24 => ⟨S8, .i32⟩
  | 25 => ⟨S8x1, .i32⟩
  | 26 => ⟨S1x1x8x1, .i32⟩
  | 27 => ⟨S128x1x8x1, .i32⟩
  | 28 => ⟨S128x1x8x1, .i32⟩
  | 29 => ⟨S128x1x8x1, .i32⟩
  | 30 => ⟨S_, .i32⟩
  | 31 => ⟨S1x64x1x1, .i32⟩
  | 32 => ⟨S1x64x1x1, .i32⟩
  | 33 => ⟨S_, .i32⟩
  | 34 => ⟨S_, .i32⟩
  | 35 => ⟨S_, .i32⟩
  | 36 => ⟨S1x64x1x1, .i32⟩
  | 37 => ⟨S1x64x1x1, .i32⟩
  | 38 => ⟨S_, .i32⟩
  | 39 => ⟨S1x64x1x1, .i32⟩
  | 40 => ⟨S1x64x1x1, .i32⟩
  | 41 => ⟨S16, .i32⟩
  | 42 => ⟨S1x1x1x16, .i32⟩
  | 43 => ⟨S1x64x1x16, .i32⟩
  | 44 => ⟨S1x64x1x16, .i32⟩
  | 45 => ⟨S1x64x1x16, .i32⟩
  | 46 => ⟨S_, .i32⟩
  | 47 => ⟨S128x1x8x1, .i32⟩
  | 48 => ⟨S128x1x8x1, .i32⟩
  | 49 => ⟨S128x64x8x16, .i32⟩
  | 50 => ⟨S128x64x8x16, .i32⟩
  | 51 => ⟨S128x64x8x16, .i32⟩
  | 52 => ⟨S8192x128, .i32⟩
  | 53 => ⟨S128x1x8x1, .i32⟩
  | 54 => ⟨S128x1x8x1, .i32⟩
  | 55 => ⟨S_, .i32⟩
  | 56 => ⟨S128x1x8x1, .i32⟩
  | 57 => ⟨S128x1x8x1, .i32⟩
  | 58 => ⟨S_, .i32⟩
  | 59 => ⟨S128x1x8x1, .i32⟩
  | 60 => ⟨S128x1x8x1, .i32⟩
  | 61 => ⟨S128x64x8x16, .i32⟩
  | 62 => ⟨S8192x128, .i32⟩
  | 63 => ⟨S1x64x1x16, .i32⟩
  | 64 => ⟨S1x64x1x16, .i32⟩
  | 65 => ⟨S_, .i32⟩
  | 66 => ⟨S1x64x1x16, .i32⟩
  | 67 => ⟨S1x64x1x16, .i32⟩
  | 68 => ⟨S_, .i32⟩
  | 69 => ⟨S1x64x1x16, .i32⟩
  | 70 => ⟨S1x64x1x16, .i32⟩
  | 71 => ⟨S128x64x8x16, .i32⟩
  | 72 => ⟨S8192x128, .i32⟩
  | 73 => ⟨S_, .i32⟩
  | 74 => ⟨S8192x128, .i32⟩
  | 75 => ⟨S8192x128, .i1⟩
  | 76 => ⟨S_, .i32⟩
  | 77 => ⟨S8192x128, .i32⟩
  | 78 => ⟨S8192x128, .i32⟩
  | 79 => ⟨S8192x128, .i32⟩
  | 80 => ⟨S8192x128x1, .i32⟩
  | 81 => ⟨S8x8192x128x8x64, .f32⟩
  | 82 => ⟨S8x8x8192x128, .f32⟩
  | 83 => ⟨S_, .i32⟩
  | 84 => ⟨S8192x128, .i32⟩
  | 85 => ⟨S8192x128, .i1⟩
  | 86 => ⟨S_, .i32⟩
  | 87 => ⟨S8192x128, .i32⟩
  | 88 => ⟨S8192x128, .i32⟩
  | 89 => ⟨S8192x128, .i32⟩
  | 90 => ⟨S_, .i32⟩
  | 91 => ⟨S8192x128, .i32⟩
  | 92 => ⟨S8192x128, .i1⟩
  | 93 => ⟨S_, .i32⟩
  | 94 => ⟨S8192x128, .i32⟩
  | 95 => ⟨S8192x128, .i32⟩
  | 96 => ⟨S8192x128, .i32⟩
  | 97 => ⟨S8192x128x1, .i32⟩
  | 98 => ⟨S8192x128x1, .i32⟩
  | 99 => ⟨S8192x128x2, .i32⟩
  | 100 => ⟨S8x8192x128, .f32⟩
  | 101 => ⟨S1x8x8192x128, .f32⟩
  | 102 => ⟨S8x8x8192x128, .f32⟩
  | 103 => ⟨S8x8x8192x128, .f32⟩
  | 104 => ⟨S_, .f32⟩
  | 105 => ⟨S8x8x8192, .f32⟩
  | 106 => ⟨S_, .f32⟩
  | 107 => ⟨S8x8x8192, .f32⟩
  | 108 => ⟨S8x8x8192, .f32⟩
  | 109 => ⟨S8x8x8192x1, .f32⟩
  | 110 => ⟨S8x8x8192x128, .f32⟩
  | 111 => ⟨S8x8x8192x128, .f32⟩
  | 112 => ⟨S8x8x8192x128, .f32⟩
  | 113 => ⟨S_, .f32⟩
  | 114 => ⟨S8x8x8192, .f32⟩
  | 115 => ⟨S8x8x8192x1, .f32⟩
  | 116 => ⟨S8x8x8192x128, .f32⟩
  | 117 => ⟨S8x8x8192x128, .f32⟩
  | 118 => ⟨S_, .i32⟩
  | 119 => ⟨S8192x128, .i32⟩
  | 120 => ⟨S8192x128, .i1⟩
  | 121 => ⟨S_, .i32⟩
  | 122 => ⟨S8192x128, .i32⟩
  | 123 => ⟨S8192x128, .i32⟩
  | 124 => ⟨S8192x128, .i32⟩
  | 125 => ⟨S8192x128x1, .i32⟩
  | 126 => ⟨S8x8192x128x8x64, .f32⟩
  | 127 => ⟨S8x8192x8x64, .f32⟩
  | _ => ⟨S8x8192x1536, .bf16⟩

abbrev hbmTy0_1 (i : Nat) : BufTy := match i % 128 with
  | 0 => ⟨S8x8192x512, .f32⟩
  | 1 => ⟨S8x8192x512, .bf16⟩
  | _ => ⟨S8x8192x1536, .bf16⟩

abbrev hbmTy (i : Nat) : BufTy := match i / 128 with
  | 0 => hbmTy0_0 i
  | 1 => hbmTy0_1 i
  | _ => ⟨S8x8192x1536, .bf16⟩

abbrev bufTy : (tb : Table) → Fin (tcTables nBuf tb) → BufTy
  | .hbm, ⟨i, _⟩ => hbmTy i
  | _, _ => ⟨S8x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_c_15 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_17 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_c_18 : Ref sig .tc := ⟨.hbm, 118, rfl⟩
abbrev main_v86 : Ref sig .tc := ⟨.hbm, 119, rfl⟩
abbrev main_v87 : Ref sig .tc := ⟨.hbm, 120, rfl⟩
abbrev main_c_19 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]
-- ==== Kernel2.lean ====
abbrev S8x8192x1024 : Shape := ⟨3, ![8, 8192, 1024]⟩
abbrev S1024 : Shape := ⟨1, ![1024]⟩
abbrev S1x1024x6144 : Shape := ⟨3, ![1, 1024, 6144]⟩
abbrev S65536x1024 : Shape := ⟨2, ![65536, 1024]⟩
abbrev S1024x6144 : Shape := ⟨2, ![1024, 6144]⟩
abbrev S1x1024 : Shape := ⟨2, ![1, 1024]⟩
abbrev S65536x1536 : Shape := ⟨2, ![65536, 1536]⟩
abbrev S65536x3072 : Shape := ⟨2, ![65536, 3072]⟩
abbrev S512x1024 : Shape := ⟨2, ![512, 1024]⟩
abbrev S512x1536 : Shape := ⟨2, ![512, 1536]⟩
abbrev S512x3072 : Shape := ⟨2, ![512, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1x1024x6144, .f32⟩
  | .hbm, ⟨4, _⟩ => ⟨S65536x1024, .f32⟩
  | .hbm, ⟨5, _⟩ => ⟨S1024x6144, .f32⟩
  | .hbm, ⟨6, _⟩ => ⟨S1024x6144, .bf16⟩
  | .hbm, ⟨7, _⟩ => ⟨S1x1024, .f32⟩
  | .hbm, ⟨8, _⟩ => ⟨S1x1024, .f32⟩
  | .hbm, ⟨9, _⟩ => ⟨S65536x1536, .bf16⟩
  | .hbm, ⟨10, _⟩ => ⟨S65536x1536, .f32⟩
  | .hbm, ⟨11, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x6144, .bf16⟩
  | .local _ .vmem, ⟨5, _⟩ => ⟨S512x1536, .bf16⟩
  | .local _ .vmem, ⟨6, _⟩ => ⟨S512x1536, .bf16⟩
  | .local _ .vmem, ⟨7, _⟩ => ⟨S512x1536, .f32⟩
  | .local _ .vmem, ⟨8, _⟩ => ⟨S512x1536, .f32⟩
  | .local _ .vmem, ⟨9, _⟩ => ⟨S512x3072, .bf16⟩
  | .local _ .vmem, ⟨10, _⟩ => ⟨S512x3072, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x8192x1024 : Shape := ⟨3, ![8, 8192, 1024]⟩
abbrev S1024 : Shape := ⟨1, ![1024]⟩
abbrev S1x1024x6144 : Shape := ⟨3, ![1, 1024, 6144]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x6144 : Shape := ⟨2, ![1024, 6144]⟩
abbrev S8x8192x6144 : Shape := ⟨3, ![8, 8192, 6144]⟩
abbrev S65536x6144 : Shape := ⟨2, ![65536, 6144]⟩
abbrev S65536x512 : Shape := ⟨2, ![65536, 512]⟩
abbrev S65536x1024 : Shape := ⟨2, ![65536, 1024]⟩
abbrev S65536x1536 : Shape := ⟨2, ![65536, 1536]⟩
abbrev S65536x3072 : Shape := ⟨2, ![65536, 3072]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024, .f32⟩
  | .hbm, ⟨3, _⟩ => ⟨S1x1024x6144, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S8x8192x1024, .f32⟩
  | .hbm, ⟨11, _⟩ => ⟨S8x8192x1024, .f32⟩
  | .hbm, ⟨12, _⟩ => ⟨S8x8192x1024, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S8x8192x1, .f32⟩
  | .hbm, ⟨23, _⟩ => ⟨S8x8192x1024, .f32⟩
  | .hbm, ⟨24, _⟩ => ⟨S8x8192x1024, .f32⟩
  | .hbm, ⟨25, _⟩ => ⟨S1x1x1024, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S1024x6144, .f32⟩
  | .hbm, ⟨32, _⟩ => ⟨S8x8192x6144, .f32⟩
  | .hbm, ⟨33, _⟩ => ⟨S65536x6144, .f32⟩
  | .hbm, ⟨34, _⟩ => ⟨S65536x512, .f32⟩
  | .hbm, ⟨35, _⟩ => ⟨S65536x1024, .f32⟩
  | .hbm, ⟨36, _⟩ => ⟨S65536x1536, .f32⟩
  | .hbm, ⟨37, _⟩ => ⟨S65536x3072, .f32⟩
  | .hbm, ⟨38, _⟩ => ⟨S_, .f32⟩
  | .hbm, ⟨39, _⟩ => ⟨S65536x512, .f32⟩
  | .hbm, ⟨40, _⟩ => ⟨S65536x512, .f32⟩
  | .hbm, ⟨41, _⟩ => ⟨S65536x1536, .f32⟩
  | .hbm, ⟨42, _⟩ => ⟨S65536x1536, .bf16⟩
  | .hbm, ⟨43, _⟩ => ⟨S65536x3072, .bf16⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel3.lean ====
abbrev S65536x512 : Shape := ⟨2, ![65536, 512]⟩
abbrev S2x65536x512 : Shape := ⟨3, ![2, 65536, 512]⟩
abbrev S65536x3072 : Shape := ⟨2, ![65536, 3072]⟩
abbrev S8x8192x1024 : Shape := ⟨3, ![8, 8192, 1024]⟩
abbrev S1024 : Shape := ⟨1, ![1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S65536x1024 : Shape := ⟨2, ![65536, 1024]⟩
abbrev S_ : Shape := ⟨0, ![]⟩
abbrev S128x1024 : Shape := ⟨2, ![128, 1024]⟩
abbrev S1024x4 : Shape := ⟨2, ![1024, 4]⟩
abbrev S4x1024 : Shape := ⟨2, ![4, 1024]⟩
abbrev S1 : Shape := ⟨1, ![1]⟩
abbrev S1024x32 : Shape := ⟨2, ![1024, 32]⟩
abbrev S32x1024 : Shape := ⟨2, ![32, 1024]⟩
abbrev S128 : Shape := ⟨1, ![128]⟩
abbrev S4 : Shape := ⟨1, ![4]⟩
abbrev S32 : Shape := ⟨1, ![32]⟩
abbrev S128x1 : Shape := ⟨2, ![128, 1]⟩
abbrev S128x128 : Shape := ⟨2, ![128, 128]⟩
abbrev S512 : Shape := ⟨1, ![512]⟩
abbrev S512x1024 : Shape := ⟨2, ![512, 1024]⟩
abbrev S1024x1024 : Shape := ⟨2, ![1024, 1024]⟩
abbrev S8x65536 : Shape := ⟨2, ![8, 65536]⟩
abbrev S256x512 : Shape := ⟨2, ![256, 512]⟩
abbrev S2x256x512 : Shape := ⟨3, ![2, 256, 512]⟩
abbrev S256x1024 : Shape := ⟨2, ![256, 1024]⟩
abbrev S8x256 : Shape := ⟨2, ![8, 256]⟩
abbrev S1x256x512 : Shape := ⟨3, ![1, 256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩
abbrev S1x256 : Shape := ⟨2, ![1, 256]⟩

abbrev nBuf : Space → Nat
  | .hbm => 58
  | .vmem => 28
  | .smem => 0
  | _ => 0

abbrev bufTy : (tb : Table) → Fin (tcTables nBuf tb) → BufTy
  | .hbm, ⟨0, _⟩ => ⟨S65536x512, .bf16⟩
  | .hbm, ⟨1, _⟩ => ⟨S2x65536x512, .f32⟩
  | .hbm, ⟨2, _⟩ => ⟨S65536x3072, .bf16⟩
  | .hbm, ⟨3, _⟩ => ⟨S8x8192x1024, .f32⟩
  | .hbm, ⟨4, _⟩ => ⟨S1024, .f32⟩
  | .hbm, ⟨5, _⟩ => ⟨S1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024x4, .f32⟩
  | .hbm, ⟨13, _⟩ => ⟨S1x4, .f32⟩
  | .hbm, ⟨14, _⟩ => ⟨S1x1024x32, .f32⟩
  | .hbm, ⟨15, _⟩ => ⟨S1x32, .f32⟩
  | .hbm, ⟨16, _⟩ => ⟨S65536x1024, .f32⟩
  | .hbm, ⟨17, _⟩ => ⟨S_, .f32⟩
  | .hbm, ⟨18, _⟩ => ⟨S128x1024, .f32⟩
  | .hbm, ⟨19, _⟩ => ⟨S1024x4, .f32⟩
  | .hbm, ⟨20, _⟩ => ⟨S4x1024, .f32⟩
  | .hbm, ⟨21, _⟩ => ⟨S_, .i32⟩
  | .hbm, ⟨22, _⟩ => ⟨S1, .i32⟩
  | .hbm, ⟨23, _⟩ => ⟨S128x1024, .f32⟩
  | .hbm, ⟨24, _⟩ => ⟨S1024x32, .f32⟩
  | .hbm, ⟨25, _⟩ => ⟨S32x1024, .f32⟩
  | .hbm, ⟨26, _⟩ => ⟨S_, .i32⟩
  | .hbm, ⟨27, _⟩ => ⟨S1, .i32⟩
  | .hbm, ⟨28, _⟩ => ⟨S128x1024, .f32⟩
  | .hbm, ⟨29, _⟩ => ⟨S_, .f32⟩
  | .hbm, ⟨30, _⟩ => ⟨S128, .f32⟩
  | .hbm, ⟨31, _⟩ => ⟨S4, .f32⟩
  | .hbm, ⟨32, _⟩ => ⟨S_, .i32⟩
  | .hbm, ⟨33, _⟩ => ⟨S1, .i32⟩
  | .hbm, ⟨34, _⟩ => ⟨S128, .f32⟩
  | .hbm, ⟨35, _⟩ => ⟨S32, .f32⟩
  | .hbm, ⟨36, _⟩ => ⟨S_, .i32⟩
  | .hbm, ⟨37, _⟩ => ⟨S1, .i32⟩
  | .hbm, ⟨38, _⟩ => ⟨S128, .f32⟩
  | .hbm, ⟨39, _⟩ => ⟨S128x1, .f32⟩
  | .hbm, ⟨40, _⟩ => ⟨S128x128, .f32⟩
  | .hbm, ⟨41, _⟩ => ⟨S512, .f32⟩
  | .hbm, ⟨42, _⟩ => ⟨S512x1024, .f32⟩
  | .hbm, ⟨43, _⟩ => ⟨S512x1024, .bf16⟩
  | .hbm, ⟨44, _⟩ => ⟨S512x1024, .f32⟩
  | .hbm, ⟨45, _⟩ => ⟨S512x1024, .bf16⟩
  | .hbm, ⟨46, _⟩ => ⟨S1024x1024, .f32⟩
  | .hbm, ⟨47, _⟩ => ⟨S1024x1024, .bf16⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S1x1024, .f32⟩
  | .hbm, ⟨52, _⟩ => ⟨S1x512, .f32⟩
  | .hbm, ⟨53, _⟩ => ⟨S1x1024, .f32⟩
  | .hbm, ⟨54, _⟩ => ⟨S1x1024, .f32⟩
  | .hbm, ⟨55, _⟩ => ⟨S65536x1024, .f32⟩
  | .hbm, ⟨56, _⟩ => ⟨S8x65536, .i32⟩
  | .hbm, ⟨57, _⟩ => ⟨S8x65536, .f32⟩
  | .local _ .vmem, ⟨0, _⟩ => ⟨S256x512, .bf16⟩
  | .local _ .vmem, ⟨1, _⟩ => ⟨S256x512, .bf16⟩
  | .local _ .vmem, ⟨2, _⟩ => ⟨S2x256x512, .f32⟩
  | .local _ .vmem, ⟨3, _⟩ => ⟨S2x256x512, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S128x1024, .f32⟩
  | .local _ .vmem, ⟨21, _⟩ => ⟨S128x128, .f32⟩
  | .local _ .vmem, ⟨22, _⟩ => ⟨S256x1024, .f32⟩
  | .local _ .vmem, ⟨23, _⟩ => ⟨S256x1024, .f32⟩
  | .local _ .vmem, ⟨24, _⟩ => ⟨S8x256, .i32⟩
  | .local _ .vmem, ⟨25, _⟩ => ⟨S8x256, .i32⟩
  | .local _ .vmem, ⟨26, _⟩ => ⟨S8x256, .f32⟩
  | .local _ .vmem, ⟨27, _⟩ => ⟨S8x256, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S65536x512 : Shape := ⟨2, ![65536, 512]⟩
abbrev S2x65536x512 : Shape := ⟨3, ![2, 65536, 512]⟩
abbrev S65536x3072 : Shape := ⟨2, ![65536, 3072]⟩
abbrev S8x8192x1024 : Shape := ⟨3, ![8, 8192, 1024]⟩
abbrev S1024 : Shape := ⟨1, ![1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S65536x1024 : Shape := ⟨2, ![65536, 1024]⟩
abbrev S1x65536x512 : Shape := ⟨3, ![1, 65536, 512]⟩
abbrev S65536x4x128 : Shape := ⟨3, ![65536, 4, 128]⟩
abbrev S_ : Shape := ⟨0, ![]⟩
abbrev S65536x4 : Shape := ⟨2, ![65536, 4]⟩
abbrev S65536x4x1 : Shape := ⟨3, ![65536, 4, 1]⟩
abbrev S512 : Shape := ⟨1, ![512]⟩
abbrev S4x128 : Shape := ⟨2, ![4, 128]⟩
abbrev S1x4x128 : Shape := ⟨3, ![1, 4, 128]⟩
abbrev S512x1024 : Shape := ⟨2, ![512, 1024]⟩
abbrev S8x8192 : Shape := ⟨2, ![8, 8192]⟩
abbrev S8x8192x1 : Shape := ⟨3, ![8, 8192, 1]⟩
abbrev S1x1x1024 : Shape := ⟨3, ![1, 1, 1024]⟩
abbrev S1024x1024 : Shape := ⟨2, ![1024, 1024]⟩
abbrev S65536 : Shape := ⟨1, ![65536]⟩
abbrev S65536x1 : Shape := ⟨2, ![65536, 1]⟩

abbrev nBuf : Space → Nat
  | .hbm => 144
  | .vmem => 0
  | .smem => 0
  | _ => 0

abbrev hbmTy0_0 (i : Nat) : BufTy := match i % 128 with
  | 0 => ⟨S65536x512, .bf16⟩
  | 1 => ⟨S2x65536x512, .f32⟩
  | 2 => ⟨S65536x3072, .bf16⟩
  | 3 => ⟨S8x8192x1024, .f32⟩
  | 4 => ⟨S1024, .f32⟩
  | 5 => ⟨S1024, .f32⟩
  | 6 => ⟨S1x512, .f32⟩
  | 7 => ⟨S1x512x1024, .f32⟩
  | 8 => ⟨S1x512x1024, .f32⟩
  | 9 => ⟨S1x1024x1024, .f32⟩
  | 10 => ⟨S1x1024, .f32⟩
  | 11 => ⟨S1x1024, .f32⟩
  | 12 => ⟨S1x1024x4, .f32⟩
  | 13 => ⟨S1x4, .f32⟩
  | 14 => ⟨S1x1024x32, .f32⟩
  | 15 => ⟨S1x32, .f32⟩
  | 16 => ⟨S65536x3072, .f32⟩
  | 17 => ⟨S65536x512, .f32⟩
  | 18 => ⟨S65536x512, .f32⟩
  | 19 => ⟨S65536x1024, .f32⟩
  | 20 => ⟨S65536x1024, .f32⟩
  | 21 => ⟨S1x65536x512, .f32⟩
  | 22 => ⟨S65536x512, .f32⟩
  | 23 => ⟨S1x65536x512, .f32⟩
  | 24 => ⟨S65536x512, .f32⟩
  | 25 => ⟨S65536x512, .f32⟩
  | 26 => ⟨S65536x4x128, .f32⟩
  | 27 => ⟨S65536x4x128, .f32⟩
  | 28 => ⟨S_, .f32⟩
  | 29 => ⟨S65536x4, .f32⟩
  | 30 => ⟨S65536x4x1, .f32⟩
  | 31 => ⟨S_, .f32⟩
  | 32 => ⟨S65536x4x1, .f32⟩
  | 33 => ⟨S65536x4x1, .f32⟩
  | 34 => ⟨S_, .f32⟩
  | 35 => ⟨S65536x4x1, .f32⟩
  | 36 => ⟨S65536x4x1, .f32⟩
  | 37 => ⟨S65536x4x1, .f32⟩
  | 38 => ⟨S65536x4x128, .f32⟩
  | 39 => ⟨S65536x4x128, .f32⟩
  | 40 => ⟨S512, .f32⟩
  | 41 => ⟨S4x128, .f32⟩
  | 42 => ⟨S1x4x128, .f32⟩
  | 43 => ⟨S65536x4x128, .f32⟩
  | 44 => ⟨S65536x4x128, .f32⟩
  | 45 => ⟨S65536x4x128, .f32⟩
  | 46 => ⟨S65536x4x128, .f32⟩
  | 47 => ⟨S65536x4x128, .f32⟩
  | 48 => ⟨S_, .f32⟩
  | 49 => ⟨S65536x4x128, .f32⟩
  | 50 => ⟨S65536x4x128, .f32⟩
  | 51 => ⟨S_, .f32⟩
  | 52 => ⟨S65536x4x128, .f32⟩
  | 53 => ⟨S65536x4x128, .f32⟩
  | 54 => ⟨S65536x4x128, .f32⟩
  | 55 => ⟨S65536x4x128, .f32⟩
  | 56 => ⟨S65536x512, .f32⟩
  | 57 => ⟨S65536x1024, .f32⟩
  | 58 => ⟨S65536x1024, .f32⟩
  | 59 => ⟨S_, .f32⟩
  | 60 => ⟨S65536x1024, .f32⟩
  | 61 => ⟨S65536x1024, .f32⟩
  | 62 => ⟨S_, .f32⟩
  | 63 => ⟨S65536x1024, .f32⟩
  | 64 => ⟨S65536x1024, .f32⟩
  | 65 => ⟨S65536x512, .f32⟩
  | 66 => ⟨S512x1024, .f32⟩
  | 67 => ⟨S65536x1024, .f32⟩
  | 68 => ⟨S65536x1024, .f32⟩
  | 69 => ⟨S65536x1024, .f32⟩
  | 70 => ⟨S65536x1024, .f32⟩
  | 71 => ⟨S_, .f32⟩
  | 72 => ⟨S65536x1024, .f32⟩
  | 73 => ⟨S65536x1024, .f32⟩
  | 74 => ⟨S_, .f32⟩
  | 75 => ⟨S65536x1024, .f32⟩
  | 76 => ⟨S65536x1024, .f32⟩
  | 77 => ⟨S512x1024, .f32⟩
  | 78 => ⟨S65536x1024, .f32⟩
  | 79 => ⟨S65536x1024, .f32⟩
  | 80 => ⟨S65536x1024, .f32⟩
  | 81 => ⟨S_, .f32⟩
  | 82 => ⟨S8x8192, .f32⟩
  | 83 => ⟨S8x8192x1, .f32⟩
  | 84 => ⟨S_, .f32⟩
  | 85 => ⟨S8x8192x1, .f32⟩
  | 86 => ⟨S8x8192x1, .f32⟩
  | 87 => ⟨S8x8192x1024, .f32⟩
  | 88 => ⟨S8x8192x1024, .f32⟩
  | 89 => ⟨S8x8192x1024, .f32⟩
  | 90 => ⟨S_, .f32⟩
  | 91 => ⟨S8x8192, .f32⟩
  | 92 => ⟨S8x8192x1, .f32⟩
  | 93 => ⟨S_, .f32⟩
  | 94 => ⟨S8x8192x1, .f32⟩
  | 95 => ⟨S8x8192x1, .f32⟩
  | 96 => ⟨S_, .f32⟩
  | 97 => ⟨S8x8192x1, .f32⟩
  | 98 => ⟨S8x8192x1, .f32⟩
  | 99 => ⟨S8x8192x1, .f32⟩
  | 100 => ⟨S8x8192x1024, .f32⟩
  | 101 => ⟨S8x8192x1024, .f32⟩
  | 102 => ⟨S1x1x1024, .f32⟩
  | 103 => ⟨S8x8192x1024, .f32⟩
  | 104 => ⟨S8x8192x1024, .f32⟩
  | 105 => ⟨S1x1x1024, .f32⟩
  | 106 => ⟨S8x8192x1024, .f32⟩
  | 107 => ⟨S8x8192x1024, .f32⟩
  | 108 => ⟨S65536x1024, .f32⟩
  | 109 => ⟨S_, .f32⟩
  | 110 => ⟨S65536x1024, .f32⟩
  | 111 => ⟨S65536x1024, .f32⟩
  | 112 => ⟨S1024x1024, .f32⟩
  | 113 => ⟨S65536x1024, .f32⟩
  | 114 => ⟨S65536x1024, .f32⟩
  | 115 => ⟨S1024, .f32⟩
  | 116 => ⟨S1024, .f32⟩
  | 117 => ⟨S_, .f32⟩
  | 118 => ⟨S65536, .f32⟩
  | 119 => ⟨S65536x1, .f32⟩
  | 120 => ⟨S_, .f32⟩
  | 121 => ⟨S65536x1, .f32⟩
  | 122 => ⟨S65536x1, .f32⟩
  | 123 => ⟨S65536x1024, .f32⟩
  | 124 => ⟨S65536x1024, .f32⟩
  | 125 => ⟨S65536x1024, .f32⟩
  | 126 => ⟨S_, .f32⟩
  | 127 => ⟨S65536, .f32⟩
  | _ => ⟨S65536x512, .bf16⟩

abbrev hbmTy0_1 (i : Nat) : BufTy := match i % 128 with
  | 0 => ⟨S65536x1, .f32⟩
  | 1 => ⟨S_, .f32⟩
  | 2 => ⟨S65536x1, .f32⟩
  | 3 => ⟨S65536x1, .f32⟩
  | 4 => ⟨S_, .f32⟩
  | 5 => ⟨S65536x1, .f32⟩
  | 6 => ⟨S65536x1, .f32⟩
  | 7 => ⟨S65536x1, .f32⟩
  | 8 => ⟨S65536x1024, .f32⟩
  | 9 => ⟨S65536x1024, .f32⟩
  | 10 => ⟨S1x1024, .f32⟩
  | 11 => ⟨S65536x1024, .f32⟩
  | 12 => ⟨S65536x1024, .f32⟩
  | 13 => ⟨S1x1024, .f32⟩
  | 14 => ⟨S65536x1024, .f32⟩
  | 15 => ⟨S65536x1024, .f32⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_cst_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_11 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_cst_16 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]
-- ==== Kernel4.lean ====
abbrev S65536x1024 : Shape := ⟨2, ![65536, 1024]⟩
abbrev S131072x1024 : Shape := ⟨2, ![131072, 1024]⟩
abbrev S1x1024 : Shape := ⟨2, ![1, 1024]⟩
abbrev S65536x2048 : Shape := ⟨2, ![65536, 2048]⟩
abbrev S1024 : Shape := ⟨1, ![1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S131072x1024, .f32⟩
  | .hbm, ⟨2, _⟩ => ⟨S1x1024, .f32⟩
  | .hbm, ⟨3, _⟩ => ⟨S1x1024, .f32⟩
  | .hbm, ⟨4, _⟩ => ⟨S65536x2048, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S65536x1024 : Shape := ⟨2, ![65536, 1024]⟩
abbrev S131072x1024 : Shape := ⟨2, ![131072, 1024]⟩
abbrev S1x1024 : Shape := ⟨2, ![1, 1024]⟩
abbrev S65536x2x1024 : Shape := ⟨3, ![65536, 2, 1024]⟩
abbrev S_ : Shape := ⟨0, ![]⟩
abbrev S1024 : Shape := ⟨1, ![1024]⟩
abbrev S65536 : Shape := ⟨1, ![65536]⟩
abbrev S65536x1 : Shape := ⟨2, ![65536, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S131072x1024, .f32⟩
  | .hbm, ⟨2, _⟩ => ⟨S1x1024, .f32⟩
  | .hbm, ⟨3, _⟩ => ⟨S1x1024, .f32⟩
  | .hbm, ⟨4, _⟩ => ⟨S65536x2x1024, .f32⟩
  | .hbm, ⟨5, _⟩ => ⟨S_, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S_, .f32⟩
  | .hbm, ⟨29, _⟩ => ⟨S65536x1, .f32⟩
  | .hbm, ⟨30, _⟩ => ⟨S65536x1, .f32⟩
  | .hbm, ⟨31, _⟩ => ⟨S65536x1, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel5.lean ====
abbrev S65536x512 : Shape := ⟨2, ![65536, 512]⟩
abbrev S2x65536x512 : Shape := ⟨3, ![2, 65536, 512]⟩
abbrev S65536x3072 : Shape := ⟨2, ![65536, 3072]⟩
abbrev S8x8192x1024 : Shape := ⟨3, ![8, 8192, 1024]⟩
abbrev S1024 : Shape := ⟨1, ![1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S65536x1024 : Shape := ⟨2, ![65536, 1024]⟩
abbrev S_ : Shape := ⟨0, ![]⟩
abbrev S128x1024 : Shape := ⟨2, ![128, 1024]⟩
abbrev S1024x4 : Shape := ⟨2, ![1024, 4]⟩
abbrev S4x1024 : Shape := ⟨2, ![4, 1024]⟩
abbrev S1 : Shape := ⟨1, ![1]⟩
abbrev S1024x32 : Shape := ⟨2, ![1024, 32]⟩
abbrev S32x1024 : Shape := ⟨2, ![32, 1024]⟩
abbrev S128 : Shape := ⟨1, ![128]⟩
abbrev S4 : Shape := ⟨1, ![4]⟩
abbrev S32 : Shape := ⟨1, ![32]⟩
abbrev S128x1 : Shape := ⟨2, ![128, 1]⟩
abbrev S128x128 : Shape := ⟨2, ![128, 128]⟩
abbrev S512 : Shape := ⟨1, ![512]⟩
abbrev S512x1024 : Shape := ⟨2, ![512, 1024]⟩
abbrev S1024x1024 : Shape := ⟨2, ![1024, 1024]⟩
abbrev S8x65536 : Shape := ⟨2, ![8, 65536]⟩
abbrev S256x512 : Shape := ⟨2, ![256, 512]⟩
abbrev S2x256x512 : Shape := ⟨3, ![2, 256, 512]⟩
abbrev S256x1024 : Shape := ⟨2, ![256, 1024]⟩
abbrev S8x256 : Shape := ⟨2, ![8, 256]⟩
abbrev S1x256x512 : Shape := ⟨3, ![1, 256, 512]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S128x256 : Shape := ⟨2, ![128, 256]⟩
abbrev S1x256 : Shape := ⟨2, ![1, 256]⟩

abbrev nBuf : Space → Nat
  | .hbm => 58
  | .vmem => 28
  | .smem => 0
  | _ => 0

abbrev bufTy : (tb : Table) → Fin (tcTables nBuf tb) → BufTy
  | .hbm, ⟨0, _⟩ => ⟨S65536x512, .bf16⟩
  | .hbm, ⟨1, _⟩ => ⟨S2x65536x512, .f32⟩
  | .hbm, ⟨2, _⟩ => ⟨S65536x3072, .bf16⟩
  | .hbm, ⟨3, _⟩ => ⟨S8x8192x1024, .f32⟩
  | .hbm, ⟨4, _⟩ => ⟨S1024, .f32⟩
  | .hbm, ⟨5, _⟩ => ⟨S1024, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024x4, .f32⟩
  | .hbm, ⟨13, _⟩ => ⟨S1x4, .f32⟩
  | .hbm, ⟨14, _⟩ => ⟨S1x1024x32, .f32⟩
  | .hbm, ⟨15, _⟩ => ⟨S1x32, .f32⟩
  | .hbm, ⟨16, _⟩ => ⟨S65536x1024, .f32⟩
  | .hbm, ⟨17, _⟩ => ⟨S_, .f32⟩
  | .hbm, ⟨18, _⟩ => ⟨S128x1024, .f32⟩
  | .hbm, ⟨19, _⟩ => ⟨S1024x4, .f32⟩
  | .hbm, ⟨20, _⟩ => ⟨S4x1024, .f32⟩
  | .hbm, ⟨21, _⟩ => ⟨S_, .i32⟩
  | .hbm, ⟨22, _⟩ => ⟨S1, .i32⟩
  | .hbm, ⟨23, _⟩ => ⟨S128x1024, .f32⟩
  | .hbm, ⟨24, _⟩ => ⟨S1024x32, .f32⟩
  | .hbm, ⟨25, _⟩ => ⟨S32x1024, .f32⟩
  | .hbm, ⟨26, _⟩ => ⟨S_, .i32⟩
  | .hbm, ⟨27, _⟩ => ⟨S1, .i32⟩
  | .hbm, ⟨28, _⟩ => ⟨S128x1024, .f32⟩
  | .hbm, ⟨29, _⟩ => ⟨S_, .f32⟩
  | .hbm, ⟨30, _⟩ => ⟨S128, .f32⟩
  | .hbm, ⟨31, _⟩ => ⟨S4, .f32⟩
  | .hbm, ⟨32, _⟩ => ⟨S_, .i32⟩
  | .hbm, ⟨33, _⟩ => ⟨S1, .i32⟩
  | .hbm, ⟨34, _⟩ => ⟨S128, .f32⟩
  | .hbm, ⟨35, _⟩ => ⟨S32, .f32⟩
  | .hbm, ⟨36, _⟩ => ⟨S_, .i32⟩
  | .hbm, ⟨37, _⟩ => ⟨S1, .i32⟩
  | .hbm, ⟨38, _⟩ => ⟨S128, .f32⟩
  | .hbm, ⟨39, _⟩ => ⟨S128x1, .f32⟩
  | .hbm, ⟨40, _⟩ => ⟨S128x128, .f32⟩
  | .hbm, ⟨41, _⟩ => ⟨S512, .f32⟩
  | .hbm, ⟨42, _⟩ => ⟨S512x1024, .f32⟩
  | .hbm, ⟨43, _⟩ => ⟨S512x1024, .bf16⟩
  | .hbm, ⟨44, _⟩ => ⟨S512x1024, .f32⟩
  | .hbm, ⟨45, _⟩ => ⟨S512x1024, .bf16⟩
  | .hbm, ⟨46, _⟩ => ⟨S1024x1024, .f32⟩
  | .hbm, ⟨47, _⟩ => ⟨S1024x1024, .bf16⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S1x1024, .f32⟩
  | .hbm, ⟨52, _⟩ => ⟨S1x512, .f32⟩
  | .hbm, ⟨53, _⟩ => ⟨S1x1024, .f32⟩
  | .hbm, ⟨54, _⟩ => ⟨S1x1024, .f32⟩
  | .hbm, ⟨55, _⟩ => ⟨S65536x1024, .f32⟩
  | .hbm, ⟨56, _⟩ => ⟨S8x65536, .i32⟩
  | .hbm, ⟨57, _⟩ => ⟨S8x65536, .f32⟩
  | .local _ .vmem, ⟨0, _⟩ => ⟨S256x512, .bf16⟩
  | .local _ .vmem, ⟨1, _⟩ => ⟨S256x512, .bf16⟩
  | .local _ .vmem, ⟨2, _⟩ => ⟨S2x256x512, .f32⟩
  | .local _ .vmem, ⟨3, _⟩ => ⟨S2x256x512, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S1x1024, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S128x1024, .f32⟩
  | .local _ .vmem, ⟨21, _⟩ => ⟨S128x128, .f32⟩
  | .local _ .vmem, ⟨22, _⟩ => ⟨S256x1024, .f32⟩
  | .local _ .vmem, ⟨23, _⟩ => ⟨S256x1024, .f32⟩
  | .local _ .vmem, ⟨24, _⟩ => ⟨S8x256, .i32⟩
  | .local _ .vmem, ⟨25, _⟩ => ⟨S8x256, .i32⟩
  | .local _ .vmem, ⟨26, _⟩ => ⟨S8x256, .f32⟩
  | .local _ .vmem, ⟨27, _⟩ => ⟨S8x256, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33_0 : Ref sig .tc := ⟨.hbm, 55, rfl⟩
abbrev main_v33_1 : Ref sig .tc := ⟨.hbm, 56, rfl⟩
abbrev main_v33_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference5Ideal.lean ====
abbrev S65536x512 : Shape := ⟨2, ![65536, 512]⟩
abbrev S2x65536x512 : Shape := ⟨3, ![2, 65536, 512]⟩
abbrev S65536x3072 : Shape := ⟨2, ![65536, 3072]⟩
abbrev S8x8192x1024 : Shape := ⟨3, ![8, 8192, 1024]⟩
abbrev S1024 : Shape := ⟨1, ![1024]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S65536x1024 : Shape := ⟨2, ![65536, 1024]⟩
abbrev S1x65536x512 : Shape := ⟨3, ![1, 65536, 512]⟩
abbrev S65536x4x128 : Shape := ⟨3, ![65536, 4, 128]⟩
abbrev S_ : Shape := ⟨0, ![]⟩
abbrev S65536x4 : Shape := ⟨2, ![65536, 4]⟩
abbrev S65536x4x1 : Shape := ⟨3, ![65536, 4, 1]⟩
abbrev S512 : Shape := ⟨1, ![512]⟩
abbrev S4x128 : Shape := ⟨2, ![4, 128]⟩
abbrev S1x4x128 : Shape := ⟨3, ![1, 4, 128]⟩
abbrev S512x1024 : Shape := ⟨2, ![512, 1024]⟩
abbrev S8x8192 : Shape := ⟨2, ![8, 8192]⟩
abbrev S8x8192x1 : Shape := ⟨3, ![8, 8192, 1]⟩
abbrev S1x1x1024 : Shape := ⟨3, ![1, 1, 1024]⟩
abbrev S1024x1024 : Shape := ⟨2, ![1024, 1024]⟩
abbrev S65536 : Shape := ⟨1, ![65536]⟩
abbrev S65536x1 : Shape := ⟨2, ![65536, 1]⟩
abbrev S1024x4 : Shape := ⟨2, ![1024, 4]⟩
abbrev S4 : Shape := ⟨1, ![4]⟩
abbrev S1024x32 : Shape := ⟨2, ![1024, 32]⟩
abbrev S65536x32 : Shape := ⟨2, ![65536, 32]⟩
abbrev S32 : Shape := ⟨1, ![32]⟩
abbrev S65536x4x8 : Shape := ⟨3, ![65536, 4, 8]⟩
abbrev S65536x8 : Shape := ⟨2, ![65536, 8]⟩
abbrev S65536x2 : Shape := ⟨2, ![65536, 2]⟩
abbrev S2x65536 : Shape := ⟨2, ![2, 65536]⟩
abbrev S8x65536 : Shape := ⟨2, ![8, 65536]⟩

abbrev nBuf : Space → Nat
  | .hbm => 229
  | .vmem => 0
  | .smem => 0
  | _ => 0

abbrev hbmTy0_0 (i : Nat) : BufTy := match i % 128 with
  | 0 => ⟨S65536x512, .bf16⟩
  | 1 => ⟨S2x65536x512, .f32⟩
  | 2 => ⟨S65536x3072, .bf16⟩
  | 3 => ⟨S8x8192x1024, .f32⟩
  | 4 => ⟨S1024, .f32⟩
  | 5 => ⟨S1024, .f32⟩
  | 6 => ⟨S1x512, .f32⟩
  | 7 => ⟨S1x512x1024, .f32⟩
  | 8 => ⟨S1x512x1024, .f32⟩
  | 9 => ⟨S1x1024x1024, .f32⟩
  | 10 => ⟨S1x1024, .f32⟩
  | 11 => ⟨S1x1024, .f32⟩
  | 12 => ⟨S1x1024x4, .f32⟩
  | 13 => ⟨S1x4, .f32⟩
  | 14 => ⟨S1x1024x32, .f32⟩
  | 15 => ⟨S1x32, .f32⟩
  | 16 => ⟨S65536x3072, .f32⟩
  | 17 => ⟨S65536x512, .f32⟩
  | 18 => ⟨S65536x512, .f32⟩
  | 19 => ⟨S65536x1024, .f32⟩
  | 20 => ⟨S65536x1024, .f32⟩
  | 21 => ⟨S1x65536x512, .f32⟩
  | 22 => ⟨S65536x512, .f32⟩
  | 23 => ⟨S1x65536x512, .f32⟩
  | 24 => ⟨S65536x512, .f32⟩
  | 25 => ⟨S65536x512, .f32⟩
  | 26 => ⟨S65536x4x128, .f32⟩
  | 27 => ⟨S65536x4x128, .f32⟩
  | 28 => ⟨S_, .f32⟩
  | 29 => ⟨S65536x4, .f32⟩
  | 30 => ⟨S65536x4x1, .f32⟩
  | 31 => ⟨S_, .f32⟩
  | 32 => ⟨S65536x4x1, .f32⟩
  | 33 => ⟨S65536x4x1, .f32⟩
  | 34 => ⟨S_, .f32⟩
  | 35 => ⟨S65536x4x1, .f32⟩
  | 36 => ⟨S65536x4x1, .f32⟩
  | 37 => ⟨S65536x4x1, .f32⟩
  | 38 => ⟨S65536x4x128, .f32⟩
  | 39 => ⟨S65536x4x128, .f32⟩
  | 40 => ⟨S512, .f32⟩
  | 41 => ⟨S4x128, .f32⟩
  | 42 => ⟨S1x4x128, .f32⟩
  | 43 => ⟨S65536x4x128, .f32⟩
  | 44 => ⟨S65536x4x128, .f32⟩
  | 45 => ⟨S65536x4x128, .f32⟩
  | 46 => ⟨S65536x4x128, .f32⟩
  | 47 => ⟨S65536x4x128, .f32⟩
  | 48 => ⟨S_, .f32⟩
  | 49 => ⟨S65536x4x128, .f32⟩
  | 50 => ⟨S65536x4x128, .f32⟩
  | 51 => ⟨S_, .f32⟩
  | 52 => ⟨S65536x4x128, .f32⟩
  | 53 => ⟨S65536x4x128, .f32⟩
  | 54 => ⟨S65536x4x128, .f32⟩
  | 55 => ⟨S65536x4x128, .f32⟩
  | 56 => ⟨S65536x512, .f32⟩
  | 57 => ⟨S65536x1024, .f32⟩
  | 58 => ⟨S65536x1024, .f32⟩
  | 59 => ⟨S_, .f32⟩
  | 60 => ⟨S65536x1024, .f32⟩
  | 61 => ⟨S65536x1024, .f32⟩
  | 62 => ⟨S_, .f32⟩
  | 63 => ⟨S65536x1024, .f32⟩
  | 64 => ⟨S65536x1024, .f32⟩
  | 65 => ⟨S65536x512, .f32⟩
  | 66 => ⟨S512x1024, .f32⟩
  | 67 => ⟨S65536x1024, .f32⟩
  | 68 => ⟨S65536x1024, .f32⟩
  | 69 => ⟨S65536x1024, .f32⟩
  | 70 => ⟨S65536x1024, .f32⟩
  | 71 => ⟨S_, .f32⟩
  | 72 => ⟨S65536x1024, .f32⟩
  | 73 => ⟨S65536x1024, .f32⟩
  | 74 => ⟨S_, .f32⟩
  | 75 => ⟨S65536x1024, .f32⟩
  | 76 => ⟨S65536x1024, .f32⟩
  | 77 => ⟨S512x1024, .f32⟩
  | 78 => ⟨S65536x1024, .f32⟩
  | 79 => ⟨S65536x1024, .f32⟩
  | 80 => ⟨S65536x1024, .f32⟩
  | 81 => ⟨S_, .f32⟩
  | 82 => ⟨S8x8192, .f32⟩
  | 83 => ⟨S8x8192x1, .f32⟩
  | 84 => ⟨S_, .f32⟩
  | 85 => ⟨S8x8192x1, .f32⟩
  | 86 => ⟨S8x8192x1, .f32⟩
  | 87 => ⟨S8x8192x1024, .f32⟩
  | 88 => ⟨S8x8192x1024, .f32⟩
  | 89 => ⟨S8x8192x1024, .f32⟩
  | 90 => ⟨S_, .f32⟩
  | 91 => ⟨S8x8192, .f32⟩
  | 92 => ⟨S8x8192x1, .f32⟩
  | 93 => ⟨S_, .f32⟩
  | 94 => ⟨S8x8192x1, .f32⟩
  | 95 => ⟨S8x8192x1, .f32⟩
  | 96 => ⟨S_, .f32⟩
  | 97 => ⟨S8x8192x1, .f32⟩
  | 98 => ⟨S8x8192x1, .f32⟩
  | 99 => ⟨S8x8192x1, .f32⟩
  | 100 => ⟨S8x8192x1024, .f32⟩
  | 101 => ⟨S8x8192x1024, .f32⟩
  | 102 => ⟨S1x1x1024, .f32⟩
  | 103 => ⟨S8x8192x1024, .f32⟩
  | 104 => ⟨S8x8192x1024, .f32⟩
  | 105 => ⟨S1x1x1024, .f32⟩
  | 106 => ⟨S8x8192x1024, .f32⟩
  | 107 => ⟨S8x8192x1024, .f32⟩
  | 108 => ⟨S65536x1024, .f32⟩
  | 109 => ⟨S_, .f32⟩
  | 110 => ⟨S65536x1024, .f32⟩
  | 111 => ⟨S65536x1024, .f32⟩
  | 112 => ⟨S1024x1024, .f32⟩
  | 113 => ⟨S65536x1024, .f32⟩
  | 114 => ⟨S65536x1024, .f32⟩
  | 115 => ⟨S1024, .f32⟩
  | 116 => ⟨S1024, .f32⟩
  | 117 => ⟨S_, .f32⟩
  | 118 => ⟨S65536, .f32⟩
  | 119 => ⟨S65536x1, .f32⟩
  | 120 => ⟨S_, .f32⟩
  | 121 => ⟨S65536x1, .f32⟩
  | 122 => ⟨S65536x1, .f32⟩
  | 123 => ⟨S65536x1024, .f32⟩
  | 124 => ⟨S65536x1024, .f32⟩
  | 125 => ⟨S65536x1024, .f32⟩
  | 126 => ⟨S_, .f32⟩
  | 127 => ⟨S65536, .f32⟩
  | _ => ⟨S65536x512, .bf16⟩

abbrev hbmTy0_1 (i : Nat) : BufTy := match i % 128 with
  | 0 => ⟨S65536x1, .f32⟩
  | 1 => ⟨S_, .f32⟩
  | 2 => ⟨S65536x1, .f32⟩
  | 3 => ⟨S65536x1, .f32⟩
  | 4 => ⟨S_, .f32⟩
  | 5 => ⟨S65536x1, .f32⟩
  | 6 => ⟨S65536x1, .f32⟩
  | 7 => ⟨S65536x1, .f32⟩
  | 8 => ⟨S65536x1024, .f32⟩
  | 9 => ⟨S65536x1024, .f32⟩
  | 10 => ⟨S1x1024, .f32⟩
  | 11 => ⟨S65536x1024, .f32⟩
  | 12 => ⟨S65536x1024, .f32⟩
  | 13 => ⟨S1x1024, .f32⟩
  | 14 => ⟨S65536x1024, .f32⟩
  | 15 => ⟨S65536x1024, .f32⟩
  | 16 => ⟨S1024x4, .f32⟩
  | 17 => ⟨S65536x4, .f32⟩
  | 18 => ⟨S4, .f32⟩
  | 19 => ⟨S1x4, .f32⟩
  | 20 => ⟨S65536x4, .f32⟩
  | 21 => ⟨S65536x4, .f32⟩
  | 22 => ⟨S1024x32, .f32⟩
  | 23 => ⟨S65536x32, .f32⟩
  | 24 => ⟨S32, .f32⟩
  | 25 => ⟨S1x32, .f32⟩
  | 26 => ⟨S65536x32, .f32⟩
  | 27 => ⟨S65536x32, .f32⟩
  | 28 => ⟨S65536x1, .f32⟩
  | 29 => ⟨S65536x1, .i32⟩
  | 30 => ⟨S4, .i32⟩
  | 31 => ⟨S1x4, .i32⟩
  | 32 => ⟨S65536x4, .i32⟩
  | 33 => ⟨S65536x4, .i32⟩
  | 34 => ⟨S65536x4, .i1⟩
  | 35 => ⟨S_, .f32⟩
  | 36 => ⟨S65536, .f32⟩
  | 37 => ⟨S_, .f32⟩
  | 38 => ⟨S65536, .f32⟩
  | 39 => ⟨S65536, .f32⟩
  | 40 => ⟨S65536x1, .f32⟩
  | 41 => ⟨S65536x4, .f32⟩
  | 42 => ⟨S65536x4, .f32⟩
  | 43 => ⟨S65536x4, .f32⟩
  | 44 => ⟨S_, .f32⟩
  | 45 => ⟨S65536, .f32⟩
  | 46 => ⟨S65536x1, .f32⟩
  | 47 => ⟨S65536x4, .f32⟩
  | 48 => ⟨S65536x4, .f32⟩
  | 49 => ⟨S_, .f32⟩
  | 50 => ⟨S_, .f32⟩
  | 51 => ⟨S65536x4, .f32⟩
  | 52 => ⟨S65536x4, .f32⟩
  | 53 => ⟨S_, .f32⟩
  | 54 => ⟨S65536, .f32⟩
  | 55 => ⟨S65536x1, .f32⟩
  | 56 => ⟨S65536x4x8, .f32⟩
  | 57 => ⟨S65536x4x1, .i1⟩
  | 58 => ⟨S_, .f32⟩
  | 59 => ⟨S_, .f32⟩
  | 60 => ⟨S65536x4x8, .i1⟩
  | 61 => ⟨S65536x4x8, .f32⟩
  | 62 => ⟨S65536x4x8, .f32⟩
  | 63 => ⟨S_, .f32⟩
  | 64 => ⟨S65536x8, .f32⟩
  | 65 => ⟨S_, .f32⟩
  | 66 => ⟨S65536, .f32⟩
  | 67 => ⟨S_, .f32⟩
  | 68 => ⟨S65536, .f32⟩
  | 69 => ⟨S65536, .f32⟩
  | 70 => ⟨S65536x1, .f32⟩
  | 71 => ⟨S65536x8, .f32⟩
  | 72 => ⟨S65536x8, .f32⟩
  | 73 => ⟨S65536x8, .f32⟩
  | 74 => ⟨S_, .f32⟩
  | 75 => ⟨S65536, .f32⟩
  | 76 => ⟨S65536x1, .f32⟩
  | 77 => ⟨S65536x8, .f32⟩
  | 78 => ⟨S65536x8, .f32⟩
  | 79 => ⟨S65536x2, .f32⟩
  | 80 => ⟨S65536x2, .i32⟩
  | 81 => ⟨S65536x2, .f32⟩
  | 82 => ⟨S65536x2, .f32⟩
  | 83 => ⟨S_, .f32⟩
  | 84 => ⟨S65536, .f32⟩
  | 85 => ⟨S65536x1, .f32⟩
  | 86 => ⟨S65536x2, .f32⟩
  | 87 => ⟨S65536x2, .f32⟩
  | 88 => ⟨S_, .i32⟩
  | 89 => ⟨S65536x1, .i32⟩
  | 90 => ⟨S65536x1, .i32⟩
  | 91 => ⟨S65536x2, .i32⟩
  | 92 => ⟨S65536x2, .i32⟩
  | 93 => ⟨S2x65536, .i32⟩
  | 94 => ⟨S_, .i32⟩
  | 95 => ⟨S_, .i32⟩
  | 96 => ⟨S8x65536, .i32⟩
  | 97 => ⟨S2x65536, .f32⟩
  | 98 => ⟨S_, .i32⟩
  | 99 => ⟨S_, .f32⟩
  | 100 => ⟨S8x65536, .f32⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_v15 : Ref sig .tc := ⟨.hbm, 33, rfl⟩
abbrev main_cst_1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_2 : Ref sig .tc := ⟨.hbm, 59, rfl⟩
abbrev main_v32 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_cst_5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_cst_10 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_11 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_12 : Ref sig .tc := ⟨.hbm, 117, rfl⟩
abbrev main_v80 : Ref sig .tc := ⟨.hbm, 118, rfl⟩
abbrev main_v81 : Ref sig .tc := ⟨.hbm, 119, rfl⟩
abbrev main_cst_13 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_cst_16 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_values : Ref sig .tc := ⟨.hbm, 156, rfl⟩
abbrev main_indices : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_17 : Ref sig .tc := ⟨.hbm, 163, rfl⟩
abbrev main_v119 : Ref sig .tc := ⟨.hbm, 164, rfl⟩
abbrev main_cst_18 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_19 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_20 : Ref sig .tc := ⟨.hbm, 177, rfl⟩
abbrev main_call1_v0 : Ref sig .tc := ⟨.hbm, 178, rfl⟩
abbrev main_call1_v1 : Ref sig .tc := ⟨.hbm, 179, rfl⟩
abbrev main_v130 : Ref sig .tc := ⟨.hbm, 180, rfl⟩
abbrev main_cst_21 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_22 : Ref sig .tc := ⟨.hbm, 186, rfl⟩
abbrev main_call2_v0 : Ref sig .tc := ⟨.hbm, 187, rfl⟩
abbrev main_call2_v1 : Ref sig .tc := ⟨.hbm, 188, rfl⟩
abbrev main_call2_v2 : Ref sig .tc := ⟨.hbm, 189, rfl⟩
abbrev main_v135 : Ref sig .tc := ⟨.hbm, 190, rfl⟩
abbrev main_cst_23 : Ref sig .tc := ⟨.hbm, 191, rfl⟩
abbrev main_v136 : Ref sig .tc := ⟨.hbm, 192, rfl⟩
abbrev main_cst_24 : Ref sig .tc := ⟨.hbm, 193, rfl⟩
abbrev main_v137 : Ref sig .tc := ⟨.hbm, 194, rfl⟩
abbrev main_cst_25 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_26 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_values_27 : Ref sig .tc := ⟨.hbm, 207, rfl⟩
abbrev main_indices_28 : Ref sig .tc := ⟨.hbm, 208, rfl⟩
abbrev main_v148 : Ref sig .tc := ⟨.hbm, 209, rfl⟩
abbrev main_v149 : Ref sig .tc := ⟨.hbm, 210, rfl⟩
abbrev main_cst_29 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_c : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_c_30 : Ref sig .tc := ⟨.hbm, 222, rfl⟩
abbrev main_call3_v0 : Ref sig .tc := ⟨.hbm, 223, rfl⟩
abbrev main_v159 : Ref sig .tc := ⟨.hbm, 224, rfl⟩
abbrev main_v160 : Ref sig .tc := ⟨.hbm, 225, rfl⟩
abbrev main_c_31 : Ref sig .tc := ⟨.hbm, 226, rfl⟩
abbrev main_call4_v0 : Ref sig .tc := ⟨.hbm, 227, rfl⟩
abbrev main_v161 : Ref sig .tc := ⟨.hbm, 228, rfl⟩

abbrev nD : Nat := 1
abbrev τ : Topo := Topo.v7x

variable {F : FTy → Type} [FloatOps F]
-- ==== Proof.AttnMath.lean ====
/- Softmax-weighted sums over the extended reals: of all keys with the far ones at minus infinity, and of the near ones. -/
module

public import Idealize.ShloMosaic.Lib.IdealHost

@[expose] public section

noncomputable section

open Idealize.ShloMosaic

namespace Cert.Attn

/-- Minus infinity, as the programs write it. -/
abbrev low : EReal := Ideal.ofBits .f32 0xFF800000#32

theorem low_eq : low = ⊥ := by
  simp [low, Ideal.ofBits, Ideal.ieee]

/-- The greatest of the scores. -/
def peak {n : Nat} (S : Fin n → EReal) : EReal := Finset.fold max low S Finset.univ

/-- The weights of the scores, not yet divided by their sum. -/
def weight {n : Nat} (S : Fin n → EReal) (k : Fin n) : EReal := Ideal.exp (S k - peak S)

/-- The weighted sum of the values over the sum of the weights. -/
def attend {n : Nat} (S V : Fin n → EReal) : EReal := Ideal.div (∑ k, weight S k * V k) (∑ k, weight S k)

/-- The sum of the values, each by its softmax. -/
def softmaxed {n : Nat} (S V : Fin n → EReal) : EReal := ∑ k, Ideal.div (weight S k) (∑ j, weight S j) * V k

theorem peak_eq_sup {n : Nat} (S : Fin n → EReal) : peak S = Finset.univ.sup S := by
  unfold peak
  rw [low_eq]
  rfl

theorem max_low_peak {n : Nat} (S : Fin n → EReal) : max low (peak S) = peak S := by
  rw [low_eq]
  exact max_eq_right bot_le

theorem exp_bot : Ideal.exp ⊥ = 0 := rfl
theorem exp_top : Ideal.exp ⊤ = ⊤ := rfl
theorem exp_coe (r : ℝ) : Ideal.exp (r : EReal) = ((Real.exp r : ℝ) : EReal) := rfl

theorem weight_nonneg {n : Nat} (S : Fin n → EReal) (k : Fin n) : 0 ≤ weight S k := by
  unfold weight
  induction S k - peak S with
  | bot => rw [exp_bot]
  | top => rw [exp_top]; exact le_top
  | coe x => rw [exp_coe]; exact_mod_cast (Real.exp_pos x).le

/-- Of finitely many finite scores the weights' sum is positive: the greatest has weight one. -/
theorem total_pos {n : Nat} (S : Fin n → EReal) (hn : 0 < n) (h : ∀ k, S k ≠ ⊥ ∧ S k ≠ ⊤) : 0 < ∑ k, weight S k := by
  obtain ⟨k, -, hk⟩ := Finset.exists_mem_eq_sup Finset.univ (⟨⟨0, hn⟩, Finset.mem_univ _⟩ : (Finset.univ : Finset (Fin n)).Nonempty) S
  have h1 : weight S k = 1 := by
    unfold weight
    rw [peak_eq_sup, hk]
    lift S k to ℝ using ⟨(h k).2, (h k).1⟩ with x
    rw [← EReal.coe_sub, sub_self, exp_coe, Real.exp_zero, EReal.coe_one]
  calc (0 : EReal) < 1 := by norm_num
    _ = weight S k := h1.symm
    _ ≤ ∑ k, weight S k := Finset.single_le_sum (fun j _ => weight_nonneg S j) (Finset.mem_univ k)

theorem sum_mul_of_nonneg {n : Nat} (f : Fin n → EReal) (c : EReal) (h0 : 0 ≤ c) (ht : c ≠ ⊤) :
    (∑ k, f k) * c = ∑ k, f k * c := by
  induction (Finset.univ : Finset (Fin n)) using Finset.induction_on with
  | empty => simp
  | insert a s ha ih => rw [Finset.sum_insert ha, Finset.sum_insert ha, EReal.right_distrib_of_nonneg_of_ne_top h0 ht, ih]

/-- Dividing the weighted sum is dividing each weight. -/
theorem attend_eq {n : Nat} (S V : Fin n → EReal) (h : 0 < ∑ k, weight S k) : attend S V = softmaxed S V := by
  unfold attend softmaxed
  generalize ∑ k, weight S k = L at h ⊢
  have hd : ∀ x, Ideal.div x L = x * L⁻¹ := fun x => by unfold Ideal.div; rw [if_neg h.ne']
  have hi : L⁻¹ ≠ ⊤ := by
    induction L with
    | bot => simp at h
    | top => simp
    | coe x => rw [← EReal.coe_inv]; exact EReal.coe_ne_top _
  rw [hd, sum_mul_of_nonneg _ _ (EReal.inv_nonneg_of_nonneg h.le) hi]
  exact Finset.sum_congr rfl fun k _ => by rw [hd, mul_right_comm]

/-- Keys at minus infinity carry no weight: the sum over all of them is the sum over a window of finite scores. -/
theorem attend_window {n m : Nat} (S V : Fin n → EReal) (S' V' : Fin m → EReal) (f : Fin m → Fin n)
    (hf : Function.Injective f) (hS : ∀ j, S (f j) = S' j) (hV : ∀ j, V (f j) = V' j)
    (hout : ∀ k, (∀ j, f j ≠ k) → S k = ⊥) (hm : 0 < m) (h : ∀ j, S' j ≠ ⊥ ∧ S' j ≠ ⊤) :
    attend S V = softmaxed S' V' := by
  have hp : peak S = peak S' := by
    rw [peak_eq_sup, peak_eq_sup]
    refine le_antisymm (Finset.sup_le fun k _ => ?_) (Finset.sup_le fun j _ => ?_)
    · by_cases hk : ∃ j, f j = k
      · obtain ⟨j, rfl⟩ := hk
        rw [hS]
        exact Finset.le_sup (Finset.mem_univ j)
      · rw [hout k fun j hj => hk ⟨j, hj⟩]
        exact bot_le
    · rw [← hS]
      exact Finset.le_sup (Finset.mem_univ (f j))
  have hw : ∀ j, weight S' j = weight S (f j) := fun j => by unfold weight; rw [hp, hS]
  have h0 : ∀ k, k ∉ Set.range f → weight S k = 0 := fun k hk => by
    unfold weight
    rw [hout k fun j hj => hk ⟨j, hj⟩, EReal.bot_sub, exp_bot]
  rw [← attend_eq S' V' (total_pos S' hm h)]
  unfold attend
  rw [Fintype.sum_of_injective f hf (fun j => weight S' j) (fun k => weight S k) h0 hw,
    Fintype.sum_of_injective f hf (fun j => weight S' j * V' j) (fun k => weight S k * V k)
      (fun k hk => by rw [h0 k hk, zero_mul]) (fun j => by rw [hw, hV])]

end Cert.Attn
-- ==== Proof.AttnBody.lean ====
/- One block of the attention call: the rows of a pair of heads over the keys of a row block. -/
module

public import proofs.«01_k».proof.Proof.AttnMath
public import Idealize.ShloMosaic.Lib.Pointwise
public import proofs.«01_k».proof.Proof.Gen.KernelIdeal.Skeleton

@[expose] public section

set_option maxRecDepth 65536

noncomputable section

open Idealize.ShloMosaic Idealize.ShloMosaic.TcCoe Idealize.SL.Sem

namespace Cert.KernelIdeal.Attn

open Cert.KernelIdeal Cert.KernelIdeal.Gen Cert.Attn

/-- The scores of the keys `K` for the query `Q`, of which `keep` selects the lanes of a head, with the biases `B`. -/
def laneScore (keep : Fin 128 → BitVec 1) (Q : Fin 128 → EReal) (K : Fin 768 → Fin 128 → EReal) (B : Fin 768 → EReal) (k : Fin 768) :
    EReal :=
  (∑ d : Fin 128, Scalar.select (keep d) (Q d) (Ideal.ofBits .bf16 0x0000#16) * K k d) + B k

/-- Whether a lane is of the pair's first head. -/
abbrev inFirst (d : Fin 128) : BitVec 1 := IntOp.cmpi .slt (BitVec.ofNat 32 d.val) 64#32
abbrev inSecond (d : Fin 128) : BitVec 1 := IntOp.xori (inFirst d) 1#1

theorem weights_at (Q : FVec Ideal S1x256x128 .bf16) (K : FVec Ideal S1x768x128 .bf16) (B : FVec Ideal S1x1x1x256x768 .f32)
    (q : Fin 256) (k : Fin 768) :
    k0_pay6 (F := Ideal) K Q B (ix2 q k)
      = weight (laneScore inFirst (fun d => Q (ix3 0 q d)) (fun k d => K (ix3 0 k d)) (fun k => B (ix5 0 0 0 q k))) k := by
  unfold weight peak laneScore
  pointwise [k0_pay6, k0_pay5, k0_pay4, k0_pay2]

theorem total_at (Q : FVec Ideal S1x256x128 .bf16) (K : FVec Ideal S1x768x128 .bf16) (B : FVec Ideal S1x1x1x256x768 .f32)
    (q : Fin 256) :
    k0_pay7 (F := Ideal) K Q B (ix2 q 0)
      = ∑ k, weight (laneScore inFirst (fun d => Q (ix3 0 q d)) (fun k d => K (ix3 0 k d)) (fun k => B (ix5 0 0 0 q k))) k := by
  simp only [← weights_at]
  unfold k0_pay7
  generalize k0_pay6 (F := Ideal) K Q B = P
  pointwise

theorem weighted_at (Q : FVec Ideal S1x256x128 .bf16) (K V : FVec Ideal S1x768x128 .bf16) (B : FVec Ideal S1x1x1x256x768 .f32)
    (q : Fin 256) (l : Fin 128) :
    k0_pay8 (F := Ideal) K V Q B (ix2 q l)
      = ∑ k, weight (laneScore inFirst (fun d => Q (ix3 0 q d)) (fun k d => K (ix3 0 k d)) (fun k => B (ix5 0 0 0 q k))) k
          * V (ix3 0 k l) := by
  simp only [← weights_at]
  unfold k0_pay8
  generalize k0_pay6 (F := Ideal) K Q B = P
  pointwise [k0_pay3]

theorem tail_at (Q : FVec Ideal S256x128 .bf16) (K V : FVec Ideal S768x128 .bf16) (L : FVec Ideal S256x1 .f32)
    (W : FVec Ideal S256x128 .f32) (B : FVec Ideal S1x1x1x256x768 .f32) (q : Fin 256) (l : Fin 128) :
    k0_pay1 (F := Ideal) K V Q k0_pay5 L W B (ix3 0 q l)
      = Scalar.select (inFirst l) (Ideal.div (W (ix2 q l)) (L (ix2 q 0)))
          (attend (laneScore inSecond (fun d => Q (ix2 q d)) (fun k d => K (ix2 k d)) (fun k => B (ix5 0 0 0 q k)))
            (fun k => V (ix2 k l))) := by
  unfold attend weight peak laneScore
  pointwise [k0_pay1, k0_pay5]

/-- The block's entry of query `q` in lane `l`. -/
theorem block_at (Q : FVec Ideal S1x256x128 .bf16) (K V : FVec Ideal S1x768x128 .bf16) (B0 B1 : FVec Ideal S1x1x1x256x768 .f32)
    (q : Fin 256) (l : Fin 128) :
    k0_pay1 (F := Ideal) (k0_pay2 K) (k0_pay3 V) (k0_pay4 Q) k0_pay5 (k0_pay7 K Q B0) (k0_pay8 K V Q B0) B1 (ix3 0 q l)
      = Scalar.select (inFirst l)
          (attend (laneScore inFirst (fun d => Q (ix3 0 q d)) (fun k d => K (ix3 0 k d)) (fun k => B0 (ix5 0 0 0 q k)))
            (fun k => V (ix3 0 k l)))
          (attend (laneScore inSecond (fun d => Q (ix3 0 q d)) (fun k d => K (ix3 0 k d)) (fun k => B1 (ix5 0 0 0 q k)))
            (fun k => V (ix3 0 k l))) := by
  rw [tail_at, total_at, weighted_at]
  have eQ : ∀ d, k0_pay4 (F := Ideal) Q (ix2 q d) = Q (ix3 0 q d) := fun d => by pointwise [k0_pay4]
  have eK : ∀ k d, k0_pay2 (F := Ideal) K (ix2 k d) = K (ix3 0 k d) := fun k d => by pointwise [k0_pay2]
  have eV : ∀ k d, k0_pay3 (F := Ideal) V (ix2 k d) = V (ix3 0 k d) := fun k d => by pointwise [k0_pay3]
  simp only [eQ, eK, eV]
  rfl

end Cert.KernelIdeal.Attn
-- ==== Proof.AttnTable.lean ====
/- The bias table that the host builds for the attention call: its integer chains, and its entry at an index. -/
module

public import proofs.«01_k».proof.Proof.Gen.KernelIdeal.Value
public import Idealize.ShloMosaic.Lib.Pipeline.ValueKit
public import Idealize.ShloMosaic.Lib.StableHlo.RunRead

@[expose] public section

set_option maxRecDepth 65536

noncomputable section

open Idealize.ShloMosaic Idealize.ShloMosaic.TcCoe Idealize.SL.Sem
open Idealize.ShloMosaic.StableHlo

namespace Cert.KernelIdeal.Attn

open Cert.KernelIdeal Cert.KernelIdeal.Gen

/-- One word in every entry. -/
abbrev allQ (w : BitVec 32) : IVec S256 32 := broadcastInDim S256 ![] bcast_S_S256 (constantI S_ 32 w)
abbrev allK (w : BitVec 32) : IVec S768 32 := broadcastInDim S768 ![] bcast_S_S768 (constantI S_ 32 w)
abbrev allC (w : BitVec 32) : IVec S256x1 32 := broadcastInDim S256x1 ![] bcast_S_S256x1 (constantI S_ 32 w)
abbrev allM (w : BitVec 32) : IVec S256x768 32 := broadcastInDim S256x768 ![] bcast_S_S256x768 (constantI S_ 32 w)
abbrev allT (w : BitVec 32) : IVec S3x256x768 32 := broadcastInDim S3x256x768 ![] bcast_S_S3x256x768 (constantI S_ 32 w)

/-- A query's column, a key's column; a query's row, a key's row, in the block whose first rows are `r0` and `s`. -/
def qCol : IVec S256x1 32 := broadcastInDim S256x1 ![0] bcast_S256_S256x1_0 (Host.remsi (iotaInDim S256 32 0) (allQ 64#32))
def kCol : IVec S1x768 32 := broadcastInDim S1x768 ![1] bcast_S768_S1x768_1 (Host.remsi (iotaInDim S768 32 0) (allK 64#32))
def qRow (r0 : BitVec 32) : IVec S256x1 32 :=
  broadcastInDim S256x1 ![0] bcast_S256_S256x1_0 (addi (allQ r0) (Host.divsi (iotaInDim S256 32 0) (allQ 64#32)))
def kRow (s : BitVec 32) : IVec S1x768 32 :=
  broadcastInDim S1x768 ![1] bcast_S768_S1x768_1 (addi (allK s) (Host.divsi (iotaInDim S768 32 0) (allK 64#32)))

/-- Queries and keys spread over all pairs. -/
abbrev overK (x : IVec S256x1 32) : IVec S256x768 32 := broadcastInDim S256x768 ![0, 1] bcast_S256x1_S256x768_0_1 x
abbrev overQ (x : IVec S1x768 32) : IVec S256x768 32 := broadcastInDim S256x768 ![0, 1] bcast_S1x768_S256x768_0_1 x

/-- The first position of a query's window: its own less half the window, kept between 0 and `hi`. -/
def first (x : IVec S256x1 32) (half hi : BitVec 32) : IVec S256x1 32 :=
  minsi (allC hi) (maxsi (allC 0#32) (subi x (allC half)))

/-- Whether a key lies in the window of `w` positions from a query's first one. -/
def inWindow (k : IVec S1x768 32) (f : IVec S256x1 32) (w : BitVec 32) : IVec S256x768 1 :=
  andi (cmpi .sge (overQ k) (overK f)) (cmpi .slt (overQ k) (overK (addi f (allC w))))

/-- A key's distance from a query, plus `w - 1`, kept between 0 and `hi`. -/
def offset (k : IVec S1x768 32) (q : IVec S256x1 32) (w hi : BitVec 32) : IVec S256x768 32 :=
  minsi (allM hi) (maxsi (allM 0#32) (subi (addi (subi (overQ k) (overK q)) (allM w)) (allM 1#32)))

def colOk : IVec S256x768 1 := inWindow kCol (first qCol 8#32 48#32) 16#32
def colIdx : IVec S256x768 32 := offset kCol qCol 16#32 30#32
def rowOk (r0 s : BitVec 32) : IVec S256x768 1 := inWindow (kRow s) (first (qRow r0) 4#32 120#32) 8#32
def rowIdx (r0 s : BitVec 32) : IVec S256x768 32 := addi (offset (kRow s) (qRow r0) 8#32 14#32) (muli (allM 0#32) colIdx)
def ok (r0 s : BitVec 32) : IVec S256x768 1 := andi (rowOk r0 s) colOk

/-- Three tables stacked; the pair of two tables. -/
def stack {w : Nat} (x y z : IVec S1x256x768 w) : IVec S3x256x768 w :=
  concatenate S3x256x768 0 [⟨S1x256x768, x⟩, ⟨S1x256x768, y⟩, ⟨S1x256x768, z⟩] concatenates_S1x256x768_S1x256x768_S1x256x768_S3x256x768_d0
def pairUp {w : Nat} (x y : IVec S3x256x768x1 w) : IVec S3x256x768x2 w :=
  concatenate S3x256x768x2 3 [⟨S3x256x768x1, x⟩, ⟨S3x256x768x1, y⟩] concatenates_S3x256x768x1_S3x256x768x1_S3x256x768x2_d3

theorem stack_eq {w : Nat} (x y z : IVec S1x256x768 w) :
    concatenate S3x256x768 0 [⟨S1x256x768, x⟩, ⟨S1x256x768, y⟩, ⟨S1x256x768, z⟩] concatenates_S1x256x768_S1x256x768_S1x256x768_S3x256x768_d0
      = stack x y z := rfl
theorem pairUp_eq {w : Nat} (x y : IVec S3x256x768x1 w) :
    concatenate S3x256x768x2 3 [⟨S3x256x768x1, x⟩, ⟨S3x256x768x1, y⟩] concatenates_S3x256x768x1_S3x256x768x1_S3x256x768x2_d3
      = pairUp x y := rfl

abbrev one1 {w : Nat} (x : IVec S256x768 w) : IVec S1x256x768 w := broadcastInDim S1x256x768 ![1, 2] bcast_S256x768_S1x256x768_1_2 x

/-- The three kinds of row block: the first, the inner ones, the last. -/
def okAll : IVec S3x256x768 1 := stack (one1 (ok 0#32 0#32)) (one1 (ok 4#32 0#32)) (one1 (ok 124#32 116#32))
def rowAll : IVec S3x256x768 32 := stack (one1 (rowIdx 0#32 0#32)) (one1 (rowIdx 4#32 0#32)) (one1 (rowIdx 124#32 116#32))
def colAll : IVec S3x256x768 32 := broadcastInDim S3x256x768 ![1, 2] bcast_S256x768_S3x256x768_1_2 colIdx

/-- A negative index counts from the end. -/
def wrap (n : BitVec 32) (x : IVec S3x256x768 32) : IVec S3x256x768 32 := select (cmpi .slt x (allT 0#32)) (addi x (allT n)) x
abbrev lift1 (x : IVec S3x256x768 32) : IVec S3x256x768x1 32 := broadcastInDim S3x256x768x1 ![0, 1, 2] bcast_S3x256x768_S3x256x768x1_0_1_2 x

/-- The table of the two indices of every pair. -/
def at2 : IVec S3x256x768x2 32 := pairUp (lift1 (wrap 15#32 rowAll)) (lift1 (wrap 31#32 colAll))

/-- The table: the bias of a pair in the window, minus infinity outside. -/
def biasTable (rpb : FVec Ideal S8x15x31 .f32) : FVec Ideal S3x4x2x256x768 .f32 :=
  shapeCast S3x4x2x256x768
    (transpose S3x8x256x768 [1, 0, 2, 3]
      (select (broadcastInDim S8x3x256x768 ![0, 1, 2, 3] bcast_S1x3x256x768_S8x3x256x768_0_1_2_3
          (broadcastInDim S1x3x256x768 ![1, 2, 3] bcast_S3x256x768_S1x3x256x768_1_2_3 okAll))
        (Host.gather gather_S8x15x31_S3x256x768x2_S8x3x256x768_0_12_n_n_12_3_811 rpb at2)
        (broadcastInDim S8x3x256x768 ![] bcast_S_S8x3x256x768 (constant S_ .f32 0xFF800000#32)))
      transposes_S8x3x256x768_S3x8x256x768_1_0_2_3)
    shapeCasts_S3x8x256x768_S3x4x2x256x768

set_option maxHeartbeats 4000000 in
/-- The call is entered with that table. -/
theorem table_eq (m : (ℓ : Loc nD τ sig) → Buf (Elt Ideal) ℓ) (c : Dev nD) :
    V m c main_v156 = biasTable (m ((c : Thread nD τ).loc main_arg1)) := by
  show StableHlo.after _ _ _ = _
  after_reads_simp [stack_eq, pairUp_eq]
  dsimp only [Matrix.cons_val]
  after_reads_simp [stack_eq, pairUp_eq]
  simp -implicitDefEqProofs only [StableHlo.TRef.toBuf, StableHlo.TRef.ofBuf, cast_cast, cast_eq, id_eq]
  rfl

end Cert.KernelIdeal.Attn
-- ==== Proof.AttnWindow.lean ====
/- The integers of the neighbourhood windows, and the entry of the host's bias table at a pair of tokens. -/
module

public import proofs.«01_k».proof.Proof.AttnTable

@[expose] public section

set_option maxRecDepth 65536

noncomputable section

open Idealize.ShloMosaic Idealize.ShloMosaic.TcCoe Idealize.SL.Sem

namespace Cert.Attn

/-- The first row of the window of a token in row `R`, and the first column of one in column `C`. -/
def rFirst (R : Nat) : Nat := min (R - 4) 120
def cFirst (C : Nat) : Nat := min (C - 8) 48

/-- The first key row that row block `b` reads, and the kind of the block: the first, an inner one, the last. -/
def kFirst (b : Nat) : Nat := min (4 * b - 4) 116
def kind (b : Nat) : Fin 3 := if b = 0 then 0 else if b = 31 then 2 else 1

/-- The word of whether a key at row `kr` of the block whose key rows begin at `s` lies in the row window of a query at
    row `qr` of the query rows from `r0`; the word of its row index; the same of columns. -/
def rowOkWord (r0 s qr kr : BitVec 32) : BitVec 1 :=
  IntOp.andi
    (IntOp.cmpi .sge (IntOp.addi s kr) (IntOp.minsi 120#32 (IntOp.maxsi 0#32 (IntOp.subi (IntOp.addi r0 qr) 4#32))))
    (IntOp.cmpi .slt (IntOp.addi s kr)
      (IntOp.addi (IntOp.minsi 120#32 (IntOp.maxsi 0#32 (IntOp.subi (IntOp.addi r0 qr) 4#32))) 8#32))

def rowIdxWord (r0 s qr kr : BitVec 32) : BitVec 32 :=
  IntOp.minsi 14#32 (IntOp.maxsi 0#32 (IntOp.subi (IntOp.addi (IntOp.subi (IntOp.addi s kr) (IntOp.addi r0 qr)) 8#32) 1#32))

def colOkWord (qc kc : BitVec 32) : BitVec 1 :=
  IntOp.andi (IntOp.cmpi .sge kc (IntOp.minsi 48#32 (IntOp.maxsi 0#32 (IntOp.subi qc 8#32))))
    (IntOp.cmpi .slt kc (IntOp.addi (IntOp.minsi 48#32 (IntOp.maxsi 0#32 (IntOp.subi qc 8#32))) 16#32))

def colIdxWord (qc kc : BitVec 32) : BitVec 32 :=
  IntOp.minsi 30#32 (IntOp.maxsi 0#32 (IntOp.subi (IntOp.addi (IntOp.subi kc qc) 16#32) 1#32))

/-- The element an index word selects among `n`: negative counts from the end, then kept in range. -/
def pick (n x : BitVec 32) (hi : Nat) : Nat :=
  min (Scalar.select (IntOp.cmpi .slt x 0#32) (IntOp.addi x n) x).toInt.toNat hi

/-- The rows a kind of block begins with. -/
def r0Word : Fin 3 → BitVec 32 := ![0#32, 4#32, 124#32]
def sWord : Fin 3 → BitVec 32 := ![0#32, 0#32, 116#32]

theorem rowOk_nat : ∀ (b : Fin 32) (qr : Fin 4) (kr : Fin 12),
    rowOkWord (r0Word (kind b)) (sWord (kind b)) (BitVec.ofNat 32 qr) (BitVec.ofNat 32 kr)
      = if rFirst (4 * b.val + qr.val) ≤ kFirst b + kr.val ∧ kFirst b + kr.val < rFirst (4 * b.val + qr.val) + 8 then 1#1 else 0#1 := by
  decide +kernel

theorem rowIdx_nat : ∀ (b : Fin 32) (qr : Fin 4) (kr : Fin 12),
    pick 15#32 (rowIdxWord (r0Word (kind b)) (sWord (kind b)) (BitVec.ofNat 32 qr) (BitVec.ofNat 32 kr)) 14
      = min (kFirst b + kr.val + 7 - (4 * b.val + qr.val)) 14 := by
  decide +kernel

theorem colOk_nat : ∀ (qc kc : Fin 64),
    colOkWord (BitVec.ofNat 32 qc) (BitVec.ofNat 32 kc)
      = if cFirst qc ≤ kc.val ∧ kc.val < cFirst qc + 16 then 1#1 else 0#1 := by
  decide +kernel

theorem colIdx_nat : ∀ (qc kc : Fin 64),
    pick 31#32 (colIdxWord (BitVec.ofNat 32 qc) (BitVec.ofNat 32 kc)) 30 = min (kc.val + 15 - qc.val) 30 := by
  decide +kernel

theorem div64 : ∀ k : Fin 768, IntOp.divsi .host (BitVec.ofNat 32 k.val) 64#32 = BitVec.ofNat 32 (k.val / 64) := by
  decide +kernel

theorem rem64 : ∀ k : Fin 768, IntOp.remsi .host (BitVec.ofNat 32 k.val) 64#32 = BitVec.ofNat 32 (k.val % 64) := by
  decide +kernel

theorem and_ite (a b : Prop) [Decidable a] [Decidable b] :
    IntOp.andi (if a then 1#1 else 0#1) (if b then 1#1 else 0#1) = if a ∧ b then 1#1 else 0#1 := by
  by_cases ha : a <;> by_cases hb : b <;> simp [ha, hb, IntOp.andi]

/-- Whether the key `(Rk, Ck)` lies in the window of the query `(R, C)`. -/
def near (R C Rk Ck : Nat) : Prop := (rFirst R ≤ Rk ∧ Rk < rFirst R + 8) ∧ (cFirst C ≤ Ck ∧ Ck < cFirst C + 16)
instance (R C Rk Ck : Nat) : Decidable (near R C Rk Ck) := inferInstanceAs (Decidable (_ ∧ _))

end Cert.Attn

namespace Cert.KernelIdeal.Attn

open Cert.KernelIdeal Cert.KernelIdeal.Gen Cert.Attn

theorem rowOk_at (r0 s : BitVec 32) (q : Fin 256) (k : Fin 768) :
    rowOk r0 s (ix2 q k) = rowOkWord r0 s (BitVec.ofNat 32 (q.val / 64)) (BitVec.ofNat 32 (k.val / 64)) := by
  rw [← div64 k, ← div64 ⟨q.val, by omega⟩]
  unfold rowOk inWindow first kRow qRow rowOkWord
  pointwise

theorem colOk_at (q : Fin 256) (k : Fin 768) :
    colOk (ix2 q k) = colOkWord (BitVec.ofNat 32 (q.val % 64)) (BitVec.ofNat 32 (k.val % 64)) := by
  rw [← rem64 k, ← rem64 ⟨q.val, by omega⟩]
  unfold colOk inWindow first kCol qCol colOkWord
  pointwise

theorem colIdx_at (q : Fin 256) (k : Fin 768) :
    colIdx (ix2 q k) = colIdxWord (BitVec.ofNat 32 (q.val % 64)) (BitVec.ofNat 32 (k.val % 64)) := by
  rw [← rem64 k, ← rem64 ⟨q.val, by omega⟩]
  unfold colIdx offset kCol qCol colIdxWord
  pointwise

theorem rowIdx_at (r0 s : BitVec 32) (q : Fin 256) (k : Fin 768) :
    rowIdx r0 s (ix2 q k) = rowIdxWord r0 s (BitVec.ofNat 32 (q.val / 64)) (BitVec.ofNat 32 (k.val / 64)) := by
  rw [← div64 k, ← div64 ⟨q.val, by omega⟩]
  unfold rowIdx offset kRow qRow rowIdxWord
  generalize colIdx = y
  pointwise
  simp [IntOp.muli, IntOp.addi]

theorem stack_at {w : Nat} (f : Fin 3 → IVec S256x768 w) (c : Fin 3) (q : Fin 256) (k : Fin 768) :
    stack (one1 (f 0)) (one1 (f 1)) (one1 (f 2)) (ix3 c q k) = f c (ix2 q k) := by
  generalize h0 : f 0 = x
  generalize h1 : f 1 = y
  generalize h2 : f 2 = z
  unfold stack
  pointwise
  match c with
  | 0 => simp [h0]
  | 1 => simp [h1]
  | 2 => simp [h2]

theorem pairUp_at0 (x y : IVec S3x256x768 32) (c : Fin 3) (q : Fin 256) (k : Fin 768) :
    pairUp (lift1 x) (lift1 y) (ix4 c q k 0) = x (ix3 c q k) := by
  unfold pairUp
  pointwise

theorem pairUp_at1 (x y : IVec S3x256x768 32) (c : Fin 3) (q : Fin 256) (k : Fin 768) :
    pairUp (lift1 x) (lift1 y) (ix4 c q k 1) = y (ix3 c q k) := by
  unfold pairUp
  pointwise

theorem okAll_at (c : Fin 3) (q : Fin 256) (k : Fin 768) : okAll (ix3 c q k) = ok (r0Word c) (sWord c) (ix2 q k) :=
  stack_at (fun c => ok (r0Word c) (sWord c)) c q k

theorem rowAll_at (c : Fin 3) (q : Fin 256) (k : Fin 768) : rowAll (ix3 c q k) = rowIdx (r0Word c) (sWord c) (ix2 q k) :=
  stack_at (fun c => rowIdx (r0Word c) (sWord c)) c q k

theorem colAll_at (c : Fin 3) (q : Fin 256) (k : Fin 768) : colAll (ix3 c q k) = colIdx (ix2 q k) := by
  unfold colAll
  generalize colIdx = y
  pointwise

theorem wrap_at (n : BitVec 32) (x : IVec S3x256x768 32) (i : S3x256x768.Idx) :
    wrap n x i = Scalar.select (IntOp.cmpi .slt (x i) 0#32) (IntOp.addi (x i) n) (x i) := by
  unfold wrap
  pointwise

/-- A table over the heads, read at a pair of indices of each pair of tokens. -/
theorem gather_at (rpb : FVec Ideal S8x15x31 .f32) (I : IVec S3x256x768x2 32) (h : Fin 8) (c : Fin 3) (q : Fin 256) (k : Fin 768) :
    Host.gather gather_S8x15x31_S3x256x768x2_S8x3x256x768_0_12_n_n_12_3_811 rpb I (ix4 h c q k)
      = rpb (ix3 h ⟨min (I (ix4 c q k 0)).toInt.toNat 14, by omega⟩ ⟨min (I (ix4 c q k 1)).toInt.toNat 30, by omega⟩) := by
  unfold Host.gather
  congr 1
  funext a
  refine Fin.ext ?_
  show GatherDims.start _ _ _ _ + GatherDims.batchCoord _ _ _ + GatherDims.offCoord _ _ _ = _
  rw [GatherDims.batchCoord_eq_zero _ _ _ (by rintro ⟨⟩), Nat.add_zero]
  match a with
  | ⟨0, _⟩ =>
    unfold GatherDims.start GatherDims.offCoord
    rw [dif_neg (by decide +revert), dif_pos (by decide +revert), Nat.zero_add]
    rfl
  | ⟨1, _⟩ =>
    rw [GatherDims.offCoord_eq_zero _ _ _ (by decide +revert), Nat.add_zero]
    unfold GatherDims.start
    rw [dif_pos (by decide +revert)]
    refine congrArg (fun z => min (BitVec.toInt (I z)).toNat 14) ?_
    funext b
    match b with
    | ⟨0, _⟩ => rfl
    | ⟨1, _⟩ => rfl
    | ⟨2, _⟩ => rfl
    | ⟨3, _⟩ => rfl
  | ⟨2, _⟩ =>
    rw [GatherDims.offCoord_eq_zero _ _ _ (by decide +revert), Nat.add_zero]
    unfold GatherDims.start
    rw [dif_pos (by decide +revert)]
    refine congrArg (fun z => min (BitVec.toInt (I z)).toNat 30) ?_
    funext b
    match b with
    | ⟨0, _⟩ => rfl
    | ⟨1, _⟩ => rfl
    | ⟨2, _⟩ => rfl
    | ⟨3, _⟩ => rfl

theorem at2_row (c : Fin 3) (q : Fin 256) (k : Fin 768) :
    min (at2 (ix4 c q k 0)).toInt.toNat 14
      = pick 15#32 (rowIdxWord (r0Word c) (sWord c) (BitVec.ofNat 32 (q.val / 64)) (BitVec.ofNat 32 (k.val / 64))) 14 := by
  have e0 : at2 (ix4 c q k 0) = wrap 15#32 rowAll (ix3 c q k) := pairUp_at0 _ _ _ _ _
  rw [e0, wrap_at, rowAll_at, rowIdx_at]
  rfl

theorem at2_col (c : Fin 3) (q : Fin 256) (k : Fin 768) :
    min (at2 (ix4 c q k 1)).toInt.toNat 30
      = pick 31#32 (colIdxWord (BitVec.ofNat 32 (q.val % 64)) (BitVec.ofNat 32 (k.val % 64))) 30 := by
  have e1 : at2 (ix4 c q k 1) = wrap 31#32 colAll (ix3 c q k) := pairUp_at1 _ _ _ _ _
  rw [e1, wrap_at, colAll_at, colIdx_at]
  rfl

attribute [local irreducible] at2 okAll

/-- The entry of the host's table for the `h`-th head of pair `p`, query `q` and key `k` of row block `b`. -/
theorem bias_at (rpb : FVec Ideal S8x15x31 .f32) (b : Fin 32) (p : Fin 4) (h : Fin 2) (q : Fin 256) (k : Fin 768) :
    biasTable rpb (ix5 (kind b) p h q k)
      = if near (4 * b.val + q.val / 64) (q.val % 64) (kFirst b + k.val / 64) (k.val % 64) then
          rpb (ix3 ⟨p.val * 2 + h.val, by omega⟩
            ⟨min (kFirst b + k.val / 64 + 7 - (4 * b.val + q.val / 64)) 14, by omega⟩
            ⟨min (k.val % 64 + 15 - q.val % 64) 30, by omega⟩)
        else Ideal.ofBits .f32 0xFF800000#32 := by
  have e : biasTable rpb (ix5 (kind b) p h q k)
      = Scalar.select (okAll (ix3 (kind b) q k))
          (Host.gather gather_S8x15x31_S3x256x768x2_S8x3x256x768_0_12_n_n_12_3_811 rpb at2
            (ix4 ⟨p.val * 2 + h.val, by omega⟩ (kind b) q k)) (Ideal.ofBits .f32 0xFF800000#32) := by
    unfold biasTable
    generalize okAll = O
    generalize at2 = I
    generalize Host.gather gather_S8x15x31_S3x256x768x2_S8x3x256x768_0_12_n_n_12_3_811 rpb I = G
    generalize kind b = c
    pointwise
  have r := (at2_row (kind b) q k).trans (rowIdx_nat b ⟨q.val / 64, by omega⟩ ⟨k.val / 64, by omega⟩)
  have l := (at2_col (kind b) q k).trans (colIdx_nat ⟨q.val % 64, by omega⟩ ⟨k.val % 64, by omega⟩)
  dsimp only at r l
  have o : okAll (ix3 (kind b) q k)
      = if near (4 * b.val + q.val / 64) (q.val % 64) (kFirst b + k.val / 64) (k.val % 64) then 1#1 else 0#1 := by
    rw [okAll_at]
    show IntOp.andi (rowOk _ _ (ix2 q k)) (colOk (ix2 q k)) = _
    rw [rowOk_at, colOk_at, rowOk_nat b ⟨q.val / 64, by omega⟩ ⟨k.val / 64, by omega⟩,
      colOk_nat ⟨q.val % 64, by omega⟩ ⟨k.val % 64, by omega⟩]
    exact and_ite _ _
  rw [e, gather_at, o]
  simp only [r, l]
  split <;> rfl

end Cert.KernelIdeal.Attn
-- ==== Proof.AttnRef.lean ====
/- The reference's attention at an index: the scores of a token's window, their softmax, the weighted values. -/
module

public import proofs.«01_k».proof.Proof.AttnMath
public import proofs.«01_k».proof.Proof.AttnWindow
public import proofs.«01_k».proof.Proof.Gen.ReferenceIdeal.Read

@[expose] public section

set_option maxRecDepth 65536

noncomputable section

open Idealize.ShloMosaic Idealize.ShloMosaic.TcCoe Idealize.SL.Sem

namespace Cert.Attn

theorem rFirst_le (R : Nat) : rFirst R ≤ 120 := Nat.min_le_right _ _
theorem cFirst_le (C : Nat) : cFirst C ≤ 48 := Nat.min_le_right _ _

/-- The `j`-th key of the window of token `s`. -/
def key (s : Fin 8192) (j : Fin 128) : Fin 8192 :=
  ⟨(rFirst (s.val / 64) + j.val / 16) * 64 + (cFirst (s.val % 64) + j.val % 16), by
    have := rFirst_le (s.val / 64); have := cFirst_le (s.val % 64); omega⟩

/-- The entry of the position bias for the `j`-th key of the window of token `s`. -/
def biasRow (s : Fin 8192) (j : Fin 128) : Fin 15 := ⟨min (rFirst (s.val / 64) + j.val / 16 + 7 - s.val / 64) 14, by omega⟩
def biasCol (s : Fin 8192) (j : Fin 128) : Fin 31 := ⟨min (cFirst (s.val % 64) + j.val % 16 + 15 - s.val % 64) 30, by omega⟩

/-- The score of the `j`-th key of the window of token `s`, in batch `b` and head `h`. -/
def score (x : FVec Ideal ⟨3, ![8, 8192, 1536]⟩ .bf16) (rpb : FVec Ideal ⟨3, ![8, 15, 31]⟩ .f32) (b h : Fin 8) (s : Fin 8192)
    (j : Fin 128) : EReal :=
  (∑ d : Fin 64, x (ix3 b s ⟨h.val * 64 + d.val, by omega⟩) * x (ix3 b (key s j) ⟨512 + (h.val * 64 + d.val), by omega⟩))
    + rpb (ix3 h (biasRow s j) (biasCol s j))

end Cert.Attn

namespace Cert.ReferenceIdeal.Attn

open Cert.ReferenceIdeal Cert.ReferenceIdeal.Gen Cert.ReferenceIdeal.Read Cert.Attn

theorem first_row : ∀ (R : Fin 128) (a : Fin 8),
    IntOp.addi (IntOp.minsi 120#32 (IntOp.maxsi 0#32 (IntOp.subi (BitVec.ofNat 32 R.val) 4#32))) (BitVec.ofNat 32 a.val)
      = BitVec.ofNat 32 (rFirst R.val + a.val) := by
  decide +kernel

theorem first_col : ∀ (C : Fin 64) (a : Fin 16),
    IntOp.addi (IntOp.minsi 48#32 (IntOp.maxsi 0#32 (IntOp.subi (BitVec.ofNat 32 C.val) 8#32))) (BitVec.ofNat 32 a.val)
      = BitVec.ofNat 32 (cFirst C.val + a.val) := by
  decide +kernel

theorem rows_at (R : Fin 128) (a : Fin 8) : val_main_v19 (F := Ideal) (ix4 R 0 a 0) = BitVec.ofNat 32 (rFirst R.val + a.val) := by
  rw [← first_row]
  pointwise [val_main_v19, val_main_v18, val_main_v17, val_main_v16, val_main_v15, val_main_v14, val_main_v13,
    val_main_call0_v4, val_main_call0_v3, val_main_call0_v2, val_main_call0_v1, val_main_call0_v0, val_main_c_1,
    val_main_c_0, val_main_v12, val_main_v11, val_main_c, val_main_v8, val_main_v7]
  rfl

theorem cols_at (C : Fin 64) (a : Fin 16) : val_main_v27 (F := Ideal) (ix4 0 C 0 a) = BitVec.ofNat 32 (cFirst C.val + a.val) := by
  rw [← first_col]
  pointwise [val_main_v27, val_main_v26, val_main_v25, val_main_v24, val_main_v23, val_main_v22, val_main_v21,
    val_main_v20, val_main_call1_v4, val_main_call1_v3, val_main_call1_v2, val_main_call1_v1, val_main_call1_v0,
    val_main_c_2, val_main_c_3, val_main_c_4, val_main_v10, val_main_v9]
  rfl

/-- The word of a key. -/
theorem win_at (s : Fin 8192) (j : Fin 128) : val_main_v33 (F := Ideal) (ix2 s j) = BitVec.ofNat 32 (key s j).val := by
  have e : val_main_v33 (F := Ideal) (ix2 s j)
      = IntOp.addi (IntOp.muli (val_main_v19 (F := Ideal) (ix4 ⟨s.val / 64, by omega⟩ 0 ⟨j.val / 16, by omega⟩ 0)) 64#32)
          (val_main_v27 (F := Ideal) (ix4 0 ⟨s.val % 64, by omega⟩ 0 ⟨j.val % 16, by omega⟩)) := by
    pointwise [val_main_v33, val_main_v32, val_main_v31, val_main_v30, val_main_v29, val_main_v28, val_main_c_5]
  rw [e, rows_at, cols_at]
  simp only [IntOp.addi, IntOp.muli, key, BitVec.ofNat_add, BitVec.ofNat_mul]

theorem pick_key : ∀ w : Fin 8192, pick 8192#32 (BitVec.ofNat 32 w.val) 8191 = w.val := by
  decide +kernel

theorem key_index (s : Fin 8192) (j : Fin 128) :
    min (val_main_v55 (F := Ideal) (ix3 s j 0)).toInt.toNat 8191 = (key s j).val := by
  rw [← pick_key (key s j), ← win_at]
  unfold pick
  generalize e : val_main_v33 (F := Ideal) = y
  pointwise [val_main_v55, val_main_v54, val_main_v53, val_main_v52, val_main_v51, val_main_v50, val_main_c_10, val_main_c_11]
  rw [e]

theorem value_index (s : Fin 8192) (j : Fin 128) :
    min (val_main_v91 (F := Ideal) (ix3 s j 0)).toInt.toNat 8191 = (key s j).val := by
  rw [← pick_key (key s j), ← win_at]
  unfold pick
  generalize e : val_main_v33 (F := Ideal) = y
  pointwise [val_main_v91, val_main_v90, val_main_v89, val_main_v88, val_main_v87, val_main_v86, val_main_c_18, val_main_c_19]
  rw [e]

theorem pick_row : ∀ (R : Fin 128) (a : Fin 8),
    pick 15#32 (IntOp.subi (IntOp.addi (IntOp.subi (BitVec.ofNat 32 (rFirst R.val + a.val)) (BitVec.ofNat 32 R.val)) 8#32) 1#32) 14
      = min (rFirst R.val + a.val + 7 - R.val) 14 := by
  decide +kernel

theorem pick_col : ∀ (C : Fin 64) (a : Fin 16),
    pick 31#32 (IntOp.subi (IntOp.addi (IntOp.subi (BitVec.ofNat 32 (cFirst C.val + a.val)) (BitVec.ofNat 32 C.val)) 16#32) 1#32) 30
      = min (cFirst C.val + a.val + 15 - C.val) 30 := by
  decide +kernel

theorem row_off_at (s : Fin 8192) (j : Fin 128) :
    val_main_v41 (F := Ideal) (ix2 s j)
      = IntOp.subi (IntOp.addi (IntOp.subi (val_main_v19 (F := Ideal) (ix4 ⟨s.val / 64, by omega⟩ 0 ⟨j.val / 16, by omega⟩ 0))
          (BitVec.ofNat 32 (s.val / 64))) 8#32) 1#32 := by
  pointwise [val_main_v41, val_main_v40, val_main_v39, val_main_v38, val_main_v37, val_main_v36, val_main_v35, val_main_v34,
    val_main_c_6, val_main_c_7, val_main_v8, val_main_v7]

theorem col_off_at (s : Fin 8192) (j : Fin 128) :
    val_main_v49 (F := Ideal) (ix2 s j)
      = IntOp.subi (IntOp.addi (IntOp.subi (val_main_v27 (F := Ideal) (ix4 0 ⟨s.val % 64, by omega⟩ 0 ⟨j.val % 16, by omega⟩))
          (BitVec.ofNat 32 (s.val % 64))) 16#32) 1#32 := by
  pointwise [val_main_v49, val_main_v48, val_main_v47, val_main_v46, val_main_v45, val_main_v44, val_main_v43, val_main_v42,
    val_main_c_8, val_main_c_9, val_main_v10, val_main_v9]

theorem row_index (s : Fin 8192) (j : Fin 128) :
    min (val_main_v70 (F := Ideal) (ix3 s j 0)).toInt.toNat 14 = (biasRow s j).val := by
  refine Eq.trans ?_ (pick_row ⟨s.val / 64, by omega⟩ ⟨j.val / 16, by omega⟩)
  rw [← rows_at]
  dsimp only
  rw [← row_off_at]
  unfold pick
  generalize e : val_main_v41 (F := Ideal) = y
  pointwise [val_main_v70, val_main_v68, val_main_v62, val_main_v61, val_main_v60, val_main_v59, val_main_v58, val_main_c_12,
    val_main_c_13]
  rw [e]

theorem col_index (s : Fin 8192) (j : Fin 128) :
    min (val_main_v70 (F := Ideal) (ix3 s j 1)).toInt.toNat 30 = (biasCol s j).val := by
  refine Eq.trans ?_ (pick_col ⟨s.val % 64, by omega⟩ ⟨j.val % 16, by omega⟩)
  rw [← cols_at]
  dsimp only
  rw [← col_off_at]
  unfold pick
  generalize e : val_main_v49 (F := Ideal) = y
  pointwise [val_main_v70, val_main_v69, val_main_v67, val_main_v66, val_main_v65, val_main_v64, val_main_v63, val_main_c_14,
    val_main_c_15]
  rw [e]

/-- Rows of an array taken by a table of row numbers. -/
theorem take_at (X : FVec Ideal S8x8192x8x64 .f32) (I : IVec S8192x128x1 32) (b : Fin 8) (s : Fin 8192) (j : Fin 128) (h : Fin 8)
    (d : Fin 64) :
    Host.gather gather_S8x8192x8x64_S8192x128x1_S8x8192x128x8x64_034_1_n_n_1_2_81864 X I (ix5 b s j h d)
      = X (ix4 b ⟨min (I (ix3 s j 0)).toInt.toNat 8191, by omega⟩ h d) := by
  unfold Host.gather
  congr 1
  funext a
  refine Fin.ext ?_
  show GatherDims.start _ _ _ _ + GatherDims.batchCoord _ _ _ + GatherDims.offCoord _ _ _ = _
  rw [GatherDims.batchCoord_eq_zero _ _ _ (by rintro ⟨⟩), Nat.add_zero]
  match a with
  | ⟨0, _⟩ =>
    unfold GatherDims.start GatherDims.offCoord
    rw [dif_neg (by decide +revert), dif_pos (by decide +revert), Nat.zero_add]
    rfl
  | ⟨1, _⟩ =>
    rw [GatherDims.offCoord_eq_zero _ _ _ (by decide +revert), Nat.add_zero]
    unfold GatherDims.start
    rw [dif_pos (by decide +revert)]
    refine congrArg (fun z => min (BitVec.toInt (I z)).toNat 8191) ?_
    funext b
    match b with
    | ⟨0, _⟩ => rfl
    | ⟨1, _⟩ => rfl
    | ⟨2, _⟩ => rfl
  | ⟨2, _⟩ =>
    unfold GatherDims.start GatherDims.offCoord
    rw [dif_neg (by decide +revert), dif_pos (by decide +revert), Nat.zero_add]
    rfl
  | ⟨3, _⟩ =>
    unfold GatherDims.start GatherDims.offCoord
    rw [dif_neg (by decide +revert), dif_pos (by decide +revert), Nat.zero_add]
    rfl

/-- A table over the heads, read at a pair of indices of each token and key. -/
theorem gather_at (rpb : FVec Ideal S8x15x31 .f32) (I : IVec S8192x128x2 32) (h : Fin 8) (s : Fin 8192) (j : Fin 128) :
    Host.gather gather_S8x15x31_S8192x128x2_S8x8192x128_0_12_n_n_12_2_811 rpb I (ix3 h s j)
      = rpb (ix3 h ⟨min (I (ix3 s j 0)).toInt.toNat 14, by omega⟩ ⟨min (I (ix3 s j 1)).toInt.toNat 30, by omega⟩) := by
  unfold Host.gather
  congr 1
  funext a
  refine Fin.ext ?_
  show GatherDims.start _ _ _ _ + GatherDims.batchCoord _ _ _ + GatherDims.offCoord _ _ _ = _
  rw [GatherDims.batchCoord_eq_zero _ _ _ (by rintro ⟨⟩), Nat.add_zero]
  match a with
  | ⟨0, _⟩ =>
    unfold GatherDims.start GatherDims.offCoord
    rw [dif_neg (by decide +revert), dif_pos (by decide +revert), Nat.zero_add]
    rfl
  | ⟨1, _⟩ =>
    rw [GatherDims.offCoord_eq_zero _ _ _ (by decide +revert), Nat.add_zero]
    unfold GatherDims.start
    rw [dif_pos (by decide +revert)]
    refine congrArg (fun z => min (BitVec.toInt (I z)).toNat 14) ?_
    funext b
    match b with
    | ⟨0, _⟩ => rfl
    | ⟨1, _⟩ => rfl
    | ⟨2, _⟩ => rfl
  | ⟨2, _⟩ =>
    rw [GatherDims.offCoord_eq_zero _ _ _ (by decide +revert), Nat.add_zero]
    unfold GatherDims.start
    rw [dif_pos (by decide +revert)]
    refine congrArg (fun z => min (BitVec.toInt (I z)).toNat 30) ?_
    funext b
    match b with
    | ⟨0, _⟩ => rfl
    | ⟨1, _⟩ => rfl
    | ⟨2, _⟩ => rfl

theorem bias_ref (rpb : FVec Ideal S8x15x31 .f32) (h : Fin 8) (s : Fin 8192) (j : Fin 128) :
    val_main_v71 (F := Ideal) rpb (ix3 h s j) = rpb (ix3 h (biasRow s j) (biasCol s j)) := by
  unfold val_main_v71
  rw [gather_at]
  simp only [row_index, col_index]

theorem keys_at (x : FVec Ideal S8x8192x1536 .bf16) (b : Fin 8) (s : Fin 8192) (j : Fin 128) (h : Fin 8) (d : Fin 64) :
    val_main_v56 (F := Ideal) x (ix5 b s j h d) = x (ix3 b (key s j) ⟨512 + (h.val * 64 + d.val), by omega⟩) := by
  unfold val_main_v56
  rw [take_at]
  simp only [key_index]
  pointwise [val_main_v5, val_main_v2, val_main_v0]

theorem values_at (x : FVec Ideal S8x8192x1536 .bf16) (b : Fin 8) (s : Fin 8192) (j : Fin 128) (h : Fin 8) (d : Fin 64) :
    val_main_v92 (F := Ideal) x (ix5 b s j h d) = x (ix3 b (key s j) ⟨1024 + (h.val * 64 + d.val), by omega⟩) := by
  unfold val_main_v92
  rw [take_at]
  simp only [value_index]
  pointwise [val_main_v6, val_main_v3, val_main_v0]

theorem score_at (x : FVec Ideal S8x8192x1536 .bf16) (rpb : FVec Ideal S8x15x31 .f32) (b h : Fin 8) (s : Fin 8192) (j : Fin 128) :
    val_main_v74 (F := Ideal) x rpb (ix4 b h s j) = score x rpb b h s j := by
  have e : val_main_v74 (F := Ideal) x rpb (ix4 b h s j)
      = (∑ d : Fin 64, x (ix3 b s ⟨h.val * 64 + d.val, by omega⟩) * val_main_v56 (F := Ideal) x (ix5 b s j h d))
        + val_main_v71 (F := Ideal) rpb (ix3 h s j) := by
    unfold val_main_v74 val_main_v73 val_main_v72 val_main_v57
    generalize val_main_v56 (F := Ideal) x = K
    generalize val_main_v71 (F := Ideal) rpb = B
    pointwise [val_main_v4, val_main_v1, val_main_v0]
  rw [e, bias_ref]
  unfold score
  simp only [keys_at]

theorem greatest_at (Z : FVec Ideal S8x8x8192x128 .f32) (b h : Fin 8) (s : Fin 8192) :
    Host.reduce FloatOps.maximumf Z (constant (F := Ideal) S_ .f32 0xFF800000#32) reducesTo_S8x8x8192x128_S8x8x8192_d3 h_S_ (ix3 b h s)
      = Finset.fold max low (fun j => Z (ix4 b h s j)) Finset.univ := by
  pointwise

theorem at_least_at (Z : FVec Ideal S8x8x8192 .f32) (b h : Fin 8) (s : Fin 8192) :
    maximumf (val_main_v76 (F := Ideal)) Z (ix3 b h s) = max low (Z (ix3 b h s)) := by
  pointwise [val_main_v76, val_main_cst_16]

theorem peak_at (x : FVec Ideal S8x8192x1536 .bf16) (rpb : FVec Ideal S8x15x31 .f32) (b h : Fin 8) (s : Fin 8192) :
    val_main_v77 (F := Ideal) x rpb (ix3 b h s) = peak (score x rpb b h s) := by
  have e : val_main_v75 (F := Ideal) x rpb (ix3 b h s) = peak (score x rpb b h s) := by
    unfold val_main_v75 val_main_cst
    rw [greatest_at]
    simp only [score_at]
    rfl
  unfold val_main_v77
  rw [at_least_at, e, max_low_peak]

theorem weight_at (x : FVec Ideal S8x8192x1536 .bf16) (rpb : FVec Ideal S8x15x31 .f32) (b h : Fin 8) (s : Fin 8192) (j : Fin 128) :
    val_main_v81 (F := Ideal) x rpb (ix4 b h s j) = weight (score x rpb b h s) j := by
  have e : val_main_v81 (F := Ideal) x rpb (ix4 b h s j)
      = Ideal.exp (val_main_v74 (F := Ideal) x rpb (ix4 b h s j) - val_main_v77 (F := Ideal) x rpb (ix3 b h s)) := by
    unfold val_main_v81 val_main_v80 val_main_v79 val_main_v78
    generalize val_main_v74 (F := Ideal) x rpb = Z
    generalize val_main_v77 (F := Ideal) x rpb = M
    pointwise
  rw [e, score_at, peak_at]
  rfl

theorem softmax_at (x : FVec Ideal S8x8192x1536 .bf16) (rpb : FVec Ideal S8x15x31 .f32) (b h : Fin 8) (s : Fin 8192) (j : Fin 128) :
    val_main_v85 (F := Ideal) x rpb (ix4 b h s j)
      = Ideal.div (weight (score x rpb b h s) j) (∑ i, weight (score x rpb b h s) i) := by
  have e : val_main_v85 (F := Ideal) x rpb (ix4 b h s j)
      = Ideal.div (val_main_v81 (F := Ideal) x rpb (ix4 b h s j)) (∑ i, val_main_v81 (F := Ideal) x rpb (ix4 b h s i)) := by
    unfold val_main_v85 val_main_v84 val_main_v83 val_main_v82
    generalize val_main_v81 (F := Ideal) x rpb = Z
    pointwise [val_main_cst_17]
  rw [e]
  simp only [weight_at]

theorem flat_at (x : FVec Ideal S8x8192x1536 .bf16) (rpb : FVec Ideal S8x15x31 .f32) (b : Fin 8) (s : Fin 8192) (c : Fin 512) :
    val_main_v95 (F := Ideal) x rpb (ix3 b s c)
      = val_main_v93 (F := Ideal) x rpb (ix4 b s ⟨c.val / 64, by omega⟩ ⟨c.val % 64, by omega⟩) := by
  unfold val_main_v95 val_main_v94
  generalize val_main_v93 (F := Ideal) x rpb = Z
  pointwise

theorem sum_at (x : FVec Ideal S8x8192x1536 .bf16) (rpb : FVec Ideal S8x15x31 .f32) (b : Fin 8) (s : Fin 8192) (h : Fin 8) (d : Fin 64) :
    val_main_v93 (F := Ideal) x rpb (ix4 b s h d)
      = ∑ j : Fin 128, val_main_v85 (F := Ideal) x rpb (ix4 b h s j) * val_main_v92 (F := Ideal) x (ix5 b s j h d) := by
  unfold val_main_v93
  generalize val_main_v85 (F := Ideal) x rpb = Z
  generalize val_main_v92 (F := Ideal) x = Y
  pointwise

/-- The reference's entry of token `s` in column `c`: the values of its head's lane, by the softmax of its window's scores. -/
theorem result_at (x : FVec Ideal S8x8192x1536 .bf16) (rpb : FVec Ideal S8x15x31 .f32) (b : Fin 8) (s : Fin 8192) (c : Fin 512) :
    val_main_v95 (F := Ideal) x rpb (ix3 b s c)
      = softmaxed (score x rpb b ⟨c.val / 64, by omega⟩ s) (fun j => x (ix3 b (key s j) ⟨1024 + c.val, by omega⟩)) := by
  rw [flat_at, sum_at]
  unfold softmaxed
  refine Finset.sum_congr rfl fun j _ => ?_
  rw [softmax_at, values_at]
  refine congrArg (fun z => _ * x (ix3 b (key s j) z)) (Fin.ext ?_)
  show 1024 + (c.val / 64 * 64 + c.val % 64) = 1024 + c.val
  omega

end Cert.ReferenceIdeal.Attn
-- ==== Proof.AttnPair.lean ====
/- A block's scores are the scores of the windows of its queries: the keys outside a window are at minus infinity. -/
module

public import proofs.«01_k».proof.Proof.AttnBody
public import proofs.«01_k».proof.Proof.AttnRef

@[expose] public section

noncomputable section

open Idealize.ShloMosaic Idealize.ShloMosaic.TcCoe Idealize.SL.Sem

namespace Cert.Attn

/-- A real number, among the extended ones. -/
def Finite (e : EReal) : Prop := e ≠ ⊥ ∧ e ≠ ⊤

theorem Finite.exists {e : EReal} (h : Finite e) : ∃ r : ℝ, e = r := by
  lift e to ℝ using ⟨h.2, h.1⟩
  exact ⟨e, rfl⟩

theorem finite_coe (r : ℝ) : Finite (r : EReal) := ⟨EReal.coe_ne_bot r, EReal.coe_ne_top r⟩

theorem Finite.add {a b : EReal} (ha : Finite a) (hb : Finite b) : Finite (a + b) := by
  obtain ⟨r, rfl⟩ := ha.exists
  obtain ⟨s, rfl⟩ := hb.exists
  rw [← EReal.coe_add]
  exact finite_coe _

theorem Finite.mul {a b : EReal} (ha : Finite a) (hb : Finite b) : Finite (a * b) := by
  obtain ⟨r, rfl⟩ := ha.exists
  obtain ⟨s, rfl⟩ := hb.exists
  rw [← EReal.coe_mul]
  exact finite_coe _

theorem Finite.sum {n : Nat} (f : Fin n → EReal) (h : ∀ i, Finite (f i)) : Finite (∑ i, f i) := by
  induction (Finset.univ : Finset (Fin n)) using Finset.induction_on with
  | empty => exact finite_coe 0
  | insert a s ha ih => rw [Finset.sum_insert ha]; exact (h a).add ih

/-- The product of a query whose other head's lanes are cleared with a key is the product over the head's lanes. -/
theorem lanes_sum (keep : Fin 128 → BitVec 1) (hh : Fin 2) (hk : ∀ d : Fin 128, keep d = if d.val / 64 = hh.val then 1#1 else 0#1)
    (Q K : Fin 128 → EReal) :
    ∑ d : Fin 128, Scalar.select (keep d) (Q d) (Ideal.ofBits .bf16 0x0000#16) * K d
      = ∑ d : Fin 64, Q ⟨hh.val * 64 + d.val, by omega⟩ * K ⟨hh.val * 64 + d.val, by omega⟩ := by
  refine (Fintype.sum_of_injective (fun d : Fin 64 => (⟨hh.val * 64 + d.val, by omega⟩ : Fin 128)) (fun a b h => ?_) _ _
    (fun d hd => ?_) fun d => ?_).symm
  · have := congrArg Fin.val h
    exact Fin.ext (by dsimp only at this; omega)
  · have : d.val / 64 ≠ hh.val := fun e => hd ⟨⟨d.val % 64, by omega⟩, Fin.ext (by dsimp only; omega)⟩
    rw [hk, if_neg this, Ideal.ofBits_zero_bf16]
    exact zero_mul _
  · rw [hk, if_pos (by dsimp only; omega)]
    rfl

/-- Where the `j`-th key of the window of a query at `(R, C)` lies among the keys of the rows from `k0`. -/
def place (R C k0 : Nat) (j : Fin 128) : Nat := (rFirst R + j.val / 16 - k0) * 64 + (cFirst C + j.val % 16)

theorem rows_read (b qr : Nat) (hb : b < 32) (hq : qr < 4) :
    kFirst b ≤ rFirst (4 * b + qr) ∧ rFirst (4 * b + qr) + 8 ≤ kFirst b + 12 := by
  unfold kFirst rFirst
  omega

end Cert.Attn

namespace Cert.KernelIdeal.Attn

open Cert.KernelIdeal Cert.KernelIdeal.Gen Cert.Attn

/-- The rows of a head over the keys of a row block: the attention over the window. -/
theorem attend_block (x : FVec Ideal ⟨3, ![8, 8192, 1536]⟩ .bf16) (rpb : FVec Ideal ⟨3, ![8, 15, 31]⟩ .f32)
    (hx : ∀ (b : Fin 8) (s : Fin 8192) (c : Fin 1024), Finite (x (ix3 b s ⟨c.val, by omega⟩)))
    (hr : ∀ (h : Fin 8) (r : Fin 15) (c : Fin 31), Finite (rpb (ix3 h r c)))
    (b : Fin 8) (rb : Fin 32) (p : Fin 4) (hh : Fin 2) (q : Fin 256) (l : Fin 128)
    (keep : Fin 128 → BitVec 1) (hkeep : ∀ d : Fin 128, keep d = if d.val / 64 = hh.val then 1#1 else 0#1)
    (s : Fin 8192) (hs : s.val = rb.val * 256 + q.val) (c : Fin 512) (hc : c.val = p.val * 128 + l.val) (hl : l.val / 64 = hh.val)
    (Q : Fin 128 → EReal) (hQ : ∀ d : Fin 128, Q d = x (ix3 b s ⟨p.val * 128 + d.val, by omega⟩))
    (row : Fin 768 → Fin 8192) (hrow : ∀ k : Fin 768, (row k).val = kFirst rb * 64 + k.val)
    (K : Fin 768 → Fin 128 → EReal) (hK : ∀ k (d : Fin 128), K k d = x (ix3 b (row k) ⟨512 + (p.val * 128 + d.val), by omega⟩))
    (V : Fin 768 → EReal) (hV : ∀ k, V k = x (ix3 b (row k) ⟨1024 + c.val, by omega⟩))
    (B : Fin 768 → EReal)
    (hB : ∀ k : Fin 768, B k = if near (4 * rb.val + q.val / 64) (q.val % 64) (kFirst rb + k.val / 64) (k.val % 64) then
          rpb (ix3 ⟨p.val * 2 + hh.val, by omega⟩
            ⟨min (kFirst rb + k.val / 64 + 7 - (4 * rb.val + q.val / 64)) 14, by omega⟩
            ⟨min (k.val % 64 + 15 - q.val % 64) 30, by omega⟩)
        else Ideal.ofBits .f32 0xFF800000#32) :
    attend (laneScore keep Q K B) V
      = softmaxed (score x rpb b ⟨c.val / 64, by omega⟩ s) (fun j => x (ix3 b (key s j) ⟨1024 + c.val, by omega⟩)) := by
  have hR : s.val / 64 = 4 * rb.val + q.val / 64 := by omega
  have hC : s.val % 64 = q.val % 64 := by omega
  obtain ⟨h1, h2⟩ := rows_read rb.val (q.val / 64) rb.isLt (by omega)
  have h3 := cFirst_le (q.val % 64)
  have hf : ∀ j : Fin 128, place (4 * rb.val + q.val / 64) (q.val % 64) (kFirst rb) j < 768 := fun j => by
    unfold place
    omega
  have hkey : ∀ j : Fin 128, row ⟨_, hf j⟩ = key s j := fun j => Fin.ext (by
    rw [hrow]
    unfold key place
    dsimp only
    rw [hR, hC]
    omega)
  have hhd : c.val / 64 = p.val * 2 + hh.val := by omega
  refine attend_window _ _ _ _ (fun j => ⟨_, hf j⟩) (fun a b h => ?_) (fun j => ?_) (fun j => ?_) (fun k hk => ?_) (by omega)
    (fun j => ?_)
  · have := congrArg Fin.val h
    unfold place at this
    dsimp only at this
    exact Fin.ext (by omega)
  · unfold laneScore score
    rw [lanes_sum keep hh hkeep, hB, if_pos]
    · congr 1
      · refine Finset.sum_congr rfl fun d _ => ?_
        rw [hQ, hK, hkey]
        congr 1
        · exact congrArg (fun z => x (ix3 b s z)) (Fin.ext (by dsimp only; omega))
        · exact congrArg (fun z => x (ix3 b (key s j) z)) (Fin.ext (by dsimp only; omega))
      · congr 1
        congr 1
        · exact Fin.ext hhd.symm
        · refine Fin.ext ?_
          unfold biasRow place
          dsimp only
          rw [hR]
          omega
        · refine Fin.ext ?_
          unfold biasCol place
          dsimp only
          rw [hC]
          omega
    · unfold near place
      dsimp only
      omega
  · rw [hV, hkey]
  · unfold laneScore
    rw [hB, if_neg, ← low, low_eq]
    · exact EReal.add_bot _
    · intro hn
      unfold near at hn
      refine hk ⟨(kFirst rb + k.val / 64 - rFirst (4 * rb.val + q.val / 64)) * 16 + (k.val % 64 - cFirst (q.val % 64)), by omega⟩
        (Fin.ext ?_)
      unfold place
      dsimp only
      omega
  · unfold score
    refine Finite.add (Finite.sum _ fun d => Finite.mul ?_ ?_) (hr _ _ _)
    · exact hx b s ⟨c.val / 64 * 64 + d.val, by omega⟩
    · exact hx b (key s j) ⟨512 + (c.val / 64 * 64 + d.val), by omega⟩

end Cert.KernelIdeal.Attn
-- ==== Proof.AttnValue.lean ====
/- The attention call's result array is the reference's, of finite queries, keys and position biases. -/
module

public import proofs.«01_k».proof.Proof.AttnPair
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Attn

open Cert.KernelIdeal Cert.KernelIdeal.Gen Cert.Attn

variable (m : (ℓ : Loc nD τ sig) → Buf (Elt Ideal) ℓ)

/-- Every window's block index at a grid point: batch, pair of heads, row block. -/
theorem idx : ∀ t : Fin cfg0.N, win0_0.index t = ![t.val / 128, t.val % 32, t.val / 32 % 4]
    ∧ win0_1.index t = ![t.val / 128, 0, 4 + t.val / 32 % 4] ∧ win0_2.index t = ![t.val / 128, 0, 8 + t.val / 32 % 4]
    ∧ win0_3.index t = ![(kind (t.val % 32)).val, t.val / 32 % 4, 0, 0, 0]
    ∧ win0_4.index t = ![t.val / 128, t.val % 32, t.val / 32 % 4] :=
  (by decide +kernel : ∀ t : Fin grid0.N, _)

/-- The first key a grid point reads. -/
abbrev firstKey (t : Fin cfg0.N) : Nat :=
  BitVec.toNat (Scalar.indexCast (Scalar.muli (Scalar.minsi 116#32 (Scalar.maxsi 0#32
    (Scalar.subi (Scalar.muli (BitVec.ofNat 32 ((grid0.coords t) 2).val) 4#32) 4#32))) 64#32))

theorem firstKey_eq : ∀ t : Fin cfg0.N, firstKey t = kFirst (t.val % 32) * 64 :=
  (by decide +kernel : ∀ t : Fin grid0.N, _)

theorem inFirst_eq : ∀ d : Fin 128, inFirst d = if d.val / 64 = (0 : Fin 2).val then 1#1 else 0#1 := by decide +kernel
theorem inSecond_eq : ∀ d : Fin 128, inSecond d = if d.val / 64 = (1 : Fin 2).val then 1#1 else 0#1 := by decide +kernel

theorem select_first {α : Type} (w : BitVec 1) (a b : α) (h : w = 1#1) : Scalar.select w a b = a := by subst h; rfl
theorem select_second {α : Type} (w : BitVec 1) (a b : α) (h : w = 0#1) : Scalar.select w a b = b := by subst h; rfl

theorem query_block (X : FVec Ideal S8x8192x1536 .bf16) (t : Fin cfg0.N) (inb) (q : Fin 256) (d : Fin 128) (b : Fin 8) (s : Fin 8192)
    (n : Fin 1536) (hb : b.val = t.val / 128) (hs : s.val = t.val % 32 * 256 + q.val) (hn : n.val = t.val / 32 % 4 * 128 + d.val) :
    View.ld (((cfg0.win 0).blk t).view.read (Elt Ideal) X) (Rect.unit (s := S1x256x128) ![0, 0, 0] ![1, 256, 128] inb) (ix3 0 q d)
      = X (ix3 b s n) := by
  pointwise
  refine congrArg X ?_
  blk_ext [idx t]

theorem key_block (X : FVec Ideal S8x8192x1536 .bf16) (t : Fin cfg0.N) (o : Nat) (inb) (k : Fin 768) (d : Fin 128) (b : Fin 8)
    (s : Fin 8192) (n : Fin 1536) (hb : b.val = t.val / 128) (hs : s.val = o + k.val) (hn : n.val = 512 + (t.val / 32 % 4 * 128 + d.val)) :
    View.ld (((cfg0.win 1).blk t).view.read (Elt Ideal) X) (Rect.unit (s := S1x8192x128) ![0, o, 0] ![1, 768, 128] inb) (ix3 0 k d)
      = X (ix3 b s n) := by
  refine (View.ld_unit_apply_of _ _ _ _ _ (ix3 0 s d) (by intro a; match a with | ⟨0, _⟩ => simp | ⟨1, _⟩ => simp [hs] | ⟨2, _⟩ => simp)).trans ?_
  refine congrArg X ?_
  blk_ext [idx t]

theorem value_block (X : FVec Ideal S8x8192x1536 .bf16) (t : Fin cfg0.N) (o : Nat) (inb) (k : Fin 768) (d : Fin 128) (b : Fin 8)
    (s : Fin 8192) (n : Fin 1536) (hb : b.val = t.val / 128) (hs : s.val = o + k.val) (hn : n.val = 1024 + (t.val / 32 % 4 * 128 + d.val)) :
    View.ld (((cfg0.win 2).blk t).view.read (Elt Ideal) X) (Rect.unit (s := S1x8192x128) ![0, o, 0] ![1, 768, 128] inb) (ix3 0 k d)
      = X (ix3 b s n) := by
  refine (View.ld_unit_apply_of _ _ _ _ _ (ix3 0 s d) (by intro a; match a with | ⟨0, _⟩ => simp | ⟨1, _⟩ => simp [hs] | ⟨2, _⟩ => simp)).trans ?_
  refine congrArg X ?_
  blk_ext [idx t]

theorem bias_block (X : FVec Ideal S3x4x2x256x768 .f32) (t : Fin cfg0.N) (hh : Fin 2) (o : Nat) (ho : o = hh.val) (inb) (q : Fin 256)
    (k : Fin 768) (p : Fin 4) (hp : p.val = t.val / 32 % 4) :
    View.ld (((cfg0.win 3).blk t).view.read (Elt Ideal) X)
        (Rect.unit (s := S1x1x2x256x768) ![0, 0, o, 0, 0] ![1, 1, 1, 256, 768] inb) (ix5 0 0 0 q k)
      = X (ix5 (kind (t.val % 32)) p hh q k) := by
  refine (View.ld_unit_apply_of _ _ _ _ _ (ix5 0 0 hh q k) (by
    intro a
    match a with
    | ⟨0, _⟩ => simp
    | ⟨1, _⟩ => simp
    | ⟨2, _⟩ => simp [ho]
    | ⟨3, _⟩ => simp
    | ⟨4, _⟩ => simp)).trans ?_
  refine congrArg X ?_
  blk_ext [idx t]

/-- One head of a block: the reference's attention of the query's window. -/
theorem head_value (c : Dev nD)
    (hx : ∀ (b : Fin 8) (s : Fin 8192) (n : Fin 1024), Finite ((m ((c : Thread nD τ).loc main_arg0) : FVec Ideal S8x8192x1536 .bf16) (ix3 b s ⟨n.val, by omega⟩)))
    (hr : ∀ (h : Fin 8) (r : Fin 15) (n : Fin 31), Finite ((m ((c : Thread nD τ).loc main_arg1) : FVec Ideal S8x15x31 .f32) (ix3 h r n)))
    (t : Fin cfg0.N) (hh : Fin 2) (keep : Fin 128 → BitVec 1)
    (hkeep : ∀ d : Fin 128, keep d = if d.val / 64 = hh.val then 1#1 else 0#1) (o : Nat) (ho : o = hh.val)
    (i0) (i1) (i2) (i3) (q : Fin 256) (l : Fin 128) (hl : l.val / 64 = hh.val) (b : Fin 8) (s : Fin 8192) (n : Fin 512)
    (hb : b.val = t.val / 128) (hs : s.val = t.val % 32 * 256 + q.val) (hn : n.val = t.val / 32 % 4 * 128 + l.val) :
    attend (laneScore keep
        (fun d => View.ld (iblk m c 0 t) (Rect.unit (s := S1x256x128) ![0, 0, 0] ![1, 256, 128] i0) (ix3 0 q d))
        (fun k d => View.ld (iblk m c 1 t) (Rect.unit (s := S1x8192x128) ![0, firstKey t, 0] ![1, 768, 128] i1) (ix3 0 k d))
        (fun k => View.ld (iblk m c 3 t) (Rect.unit (s := S1x1x2x256x768) ![0, 0, o, 0, 0] ![1, 1, 1, 256, 768] i3) (ix5 0 0 0 q k)))
        (fun k => View.ld (iblk m c 2 t) (Rect.unit (s := S1x8192x128) ![0, firstKey t, 0] ![1, 768, 128] i2) (ix3 0 k l))
      = Cert.ReferenceIdeal.Read.val_main_v95 (F := Ideal) (m ((c : Thread nD τ).loc main_arg0)) (m ((c : Thread nD τ).loc main_arg1)) (ix3 b s n) := by
  have hf := firstKey_eq t
  have hk : kFirst (t.val % 32) ≤ 116 := Nat.min_le_right _ _
  refine Eq.trans ?_ (Cert.ReferenceIdeal.Attn.result_at ..).symm
  refine attend_block _ _ hx hr b ⟨t.val % 32, by omega⟩ ⟨t.val / 32 % 4, by omega⟩ hh q l keep hkeep s hs n hn hl _ (fun d => ?_)
    (fun k => ⟨kFirst (t.val % 32) * 64 + k.val, by omega⟩) (fun k => rfl) _ (fun k d => ?_) _ (fun k => ?_) _ (fun k => ?_)
  · exact (query_block (V m c main_arg0) t _ q d b s _ hb hs rfl).trans (congrFun (V_main_arg0 m c) _)
  · exact (key_block (V m c main_arg0) t _ _ k d b _ _ hb (by dsimp only; omega) rfl).trans (congrFun (V_main_arg0 m c) _)
  · exact (value_block (V m c main_arg0) t _ _ k l b _ ⟨1024 + n.val, by omega⟩ hb (by dsimp only; omega) (by dsimp only; omega)).trans
      (congrFun (V_main_arg0 m c) _)
  · refine (bias_block (V m c main_v156) t hh o ho _ q k ⟨t.val / 32 % 4, by omega⟩ rfl).trans ?_
    rw [table_eq]
    exact bias_at _ ⟨t.val % 32, by omega⟩ ⟨t.val / 32 % 4, by omega⟩ hh q k

theorem final4 (c : Dev nD)
    (hx : ∀ (b : Fin 8) (s : Fin 8192) (n : Fin 1024), Finite ((m ((c : Thread nD τ).loc main_arg0) : FVec Ideal S8x8192x1536 .bf16) (ix3 b s ⟨n.val, by omega⟩)))
    (hr : ∀ (h : Fin 8) (r : Fin 15) (n : Fin 31), Finite ((m ((c : Thread nD τ).loc main_arg1) : FVec Ideal S8x15x31 .f32) (ix3 h r n))) :
    (dats m 0 c).arrAt 4 cfg0.N
      = Cert.ReferenceIdeal.Read.val_main_v95 (F := Ideal) (m ((c : Thread nD τ).loc main_arg0)) (m ((c : Thread nD τ).loc main_arg1)) := by
  refine (dats m 0 c).arrAt_eq_of_covers 4 _ (by decide +kernel) fun t _ y => ?_
  obtain ⟨e0, e1, e2, e3, e4⟩ := idx t
  blk_simp
  rw [after0_4]
  unfold outsAt0 out0_A_4
  rw [View.read_writes_eq_canon _ _ _ (cover0_A_4 c (grid0.coords t) (ms0_0 t) (hs0_0 t) (ms0_1 t) (hs0_1 t) (ms0_2 t) (hs0_2 t)
    (ms0_3 t) (hs0_3 t) (ms0_4 t) (hs0_4 t) (iblk m c 0 t) (iblk m c 1 t) (iblk m c 2 t) (iblk m c 3 t))]
  unfold kernelRun0_A
  dsimp only
  sl_unfold_words
  simp only [View.readAt_eq_ld, (hs0_0 t).read_unread, (hs0_1 t).read_unread, (hs0_2 t).read_unread, (hs0_3 t).read_unread]
  canon_tiles x h
  have h00 : x 0 = (0 : Fin 1) := Fin.ext (by have := (x 0).isLt; change _ < 1 at this; show (x 0).val = 0; omega)
  rw [eq_ix3 x, eq_ix3 ((win0_4.blk t).view.emb y), h00]
  have k0 : ((win0_4.blk t).view.emb y 0).val = t.val / 128 := by dsimp only; blk_simp [e4]; all_goals omega
  have k1 : ((win0_4.blk t).view.emb y 1).val = t.val % 32 * 256 + (x 1).val := by dsimp only; blk_simp [e4]; all_goals omega
  have k2 : ((win0_4.blk t).view.emb y 2).val = t.val / 32 % 4 * 128 + (x 2).val := by dsimp only; blk_simp [e4]; all_goals omega
  refine (block_at ..).trans ?_
  by_cases hl : (x 2).val / 64 = 0
  · refine (select_first _ _ _ ((inFirst_eq (x 2)).trans (if_pos hl))).trans ?_
    exact head_value m c hx hr t 0 _ inFirst_eq 0 rfl _ _ _ _ _ _ hl _ _ _ k0 k1 k2
  · refine (select_second _ _ _ ((inFirst_eq (x 2)).trans (if_neg hl))).trans ?_
    exact head_value m c hx hr t 1 _ inSecond_eq 1 rfl _ _ _ _ _ _ (by show (x 2).val / 64 = 1; omega) _ _ _ k0 k1 k2

end Cert.KernelIdeal.Attn
-- ==== Proof.AttnClaim.lean ====
/- The attention call computes the reference's, where queries, keys and position biases are finite. -/
module

public import proofs.«01_k».proof.Defs
public import proofs.«01_k».proof.Proof.AttnValue
public import proofs.«01_k».proof.Proof.Gen.KernelIdeal.Value
public import proofs.«01_k».proof.Proof.Gen.Pre_finite_scores
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.Attn

/-- The two comparisons hold of an extended real exactly where it is finite. -/
theorem finite_of_between (e : EReal)
    (h : IntOp.andi (FloatOps.cmpf (F := Ideal) (φ := .f32) .ogt e (Ideal.ofBits .f32 0xFF800000#32))
      (FloatOps.cmpf (F := Ideal) (φ := .f32) .olt e (Ideal.ofBits .f32 0x7F800000#32)) = 1#1) : Finite e := by
  have h1 : Ideal.ofBits .f32 0xFF800000#32 = (⊥ : EReal) := low_eq
  have h2 : Ideal.ofBits .f32 0x7F800000#32 = (⊤ : EReal) := by simp [Ideal.ofBits, Ideal.ieee]
  rw [h1, h2] at h
  constructor
  · rintro rfl; simp [FloatOps.cmpf, IntOp.andi, Ideal.cmp] at h
  · rintro rfl; simp [FloatOps.cmpf, IntOp.andi, Ideal.cmp] at h

section

variable [Cert.Pre_finite_scores.Facts]

theorem finite_first (X : FVec Ideal Cert.Pre_finite_scores.S8x8192x1536 .bf16) (R : FVec Ideal Cert.Pre_finite_scores.S8x15x31 .f32)
    (h : (Cert.Pre_finite_scores.fn (F := Ideal) X R).1 = fun _ => 1#1) (b : Fin 8) (s : Fin 8192) (n : Fin 1024) :
    Finite (X (ix3 b s ⟨n.val, by omega⟩)) := by
  refine finite_of_between _ (Eq.trans ?_ (congrFun h (ix3 b s n)))
  symm
  pointwise [Cert.Pre_finite_scores.fn]

theorem finite_second (X : FVec Ideal Cert.Pre_finite_scores.S8x8192x1536 .bf16) (R : FVec Ideal Cert.Pre_finite_scores.S8x15x31 .f32)
    (h : (Cert.Pre_finite_scores.fn (F := Ideal) X R).2 = fun _ => 1#1) (a : Fin 8) (b : Fin 15) (n : Fin 31) :
    Finite (R (ix3 a b n)) := by
  refine finite_of_between _ (Eq.trans ?_ (congrFun h (ix3 a b n)))
  symm
  pointwise [Cert.Pre_finite_scores.fn]

end

set_option maxHeartbeats 2000000 in
open Cert.ReferenceIdeal.Read in
/-- The call's result array is the reference's, of finite queries, keys and position biases. -/
theorem agrees : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.Gen.facts) := by
  haveI := Cert.Pre_finite_scores.Gen.facts
  intro m g m' g' hpre hagree
  refine ⟨_, Cert.KernelIdeal.Value.run_blocks m g, ?_⟩
  · refine (θ_run _ _ _).mono (fun r h c => ?_) (Cert.ReferenceIdeal.Value.run (F := Ideal) m' g')
    obtain ⟨r0, keep⟩ := h c
    obtain ⟨h0, h1⟩ := hagree c
    obtain ⟨p0, p1⟩ := hpre c
    refine ⟨r0.trans ((val_main_v95_eq m' c).trans ?_), keep⟩
    rw [h0, h1]
    exact (Cert.KernelIdeal.Attn.final4 m c (finite_first _ _ p0) (finite_second _ _ p1)).symm

end Cert.Attn
-- ==== Proof.Norm.lean ====
/- The layer norm of one row, as a function of the row: what both the calls and their references compute. -/
module

public import Idealize.ShloMosaic.PureOps.Ideal

@[expose] public section

noncomputable section

open Idealize.ShloMosaic
open scoped BigOperators

/-- A row of 1024 numbers, normalised to mean zero and variance one, then scaled and shifted; at feature `k`. -/
def Cert.layerNorm (x g b : Fin 1024 → EReal) (k : Fin 1024) : EReal :=
  (x k - Ideal.div (∑ j, x j) (Ideal.ofBits .f32 0x44800000#32))
    * Ideal.rsqrt (Ideal.div (∑ j, (x j - Ideal.div (∑ j, x j) (Ideal.ofBits .f32 0x44800000#32)) * (x j - Ideal.div (∑ j, x j) (Ideal.ofBits .f32 0x44800000#32))) (Ideal.ofBits .f32 0x44800000#32)
        + Ideal.ofBits .f32 0x3727C5AC#32)
    * g k + b k
-- ==== Proof.InprojBody.lean ====
/- The projection call's pure values: what each stored piece is at an index, as a sum over the features of a normalised row. -/
module

public import proofs.«01_k».proof.Proof.Norm
public import proofs.«01_k».proof.Proof.Gen.Kernel2Ideal.Frame
public import proofs.«01_k».proof.Proof.Gen.Reference2Ideal.Read
public import Idealize.ShloMosaic.Lib.Pointwise

@[expose] public section

set_option maxRecDepth 16384

noncomputable section

open Idealize.ShloMosaic
open scoped BigOperators

/-- One number of the projection: the normalised row times one column of the weight. -/
def Cert.Inproj.proj (x g b w : Fin 1024 → EReal) : EReal :=
  ∑ k, Cert.layerNorm x g b k * w k

namespace Cert.Kernel2Ideal.Inproj

open Cert.Kernel2Ideal Cert.Kernel2Ideal.Gen

theorem norm_at (x : FVec Ideal S512x1024 .f32) (g b : FVec Ideal S1x1024 .f32) (r : Fin 512) (k : Fin 1024) :
    k0_pay6 (F := Ideal) x g b (ix2 r k)
      = Cert.layerNorm (fun k => x (ix2 r k)) (fun k => g (ix2 0 k)) (fun k => b (ix2 0 k)) k := by
  pointwise [k0_pay6, Cert.layerNorm]

theorem piece9_at (x : FVec Ideal S512x1024 .f32) (g b : FVec Ideal S1x1024 .f32) (w : FVec Ideal S1024x512 .bf16) (r l : Fin 512) :
    k0_pay9 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay9, Cert.Inproj.proj]
  exact Finset.sum_congr rfl fun k _ => by rw [norm_at]

theorem piece2_at (x : FVec Ideal S512x1024 .f32) (g b : FVec Ideal S1x1024 .f32) (w : FVec Ideal S1024x512 .bf16) (r l : Fin 512) :
    k0_pay2 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay2, Cert.Inproj.proj]
  exact Finset.sum_congr rfl fun k _ => by rw [norm_at]

theorem piece3_at (x : FVec Ideal S512x1024 .f32) (g b : FVec Ideal S1x1024 .f32) (w : FVec Ideal S1024x512 .bf16) (r l : Fin 512) :
    k0_pay3 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay3, Cert.Inproj.proj]
  exact Finset.sum_congr rfl fun k _ => by rw [norm_at]

theorem piece4_at (x : FVec Ideal S512x1024 .f32) (g b : FVec Ideal S1x1024 .f32) (w : FVec Ideal S1024x512 .bf16) (r l : Fin 512) :
    k0_pay4 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay4, Cert.Inproj.proj]
  exact Finset.sum_congr rfl fun k _ => by rw [norm_at]

theorem piece5_at (x : FVec Ideal S512x1024 .f32) (g b : FVec Ideal S1x1024 .f32) (w : FVec Ideal S1024x512 .bf16) (r l : Fin 512) :
    k0_pay5 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay5, Cert.Inproj.proj]
  exact Finset.sum_congr rfl fun k _ => by rw [norm_at]

theorem piece13_at (x : FVec Ideal S512x1024 .f32) (g b : FVec Ideal S1x1024 .f32) (w : FVec Ideal S1024x512 .bf16) (r l : Fin 512) :
    k0_pay13 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay13, Cert.Inproj.proj]
  exact Finset.sum_congr rfl fun k _ => by rw [norm_at]

theorem piece10_at (x : FVec Ideal S512x1024 .f32) (g b : FVec Ideal S1x1024 .f32) (w : FVec Ideal S1024x512 .bf16) (r l : Fin 512) :
    k0_pay10 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay10, Cert.Inproj.proj]
  exact Finset.sum_congr rfl fun k _ => by rw [norm_at]

theorem piece11_at (x : FVec Ideal S512x1024 .f32) (g b : FVec Ideal S1x1024 .f32) (w : FVec Ideal S1024x512 .bf16) (r l : Fin 512) :
    k0_pay11 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay11, Cert.Inproj.proj]
  exact Finset.sum_congr rfl fun k _ => by rw [norm_at]

theorem piece12_at (x : FVec Ideal S512x1024 .f32) (g b : FVec Ideal S1x1024 .f32) (w : FVec Ideal S1024x512 .bf16) (r l : Fin 512) :
    k0_pay12 (F := Ideal) (k0_pay6 (F := Ideal) x g b) w (ix2 r l)
      = Cert.Inproj.proj (fun k => x (ix2 r k)) (fun k => g (ix2 0 k)) (fun k => b (ix2 0 k)) (fun k => w (ix2 k l)) := by
  pointwise [k0_pay12, Cert.Inproj.proj]
  exact Finset.sum_congr rfl fun k _ => by rw [norm_at]

theorem piece1_at (x : FVec Ideal S512x1024 .f32) (g b : FVec Ideal S1x1024 .f32) (w : FVec Ideal S1024x512 .bf16) (r l : Fin 512) :
    k0_pay1 (F := Ideal) (k0_pay6 (F := Ideal) x g b) (k0_pay14 (F := Ideal) w) (ix2 r l)
      = Cert.Inproj.proj (fun k => x (ix2 r k)) (fun k => g (ix2 0 k)) (fun k => b (ix2 0 k)) (fun k => w (ix2 k l)) := by
  pointwise [k0_pay1, k0_pay14, Cert.Inproj.proj]
  exact Finset.sum_congr rfl fun k _ => by rw [norm_at]

theorem piece7_at (x : FVec Ideal S512x1024 .f32) (g b : FVec Ideal S1x1024 .f32) (w : FVec Ideal S1024x512 .bf16) (r l : Fin 512) :
    k0_pay7 (F := Ideal) x g b w (ix2 r l)
      = Cert.Inproj.proj (fun k => x (ix2 r k)) (fun k => g (ix2 0 k)) (fun k => b (ix2 0 k)) (fun k => w (ix2 k l))
          * Ideal.ofBits .f32 0x3E000000#32 := by
  pointwise [k0_pay7, Cert.Inproj.proj]
  congr 1
  exact Finset.sum_congr rfl fun k _ => by rw [norm_at]

theorem piece8_at (x : FVec Ideal S512x1024 .f32) (g b : FVec Ideal S1x1024 .f32) (w : FVec Ideal S1024x512 .bf16) (r l : Fin 512) :
    k0_pay8 (F := Ideal) x g b w (ix2 r l)
      = Cert.Inproj.proj (fun k => x (ix2 r k)) (fun k => g (ix2 0 k)) (fun k => b (ix2 0 k)) (fun k => w (ix2 k l)) := by
  pointwise [k0_pay8, Cert.Inproj.proj]
  exact Finset.sum_congr rfl fun k _ => by rw [norm_at]

end Cert.Kernel2Ideal.Inproj

namespace Cert.Reference2Ideal.Inproj

open Cert.Reference2Ideal Cert.Reference2Ideal.Gen Cert.Reference2Ideal.Read

theorem norm_at (x : FVec Ideal S8x8192x1024 .f32) (g b : FVec Ideal S1024 .f32) (p : Fin 8) (r : Fin 8192) (k : Fin 1024) :
    val_main_v21 (F := Ideal) x g b (ix3 p r k)
      = Cert.layerNorm (fun k => x (ix3 p r k)) (fun k => g (ix1 k)) (fun k => b (ix1 k)) k := by
  pointwise [val_main_v0, val_main_v1, val_main_v2, val_main_v3, val_main_v4, val_main_v5, val_main_v6, val_main_v7, val_main_v8,
    val_main_v9, val_main_v10, val_main_v11, val_main_v12, val_main_v13, val_main_v14, val_main_v15, val_main_v16, val_main_v17,
    val_main_v18, val_main_v19, val_main_v20, val_main_v21, val_main_cst, val_main_cst_0, val_main_cst_1, val_main_cst_2,
    val_main_cst_3, Cert.layerNorm]

theorem proj_at (x : FVec Ideal S8x8192x1024 .f32) (g b : FVec Ideal S1024 .f32) (w : FVec Ideal S1x1024x6144 .f32)
    (p : Fin 8) (r : Fin 8192) (n : Fin 6144) :
    val_main_v23 (F := Ideal) x g b w (ix3 p r n)
      = Cert.Inproj.proj (fun k => x (ix3 p r k)) (fun k => g (ix1 k)) (fun k => b (ix1 k)) (fun k => w (ix3 0 k n)) := by
  pointwise [val_main_v23, val_main_v22, Cert.Inproj.proj]
  exact Finset.sum_congr rfl fun k _ => by rw [norm_at]

/-- Row `r` of the flattened rows is position `r % 8192` of batch `r / 8192`. -/
theorem flat_at (x : FVec Ideal S8x8192x1024 .f32) (g b : FVec Ideal S1024 .f32) (w : FVec Ideal S1x1024x6144 .f32)
    (r : Fin 65536) (n : Fin 6144) :
    val_main_v24 (F := Ideal) x g b w (ix2 r n)
      = Cert.Inproj.proj (fun k => x (ix3 ⟨r.val / 8192, by omega⟩ ⟨r.val % 8192, by omega⟩ k)) (fun k => g (ix1 k))
          (fun k => b (ix1 k)) (fun k => w (ix3 0 k n)) := by
  pointwise [val_main_v24]
  exact proj_at ..

/-- The attention's columns: the first 512 scaled, the others as they are. -/
theorem scaled_at (x : FVec Ideal S8x8192x1024 .f32) (g b : FVec Ideal S1024 .f32) (w : FVec Ideal S1x1024x6144 .f32)
    (r : Fin 65536) (n : Fin 1536) (h : n.val < 512) :
    val_main_v32 (F := Ideal) x g b w (ix2 r n)
      = val_main_v24 (F := Ideal) x g b w (ix2 r ⟨n.val, by omega⟩) * Ideal.ofBits .f32 0x3E000000#32 := by
  pointwise [val_main_v32, val_main_v31, Cert.Reference2Ideal.Value.fn_main_v31, val_main_v30, val_main_v29, val_main_v25, val_main_cst_4]
  simp [h]

theorem plain_at (x : FVec Ideal S8x8192x1024 .f32) (g b : FVec Ideal S1024 .f32) (w : FVec Ideal S1x1024x6144 .f32)
    (r : Fin 65536) (n : Fin 1536) (h : 512 ≤ n.val) :
    val_main_v32 (F := Ideal) x g b w (ix2 r n)
      = val_main_v24 (F := Ideal) x g b w (ix2 r ⟨n.val, by omega⟩) := by
  have h' : ¬ n.val < 512 := by omega
  pointwise [val_main_v32, val_main_v31, Cert.Reference2Ideal.Value.fn_main_v31, val_main_v26]
  simp [h']
  exact congrArg (fun q => val_main_v24 (F := Ideal) x g b w (ix2 r q)) (Fin.ext (by show 512 + (n.val - 512) = n.val; omega))

/-- The columns after the attention's. -/
theorem mid_at (x : FVec Ideal S8x8192x1024 .f32) (g b : FVec Ideal S1024 .f32) (w : FVec Ideal S1x1024x6144 .f32)
    (r : Fin 65536) (n : Fin 1536) :
    val_main_v27 (F := Ideal) x g b w (ix2 r n)
      = val_main_v24 (F := Ideal) x g b w (ix2 r ⟨1536 + n.val, by omega⟩) := by
  pointwise [val_main_v27]

theorem rest_at (x : FVec Ideal S8x8192x1024 .f32) (g b : FVec Ideal S1024 .f32) (w : FVec Ideal S1x1024x6144 .f32)
    (r : Fin 65536) (n : Fin 3072) :
    val_main_v33 (F := Ideal) x g b w (ix2 r n)
      = val_main_v24 (F := Ideal) x g b w (ix2 r ⟨3072 + n.val, by omega⟩) := by
  pointwise [val_main_v33, val_main_v28]

end Cert.Reference2Ideal.Inproj
-- ==== Proof.InprojValue.lean ====
/- The projection call's three result arrays are the reference's. -/
module

public import proofs.«01_k».proof.Proof.InprojBody
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel2Ideal.Inproj

open Cert.Kernel2Ideal Cert.Kernel2Ideal.Gen
open Cert.Reference2Ideal.Inproj (flat_at)

variable (m : (ℓ : Loc nD τ sig) → Buf (Elt Ideal) ℓ)

/-- Every window's block index at a grid point: the row blocks move with the point, the parameters stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The arrays the call is entered with, at an index, from the arguments. -/
theorem flat_rows (x : FVec Ideal S8x8192x1024 .f32) (r : Fin 65536) (k : Fin 1024) :
    shapeCast S65536x1024 x shapeCasts_S8x8192x1024_S65536x1024 (ix2 r k)
      = x (ix3 ⟨r.val / 8192, by omega⟩ ⟨r.val % 8192, by omega⟩ k) := by pointwise

theorem flat_vec (x : FVec Ideal S1024 .f32) (k : Fin 1024) :
    shapeCast S1x1024 x shapeCasts_S1024_S1x1024 (ix2 0 k) = x (ix1 k) := by pointwise

theorem flat_weight (x : FVec Ideal S1x1024x6144 .f32) (k : Fin 1024) (n : Fin 6144) :
    (truncf .bf16 (shapeCast S1024x6144 x shapeCasts_S1x1024x6144_S1024x6144) bitsLt_bf16_f32 : FVec Ideal S1024x6144 .bf16) (ix2 k n)
      = x (ix3 0 k n) := by pointwise

theorem rows_at (c : Dev nD) (r : Fin 65536) (k : Fin 1024) :
    V m c main_v0 (ix2 r k) = m ((c : Thread nD τ).loc main_arg0) (ix3 ⟨r.val / 8192, by omega⟩ ⟨r.val % 8192, by omega⟩ k) := by
  have e : V m c main_v0 = shapeCast S65536x1024 (m ((c : Thread nD τ).loc main_arg0)) shapeCasts_S8x8192x1024_S65536x1024 := by entry_read; rfl
  rw [e]; exact flat_rows _ r k

theorem gain_at (c : Dev nD) (k : Fin 1024) : V m c main_v3 (ix2 0 k) = m ((c : Thread nD τ).loc main_arg1) (ix1 k) := by
  have e : V m c main_v3 = shapeCast S1x1024 (m ((c : Thread nD τ).loc main_arg1)) shapeCasts_S1024_S1x1024 := by entry_read; rfl
  rw [e]; exact flat_vec _ k

theorem shift_at (c : Dev nD) (k : Fin 1024) : V m c main_v4 (ix2 0 k) = m ((c : Thread nD τ).loc main_arg2) (ix1 k) := by
  have e : V m c main_v4 = shapeCast S1x1024 (m ((c : Thread nD τ).loc main_arg2)) shapeCasts_S1024_S1x1024 := by entry_read; rfl
  rw [e]; exact flat_vec _ k

theorem weight_at (c : Dev nD) (k : Fin 1024) (n : Fin 6144) :
    V m c main_v2 (ix2 k n) = m ((c : Thread nD τ).loc main_arg3) (ix3 0 k n) := by
  have e : V m c main_v2 = (truncf .bf16 (shapeCast S1024x6144 (m ((c : Thread nD τ).loc main_arg3) : FVec Ideal S1x1024x6144 .f32) shapeCasts_S1x1024x6144_S1024x6144) bitsLt_bf16_f32 : FVec Ideal S1024x6144 .bf16) := by entry_read; rfl
  rw [e]; exact flat_weight _ k n

/-- A block of an array read at an index: row `r` of row block `t` is row `512 t + r`; the other operands are whole. -/
theorem row_block (X : FVec Ideal S65536x1024 .f32) (t : Fin cfg0.N) (r : Fin 512) (k : Fin 1024) (R : Fin 65536)
    (h : R.val = t.val * 512 + r.val) :
    View.ld (((cfg0.win 0).blk t).view.read (Elt Ideal) X) r0_0 (ix2 r k) = X (ix2 R k) := by
  pointwise
  refine congrArg X ?_
  blk_ext [idx t]

theorem gain_block (X : FVec Ideal S1x1024 .f32) (t : Fin cfg0.N) (k : Fin 1024) :
    View.ld (((cfg0.win 1).blk t).view.read (Elt Ideal) X) r0_1 (ix2 0 k) = X (ix2 0 k) := by
  pointwise
  refine congrArg X ?_
  blk_ext [idx t]

theorem shift_block (X : FVec Ideal S1x1024 .f32) (t : Fin cfg0.N) (k : Fin 1024) :
    View.ld (((cfg0.win 2).blk t).view.read (Elt Ideal) X) r0_1 (ix2 0 k) = X (ix2 0 k) := by
  pointwise
  refine congrArg X ?_
  blk_ext [idx t]

theorem col_block (X : FVec Ideal S1024x6144 .bf16) (t : Fin cfg0.N) (o : Nat) (inb) (k : Fin 1024) (l : Fin 512) (n : Fin 6144)
    (h : n.val = o + l.val) :
    View.ld (((cfg0.win 3).blk t).view.read (Elt Ideal) X) (Rect.unit (s := S1024x6144) ![0, o] S1024x512.size inb) (ix2 k l) = X (ix2 k n) := by
  refine (View.ld_unit_apply_of _ _ _ _ _ (ix2 k n) (by intro a; match a with | ⟨0, _⟩ => simp | ⟨1, _⟩ => simp [h])).trans ?_
  refine congrArg X ?_
  blk_ext [idx t]

/-- A block's row against a tile of the weight's columns is the reference's projection at that row and column. -/
theorem proj_block (c : Dev nD) (t : Fin cfg0.N) (r l : Fin 512) (o : Nat) (inb) (R : Fin 65536) (n : Fin 6144)
    (hR : R.val = t.val * 512 + r.val) (hn : n.val = o + l.val) :
    Cert.Inproj.proj (fun k => View.ld (iblk m c 0 t) r0_0 (ix2 r k)) (fun k => View.ld (iblk m c 1 t) r0_1 (ix2 0 k))
        (fun k => View.ld (iblk m c 2 t) r0_1 (ix2 0 k))
        (fun k => View.ld (iblk m c 3 t) (Rect.unit (s := S1024x6144) ![0, o] S1024x512.size inb) (ix2 k l))
      = Cert.Reference2Ideal.Read.val_main_v24 (F := Ideal) (m ((c : Thread nD τ).loc main_arg0)) (m ((c : Thread nD τ).loc main_arg1))
        (m ((c : Thread nD τ).loc main_arg2)) (m ((c : Thread nD τ).loc main_arg3)) (ix2 R n) := by
  refine Eq.trans ?_ (flat_at ..).symm
  congr 1 <;> funext k
  · exact (row_block (V m c main_v0) t r k R hR).trans (rows_at m c R k)
  · exact (gain_block (V m c main_v3) t k).trans (gain_at m c k)
  · exact (shift_block (V m c main_v4) t k).trans (shift_at m c k)
  · exact (col_block (V m c main_v2) t o inb k l n hn).trans (weight_at m c k n)

theorem final5 (c : Dev nD) : (dats m 0 c).arrAt 5 cfg0.N
    = Cert.Reference2Ideal.Read.val_main_v27 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  obtain ⟨e0, e1, e2, e3, e4, e5, e6⟩ := idx t
  blk_simp
  rw [after0_5]
  unfold_out out0_5
  canon_tiles x h
  all_goals rw [eq_ix2 x, eq_ix2 ((win0_5.blk t).view.emb y)]
  all_goals refine Eq.trans ?_ (Cert.Reference2Ideal.Inproj.mid_at ..).symm
  · exact (piece12_at ..).trans (proj_block m c t _ _ _ _ _ _ (by dsimp only; blk_simp [e5]; omega) (by dsimp only; blk_simp [e5]; omega))
  · exact (piece11_at ..).trans (proj_block m c t _ _ _ _ _ _ (by dsimp only; blk_simp [e5]; omega) (by dsimp only; blk_simp [e5]; omega))
  · exact (piece10_at ..).trans (proj_block m c t _ _ _ _ _ _ (by dsimp only; blk_simp [e5]; omega) (by dsimp only; blk_simp [e5]; omega))

set_option maxHeartbeats 800000 in
theorem final6 (c : Dev nD) : (dats m 0 c).arrAt 6 cfg0.N
    = Cert.Reference2Ideal.Read.val_main_v33 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  obtain ⟨e0, e1, e2, e3, e4, e5, e6⟩ := idx t
  blk_simp
  rw [after0_6]
  unfold_out out0_6
  canon_tiles x h
  all_goals rw [eq_ix2 x, eq_ix2 ((win0_6.blk t).view.emb y)]
  all_goals refine Eq.trans ?_ (Cert.Reference2Ideal.Inproj.rest_at ..).symm
  · exact (piece5_at ..).trans (proj_block m c t _ _ _ _ _ _ (by dsimp only; blk_simp [e6]; omega) (by dsimp only; blk_simp [e6]; omega))
  · exact (piece4_at ..).trans (proj_block m c t _ _ _ _ _ _ (by dsimp only; blk_simp [e6]; omega) (by dsimp only; blk_simp [e6]; omega))
  · exact (piece3_at ..).trans (proj_block m c t _ _ _ _ _ _ (by dsimp only; blk_simp [e6]; omega) (by dsimp only; blk_simp [e6]; omega))
  · exact (piece2_at ..).trans (proj_block m c t _ _ _ _ _ _ (by dsimp only; blk_simp [e6]; omega) (by dsimp only; blk_simp [e6]; omega))
  · exact (piece1_at ..).trans (proj_block m c t _ _ _ _ _ _ (by dsimp only; blk_simp [e6]; omega) (by dsimp only; blk_simp [e6]; omega))
  · exact (piece13_at ..).trans (proj_block m c t _ _ _ _ _ _ (by dsimp only; blk_simp [e6]; omega) (by dsimp only; blk_simp [e6]; omega))

theorem final4 (c : Dev nD) : (dats m 0 c).arrAt 4 cfg0.N
    = Cert.Reference2Ideal.Read.val_main_v32 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨e0, e1, e2, e3, e4, e5, e6⟩ := idx t
  blk_simp
  rw [after0_4]
  unfold_out out0_4
  canon_tiles x h
  all_goals rw [eq_ix2 x, eq_ix2 ((win0_4.blk t).view.emb y)]
  · refine Eq.trans ?_ (Cert.Reference2Ideal.Inproj.plain_at _ _ _ _ _ _ (by dsimp only; blk_simp [e4]; omega)).symm
    exact (piece9_at ..).trans (proj_block m c t _ _ _ _ _ _ (by dsimp only; blk_simp [e4]; omega) (by dsimp only; blk_simp [e4]; omega))
  · refine Eq.trans ?_ (Cert.Reference2Ideal.Inproj.plain_at _ _ _ _ _ _ (by dsimp only; blk_simp [e4]; omega)).symm
    exact (piece8_at ..).trans (proj_block m c t _ _ _ _ _ _ (by dsimp only; blk_simp [e4]; omega) (by dsimp only; blk_simp [e4]; omega))
  · refine Eq.trans ?_ (Cert.Reference2Ideal.Inproj.scaled_at _ _ _ _ _ _ (by dsimp only; blk_simp [e4]; omega)).symm
    exact (piece7_at ..).trans (congrArg (· * _) (proj_block m c t _ _ _ _ _ _ (by dsimp only; blk_simp [e4]; omega) (by dsimp only; blk_simp [e4]; omega)))

end Cert.Kernel2Ideal.Inproj
-- ==== Proof.InprojClaim.lean ====
/- The projection call computes the reference's three results. -/
module

public import proofs.«01_k».proof.Defs
public import proofs.«01_k».proof.Proof.InprojValue
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Inproj

open Cert.Reference2Ideal.Read in
theorem agrees : Cert.algebraic_Kernel2Ideal_Reference2Ideal
    (hKernel2Ideal := Cert.Kernel2Ideal.Gen.facts) (hReference2Ideal := Cert.Reference2Ideal.Gen.facts) := by
  pair_intro
  · run_from Cert.Kernel2Ideal.Gen.run_main m g
  · refine (θ_run _ _ _).mono (fun r h c => ?_) (Cert.Reference2Ideal.Value.run (F := Ideal) m' g')
    obtain ⟨r0, r1, r2, a0, a1, a2, a3⟩ := h c
    obtain ⟨h0, h1, h2, h3⟩ := hagree c
    refine ⟨r0.trans ((val_main_v32_eq m' c).trans ?_), r1.trans ((val_main_v27_eq _ _ _ _).trans ?_),
      r2.trans ((val_main_v33_eq _ _ _ _).trans ?_), a0, a1, a2, a3⟩
    · rw [h0, h1, h2, h3]; exact (Cert.Kernel2Ideal.Inproj.final4 m c).symm
    · rw [h0, h1, h2, h3]; exact (Cert.Kernel2Ideal.Inproj.final5 m c).symm
    · rw [h0, h1, h2, h3]; exact (Cert.Kernel2Ideal.Inproj.final6 m c).symm

end Cert.Inproj
-- ==== Proof.MergeBody.lean ====
/- The merge call's pure values: what the stored hidden row is at an index, from the rows of its operands. -/
module

public import proofs.«01_k».proof.Proof.Norm
public import proofs.«01_k».proof.Proof.Gen.Kernel3Ideal.Frame
public import Idealize.ShloMosaic.Lib.Pointwise

@[expose] public section

set_option maxRecDepth 16384

noncomputable section

open Idealize.ShloMosaic
open scoped BigOperators

namespace Cert.Merge

/-- One number of one head of the scan's output: divided by the head's root mean square, scaled by the gain `n`
    and by the gate `g` times its sigmoid. -/
def headOut (o g n : Fin 128 → EReal) (k : Fin 128) : EReal :=
  o k * Ideal.rsqrt (Ideal.div (∑ j, o j * o j) (Ideal.ofBits .f32 0x43000000#32) + Ideal.ofBits .f32 0x358637BD#32) * n k
    * (g k * Ideal.logistic (g k))

/-- A token's scan output, gated and normalised head by head: feature `k` lies in head `k / 128`. -/
def scanOut (o g n : Fin 512 → EReal) (k : Fin 512) : EReal :=
  headOut (fun j => o ⟨k.val / 128 * 128 + j.val, by omega⟩) (fun j => g ⟨k.val / 128 * 128 + j.val, by omega⟩)
    (fun j => n ⟨k.val / 128 * 128 + j.val, by omega⟩) ⟨k.val % 128, by omega⟩

/-- A token's hidden row: the attention's and the scan's projections, each gated, mixed, projected, added to the
    scaled embedding and normalised. -/
def hidden (a o g n : Fin 512 → EReal) (ga gb x g0 b0 g1 b1 : Fin 1024 → EReal) (wa wb : Fin 512 → Fin 1024 → EReal)
    (wo : Fin 1024 → Fin 1024 → EReal) (k : Fin 1024) : EReal :=
  Cert.layerNorm (fun k => Ideal.ofBits .f32 0x3F9837F0#32 * Cert.layerNorm x g0 b0 k
    + ∑ j, (Ideal.logistic (ga j) * (∑ i, a i * wa i j) + Ideal.logistic (gb j) * (∑ i, scanOut o g n i * wb i j)) * wo j k) g1 b1 k

theorem sigmoid_eq (x : EReal) : Ideal.div 1 (1 + Ideal.exp (0 - x)) = Ideal.logistic x := by
  simp [Ideal.logistic, sub_eq_add_neg]

end Cert.Merge

namespace Cert.Kernel3Ideal.Merge

open Cert.Kernel3Ideal Cert.Kernel3Ideal.Gen

theorem head0_at (p q : FVec Ideal S1x256x512 .f32) (g : FVec Ideal S256x512 .bf16) (n : FVec Ideal S1x128 .f32) (r : Fin 256) (k : Fin 128) :
    k0_pay4 (F := Ideal) p q g n (ix2 r k)
      = Cert.Merge.headOut (fun j => p (ix3 0 r ⟨j.val, by omega⟩) + q (ix3 0 r ⟨j.val, by omega⟩)) (fun j => g (ix2 r ⟨j.val, by omega⟩)) (fun j => n (ix2 0 j)) k := by
  pointwise [k0_pay4, k0_pay2, k0_pay3, Cert.Merge.headOut, Cert.Merge.sigmoid_eq]

theorem head1_at (p q : FVec Ideal S1x256x512 .f32) (g : FVec Ideal S256x512 .bf16) (n : FVec Ideal S1x128 .f32) (r : Fin 256) (k : Fin 128) :
    k0_pay8 (F := Ideal) (k0_pay5 (F := Ideal) p q) (k0_pay6 (F := Ideal) p q) (k0_pay7 (F := Ideal) g) (Scalar.ofBits .f32 0x358637BD#32) n (ix2 r k)
      = Cert.Merge.headOut (fun j => p (ix3 0 r ⟨128 + j.val, by omega⟩) + q (ix3 0 r ⟨128 + j.val, by omega⟩)) (fun j => g (ix2 r ⟨128 + j.val, by omega⟩)) (fun j => n (ix2 0 j)) k := by
  pointwise [k0_pay8, k0_pay5, k0_pay6, k0_pay7, k0_pay2, k0_pay3, Cert.Merge.headOut, Cert.Merge.sigmoid_eq]

theorem head2_at (p q : FVec Ideal S1x256x512 .f32) (g : FVec Ideal S256x512 .bf16) (n : FVec Ideal S1x128 .f32) (r : Fin 256) (k : Fin 128) :
    k0_pay9 (F := Ideal) (k0_pay2 (F := Ideal) p q) (k0_pay3 (F := Ideal) g) n (ix2 r k)
      = Cert.Merge.headOut (fun j => p (ix3 0 r ⟨256 + j.val, by omega⟩) + q (ix3 0 r ⟨256 + j.val, by omega⟩)) (fun j => g (ix2 r ⟨256 + j.val, by omega⟩)) (fun j => n (ix2 0 j)) k := by
  pointwise [k0_pay9, k0_pay2, k0_pay3, Cert.Merge.headOut, Cert.Merge.sigmoid_eq]

/-- The product of the four heads, side by side, with the weight; the last head is computed with it. -/
theorem concat_at (p q : FVec Ideal S1x256x512 .f32) (g : FVec Ideal S256x512 .bf16) (h0 h1 h2 : FVec Ideal S256x128 .bf16) (n : FVec Ideal S1x128 .f32)
    (w : FVec Ideal S512x1024 .bf16) (r : Fin 256) (l : Fin 1024) :
    k0_pay13 (F := Ideal) (k0_pay3 (F := Ideal) g) h0 h1 h2 (k0_pay10 (F := Ideal) (k0_pay2 (F := Ideal) p q)) (k0_pay11 (F := Ideal) (k0_pay2 (F := Ideal) p q)) n w (ix2 r l)
      = ∑ k : Fin 512, (if h : k.val < 128 then h0 (ix2 r ⟨k.val, h⟩)
          else if h : k.val - 128 < 128 then h1 (ix2 r ⟨k.val - 128, h⟩)
          else if h : k.val - 128 - 128 < 128 then h2 (ix2 r ⟨k.val - 128 - 128, h⟩)
          else Cert.Merge.headOut (fun j => p (ix3 0 r ⟨384 + j.val, by omega⟩) + q (ix3 0 r ⟨384 + j.val, by omega⟩))
            (fun j => g (ix2 r ⟨384 + j.val, by omega⟩)) (fun j => n (ix2 0 j)) ⟨k.val - 128 - 128 - 128, by omega⟩) * w (ix2 k l) := by
  pointwise [k0_pay13, k0_pay10, k0_pay11, k0_pay2, k0_pay3, Cert.Merge.headOut, Cert.Merge.sigmoid_eq]

/-- A head's columns of the 512: the token's scan output there is the head's. -/
theorem head_eq (o g n : Fin 512 → EReal) (c : Nat) (k : Fin 512) (h : k.val / 128 * 128 = c) (j : Fin 128) (hj : c + j.val = k.val) (hc : c ≤ 384) :
    Cert.Merge.headOut (fun j => o ⟨c + j.val, by omega⟩) (fun j => g ⟨c + j.val, by omega⟩) (fun j => n ⟨c + j.val, by omega⟩) j
      = Cert.Merge.scanOut o g n k := by
  subst h
  unfold Cert.Merge.scanOut
  congr 1
  exact Fin.ext (by dsimp only; omega)

/-- The four heads' product, from the operands' rows. -/
theorem scan_at (p q : FVec Ideal S1x256x512 .f32) (g : FVec Ideal S256x512 .bf16) (n0 n1 n2 n3 : FVec Ideal S1x128 .f32)
    (w : FVec Ideal S512x1024 .bf16) (n : Fin 512 → EReal)
    (e0 : ∀ j : Fin 128, n0 (ix2 0 j) = n ⟨j.val, by omega⟩) (e1 : ∀ j : Fin 128, n1 (ix2 0 j) = n ⟨128 + j.val, by omega⟩)
    (e2 : ∀ j : Fin 128, n2 (ix2 0 j) = n ⟨256 + j.val, by omega⟩) (e3 : ∀ j : Fin 128, n3 (ix2 0 j) = n ⟨384 + j.val, by omega⟩)
    (r : Fin 256) (l : Fin 1024) :
    k0_pay13 (F := Ideal) (k0_pay3 (F := Ideal) g) (k0_pay4 (F := Ideal) p q g n0)
        (k0_pay8 (F := Ideal) (k0_pay5 (F := Ideal) p q) (k0_pay6 (F := Ideal) p q) (k0_pay7 (F := Ideal) g) (Scalar.ofBits .f32 0x358637BD#32) n1)
        (k0_pay9 (F := Ideal) (k0_pay2 (F := Ideal) p q) (k0_pay3 (F := Ideal) g) n2)
        (k0_pay10 (F := Ideal) (k0_pay2 (F := Ideal) p q)) (k0_pay11 (F := Ideal) (k0_pay2 (F := Ideal) p q)) n3 w (ix2 r l)
      = ∑ k : Fin 512, Cert.Merge.scanOut (fun j => p (ix3 0 r j) + q (ix3 0 r j)) (fun j => g (ix2 r j)) n k * w (ix2 k l) := by
  rw [concat_at]
  refine Finset.sum_congr rfl fun k _ => congrArg (· * w (ix2 k l)) ?_
  simp only [head0_at, head1_at, head2_at, e0, e1, e2, e3]
  have z (a : Fin 128) : (⟨a.val, by omega⟩ : Fin 512) = ⟨0 + a.val, by omega⟩ := Fin.ext (Nat.zero_add _).symm
  simp only [z]
  split_ifs
  · exact head_eq (fun j => p (ix3 0 r j) + q (ix3 0 r j)) (fun j => g (ix2 r j)) n 0 k (by omega) _ (by dsimp only; omega) (by omega)
  · exact head_eq (fun j => p (ix3 0 r j) + q (ix3 0 r j)) (fun j => g (ix2 r j)) n 128 k (by omega) _ (by dsimp only; omega) (by omega)
  · exact head_eq (fun j => p (ix3 0 r j) + q (ix3 0 r j)) (fun j => g (ix2 r j)) n 256 k (by omega) _ (by dsimp only; omega) (by omega)
  · exact head_eq (fun j => p (ix3 0 r j) + q (ix3 0 r j)) (fun j => g (ix2 r j)) n 384 k (by omega) _ (by dsimp only; omega) (by omega)

theorem attn_at (a : FVec Ideal S256x512 .bf16) (w : FVec Ideal S512x1024 .bf16) (r : Fin 256) (l : Fin 1024) :
    k0_pay12 (F := Ideal) a w (ix2 r l) = ∑ k : Fin 512, a (ix2 r k) * w (ix2 k l) := by
  pointwise [k0_pay12]

theorem merged_at (pa pb : FVec Ideal S256x1024 .f32) (ga gb : FVec Ideal S256x1024 .bf16) (w : FVec Ideal S1024x1024 .bf16) (r : Fin 256) (l : Fin 1024) :
    k0_pay15 (F := Ideal) pa pb (k0_pay14 (F := Ideal) ga) (Scalar.ofBits .f32 0x3F800000#32) gb w (ix2 r l)
      = ∑ k : Fin 1024, (Ideal.logistic (ga (ix2 r k)) * pa (ix2 r k) + Ideal.logistic (gb (ix2 r k)) * pb (ix2 r k)) * w (ix2 k l) := by
  pointwise [k0_pay15, k0_pay14, Cert.Merge.sigmoid_eq]

theorem out_at (y x : FVec Ideal S256x1024 .f32) (g0 b0 g1 b1 : FVec Ideal S1x1024 .f32) (r : Fin 256) (k : Fin 1024) :
    k0_pay19 (F := Ideal) y (k0_pay16 (F := Ideal) b0) (k0_pay17 (F := Ideal) x) (k0_pay18 (F := Ideal) g0) g1 b1 (ix2 r k)
      = Cert.layerNorm (fun k => Ideal.ofBits .f32 0x3F9837F0#32 * Cert.layerNorm (fun k => x (ix2 r k)) (fun k => g0 (ix2 0 k)) (fun k => b0 (ix2 0 k)) k + y (ix2 r k))
          (fun k => g1 (ix2 0 k)) (fun k => b1 (ix2 0 k)) k := by
  pointwise [k0_pay16, k0_pay17, k0_pay18, k0_pay19, Cert.layerNorm]

/-- What the call stores, at an index, from the rows of its blocks. -/
theorem hidden_at (a : FVec Ideal S256x512 .bf16) (p q : FVec Ideal S1x256x512 .f32) (g : FVec Ideal S256x512 .bf16) (n0 n1 n2 n3 : FVec Ideal S1x128 .f32)
    (ga gb : FVec Ideal S256x1024 .bf16) (x : FVec Ideal S256x1024 .f32) (g0 b0 g1 b1 : FVec Ideal S1x1024 .f32) (wa wb : FVec Ideal S512x1024 .bf16)
    (wo : FVec Ideal S1024x1024 .bf16) (n : Fin 512 → EReal)
    (e0 : ∀ j : Fin 128, n0 (ix2 0 j) = n ⟨j.val, by omega⟩) (e1 : ∀ j : Fin 128, n1 (ix2 0 j) = n ⟨128 + j.val, by omega⟩)
    (e2 : ∀ j : Fin 128, n2 (ix2 0 j) = n ⟨256 + j.val, by omega⟩) (e3 : ∀ j : Fin 128, n3 (ix2 0 j) = n ⟨384 + j.val, by omega⟩)
    (r : Fin 256) (k : Fin 1024) :
    k0_pay19 (F := Ideal)
      (k0_pay15 (F := Ideal) (k0_pay12 (F := Ideal) a wa)
        (k0_pay13 (F := Ideal) (k0_pay3 (F := Ideal) g) (k0_pay4 (F := Ideal) p q g n0)
          (k0_pay8 (F := Ideal) (k0_pay5 (F := Ideal) p q) (k0_pay6 (F := Ideal) p q) (k0_pay7 (F := Ideal) g) (Scalar.ofBits .f32 0x358637BD#32) n1)
          (k0_pay9 (F := Ideal) (k0_pay2 (F := Ideal) p q) (k0_pay3 (F := Ideal) g) n2)
          (k0_pay10 (F := Ideal) (k0_pay2 (F := Ideal) p q)) (k0_pay11 (F := Ideal) (k0_pay2 (F := Ideal) p q)) n3 wb)
        (k0_pay14 (F := Ideal) ga) (Scalar.ofBits .f32 0x3F800000#32) gb wo)
      (k0_pay16 (F := Ideal) b0) (k0_pay17 (F := Ideal) x) (k0_pay18 (F := Ideal) g0) g1 b1 (ix2 r k)
      = Cert.Merge.hidden (fun j => a (ix2 r j)) (fun j => p (ix3 0 r j) + q (ix3 0 r j)) (fun j => g (ix2 r j)) n (fun j => ga (ix2 r j))
          (fun j => gb (ix2 r j)) (fun j => x (ix2 r j)) (fun j => g0 (ix2 0 j)) (fun j => b0 (ix2 0 j)) (fun j => g1 (ix2 0 j)) (fun j => b1 (ix2 0 j))
          (fun i j => wa (ix2 i j)) (fun i j => wb (ix2 i j)) (fun i j => wo (ix2 i j)) k := by
  rw [out_at]
  unfold Cert.Merge.hidden
  simp only [merged_at, attn_at, scan_at p q g n0 n1 n2 n3 wb n e0 e1 e2 e3]

end Cert.Kernel3Ideal.Merge
-- ==== Proof.MergeRef.lean ====
/- The merge's reference at an index, from the arguments' rows. -/
module

public import proofs.«01_k».proof.Proof.MergeBody
public import proofs.«01_k».proof.Proof.Gen.Reference3Ideal.Read

@[expose] public section

set_option maxRecDepth 16384

noncomputable section

open Idealize.ShloMosaic
open scoped BigOperators

namespace Cert.Reference3Ideal.Merge

open Cert.Reference3Ideal Cert.Reference3Ideal.Gen Cert.Reference3Ideal.Read

variable (x0 : FVec Ideal S65536x512 .bf16) (x1 : FVec Ideal S2x65536x512 .f32) (x2 : FVec Ideal S65536x3072 .bf16) (x3 : FVec Ideal S8x8192x1024 .f32)
  (x4 x5 : FVec Ideal S1024 .f32) (x6 : FVec Ideal S1x512 .f32) (x7 x8 : FVec Ideal S1x512x1024 .f32) (x9 : FVec Ideal S1x1024x1024 .f32)
  (x10 x11 : FVec Ideal S1x1024 .f32)

theorem scan_at (r : Fin 65536) (k : Fin 512) :
    val_main_v29 (F := Ideal) x1 x2 x6 (ix2 r k)
      = Cert.Merge.scanOut (fun j => x1 (ix3 0 r j) + x1 (ix3 1 r j)) (fun j => x2 (ix2 r ⟨512 + j.val, by omega⟩)) (fun j => x6 (ix2 0 j)) k := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v2, val_main_v0, val_main_cst, val_main_cst_0, val_main_cst_1, val_main_call0_v0, val_main_call0_v1, val_main_call0_v2,
    val_main_call0_v3, val_main_call0_v4, val_main_call0_v5, val_main_call0_cst, val_main_call0_cst_0, Cert.Merge.scanOut, Cert.Merge.headOut, Ideal.logistic]
  simp only [Nat.div_add_mod', Fin.eta]

theorem merged_at (r : Fin 65536) (k : Fin 1024) :
    val_main_v49 (F := Ideal) x0 x1 x2 x6 x7 x8 (ix2 r k)
      = Ideal.logistic (x2 (ix2 r ⟨1024 + k.val, by omega⟩)) * (∑ j : Fin 512, x0 (ix2 r j) * x7 (ix3 0 j k))
        + Ideal.logistic (x2 (ix2 r ⟨2048 + k.val, by omega⟩)) * (∑ j : Fin 512, val_main_v29 (F := Ideal) x1 x2 x6 (ix2 r j) * x8 (ix3 0 j k)) := by
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_2, val_main_cst_3, val_main_cst_4, val_main_cst_5, val_main_v3, val_main_v4, val_main_v0, Ideal.logistic]

theorem embed_at (r : Fin 65536) (k : Fin 1024) :
    val_main_v72 (F := Ideal) x3 x4 x5 (ix2 r k)
      = Cert.layerNorm (fun k => x3 (ix3 ⟨r.val / 8192, by omega⟩ ⟨r.val % 8192, by omega⟩ k)) (fun k => x4 (ix1 k)) (fun k => x5 (ix1 k)) k := by
  pointwise [val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_6, val_main_cst_7, val_main_cst_8, val_main_cst_9, val_main_cst_10, Cert.layerNorm]

theorem residual_at (r : Fin 65536) (k : Fin 1024) :
    val_main_v77 (F := Ideal) x0 x1 x2 x3 x4 x5 x6 x7 x8 x9 (ix2 r k)
      = Ideal.ofBits .f32 0x3F9837F0#32 * val_main_v72 (F := Ideal) x3 x4 x5 (ix2 r k)
        + ∑ j : Fin 1024, val_main_v49 (F := Ideal) x0 x1 x2 x6 x7 x8 (ix2 r j) * x9 (ix3 0 j k) := by
  pointwise [val_main_v77, val_main_v76, val_main_v75, val_main_v74, val_main_v73, val_main_cst_11]

theorem out_at (r : Fin 65536) (k : Fin 1024) :
    val_main_v101 (F := Ideal) x0 x1 x2 x3 x4 x5 x6 x7 x8 x9 x10 x11 (ix2 r k)
      = Cert.layerNorm (fun k => val_main_v77 (F := Ideal) x0 x1 x2 x3 x4 x5 x6 x7 x8 x9 (ix2 r k)) (fun k => x10 (ix2 0 k)) (fun k => x11 (ix2 0 k)) k := by
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_cst_12, val_main_cst_13, val_main_cst_14, val_main_cst_15, val_main_cst_16, Cert.layerNorm]

/-- The reference's result at an index, from the rows of the arguments. -/
theorem hidden_at (r : Fin 65536) (k : Fin 1024) :
    val_main_v101 (F := Ideal) x0 x1 x2 x3 x4 x5 x6 x7 x8 x9 x10 x11 (ix2 r k)
      = Cert.Merge.hidden (fun j => x0 (ix2 r j)) (fun j => x1 (ix3 0 r j) + x1 (ix3 1 r j)) (fun j => x2 (ix2 r ⟨512 + j.val, by omega⟩))
          (fun j => x6 (ix2 0 j)) (fun j => x2 (ix2 r ⟨1024 + j.val, by omega⟩)) (fun j => x2 (ix2 r ⟨2048 + j.val, by omega⟩))
          (fun k => x3 (ix3 ⟨r.val / 8192, by omega⟩ ⟨r.val % 8192, by omega⟩ k)) (fun k => x4 (ix1 k)) (fun k => x5 (ix1 k))
          (fun k => x10 (ix2 0 k)) (fun k => x11 (ix2 0 k)) (fun i j => x7 (ix3 0 i j)) (fun i j => x8 (ix3 0 i j)) (fun i j => x9 (ix3 0 i j)) k := by
  rw [out_at]
  unfold Cert.Merge.hidden
  simp only [residual_at, merged_at, scan_at, embed_at]

end Cert.Reference3Ideal.Merge
-- ==== Proof.MergeValue.lean ====
/- The merge call's hidden rows are the reference's. -/
module

public import proofs.«01_k».proof.Proof.MergeRef
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel3Ideal.Merge

open Cert.Kernel3Ideal Cert.Kernel3Ideal.Gen

variable (m : (ℓ : Loc nD τ sig) → Buf (Elt Ideal) ℓ)

/-- Every window's block index at a grid point: the row blocks move with the point, the parameters stay. -/
theorem idx : ∀ t : Fin cfg0.N, win0_0.index t = ![t.val, 0] ∧ win0_1.index t = ![0, t.val, 0] ∧ win0_2.index t = ![t.val, 1]
    ∧ win0_3.index t = ![t.val, 1] ∧ win0_4.index t = ![t.val, 2] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_16.index t = ![t.val, 0] :=
  (by decide +kernel : ∀ t : Fin grid0.N, _)

/-! The arrays the call is entered with, at an index, from the arguments. -/

theorem flat_rows (x : FVec Ideal S8x8192x1024 .f32) (r : Fin 65536) (k : Fin 1024) :
    shapeCast S65536x1024 x shapeCasts_S8x8192x1024_S65536x1024 (ix2 r k)
      = x (ix3 ⟨r.val / 8192, by omega⟩ ⟨r.val % 8192, by omega⟩ k) := by pointwise

theorem flat_vec (x : FVec Ideal S1024 .f32) (k : Fin 1024) :
    shapeCast S1x1024 x shapeCasts_S1024_S1x1024 (ix2 0 k) = x (ix1 k) := by pointwise

theorem flat_twice (x : FVec Ideal S1x1024 .f32) (k : Fin 1024) :
    shapeCast S1x1024 (shapeCast S1024 x shapeCasts_S1x1024_S1024) shapeCasts_S1024_S1x1024 (ix2 0 k) = x (ix2 0 k) := by pointwise

theorem flat_gain (x : FVec Ideal S1x512 .f32) (k : Fin 512) :
    shapeCast S1x512 (shapeCast S512 x shapeCasts_S1x512_S512) shapeCasts_S512_S1x512 (ix2 0 k) = x (ix2 0 k) := by pointwise

theorem flat_proj (x : FVec Ideal S1x512x1024 .f32) (k : Fin 512) (n : Fin 1024) :
    (truncf .bf16 (shapeCast S512x1024 x shapeCasts_S1x512x1024_S512x1024) bitsLt_bf16_f32 : FVec Ideal S512x1024 .bf16) (ix2 k n)
      = x (ix3 0 k n) := by pointwise

theorem flat_out (x : FVec Ideal S1x1024x1024 .f32) (k : Fin 1024) (n : Fin 1024) :
    (truncf .bf16 (shapeCast S1024x1024 x shapeCasts_S1x1024x1024_S1024x1024) bitsLt_bf16_f32 : FVec Ideal S1024x1024 .bf16) (ix2 k n)
      = x (ix3 0 k n) := by pointwise

theorem rows_at (c : Dev nD) (r : Fin 65536) (k : Fin 1024) :
    V m c main_v0 (ix2 r k) = m ((c : Thread nD τ).loc main_arg3) (ix3 ⟨r.val / 8192, by omega⟩ ⟨r.val % 8192, by omega⟩ k) := by
  have e : V m c main_v0 = shapeCast S65536x1024 (m ((c : Thread nD τ).loc main_arg3)) shapeCasts_S8x8192x1024_S65536x1024 := by entry_read; rfl
  rw [e]; exact flat_rows _ r k

theorem gain0_at (c : Dev nD) (k : Fin 1024) : V m c main_v28 (ix2 0 k) = m ((c : Thread nD τ).loc main_arg4) (ix1 k) := by
  have e : V m c main_v28 = shapeCast S1x1024 (m ((c : Thread nD τ).loc main_arg4)) shapeCasts_S1024_S1x1024 := by entry_read; rfl
  rw [e]; exact flat_vec _ k

theorem shift0_at (c : Dev nD) (k : Fin 1024) : V m c main_v29 (ix2 0 k) = m ((c : Thread nD τ).loc main_arg5) (ix1 k) := by
  have e : V m c main_v29 = shapeCast S1x1024 (m ((c : Thread nD τ).loc main_arg5)) shapeCasts_S1024_S1x1024 := by entry_read; rfl
  rw [e]; exact flat_vec _ k

theorem gain1_at (c : Dev nD) (k : Fin 1024) : V m c main_v31 (ix2 0 k) = m ((c : Thread nD τ).loc main_arg10) (ix2 0 k) := by
  have e : V m c main_v31 = shapeCast S1x1024 (shapeCast S1024 (m ((c : Thread nD τ).loc main_arg10)) shapeCasts_S1x1024_S1024) shapeCasts_S1024_S1x1024 := by entry_read; rfl
  rw [e]; exact flat_twice _ k

theorem shift1_at (c : Dev nD) (k : Fin 1024) : V m c main_v32 (ix2 0 k) = m ((c : Thread nD τ).loc main_arg11) (ix2 0 k) := by
  have e : V m c main_v32 = shapeCast S1x1024 (shapeCast S1024 (m ((c : Thread nD τ).loc main_arg11)) shapeCasts_S1x1024_S1024) shapeCasts_S1024_S1x1024 := by entry_read; rfl
  rw [e]; exact flat_twice _ k

theorem scale_at (c : Dev nD) (k : Fin 512) : V m c main_v30 (ix2 0 k) = m ((c : Thread nD τ).loc main_arg6) (ix2 0 k) := by
  have e : V m c main_v30 = shapeCast S1x512 (shapeCast S512 (m ((c : Thread nD τ).loc main_arg6)) shapeCasts_S1x512_S512) shapeCasts_S512_S1x512 := by entry_read; rfl
  rw [e]; exact flat_gain _ k

theorem projA_at (c : Dev nD) (k : Fin 512) (n : Fin 1024) : V m c main_v21 (ix2 k n) = m ((c : Thread nD τ).loc main_arg7) (ix3 0 k n) := by
  have e : V m c main_v21 = (truncf .bf16 (shapeCast S512x1024 (m ((c : Thread nD τ).loc main_arg7) : FVec Ideal S1x512x1024 .f32) shapeCasts_S1x512x1024_S512x1024) bitsLt_bf16_f32 : FVec Ideal S512x1024 .bf16) := by entry_read; rfl
  rw [e]; exact flat_proj _ k n

theorem projB_at (c : Dev nD) (k : Fin 512) (n : Fin 1024) : V m c main_v23 (ix2 k n) = m ((c : Thread nD τ).loc main_arg8) (ix3 0 k n) := by
  have e : V m c main_v23 = (truncf .bf16 (shapeCast S512x1024 (m ((c : Thread nD τ).loc main_arg8) : FVec Ideal S1x512x1024 .f32) shapeCasts_S1x512x1024_S512x1024) bitsLt_bf16_f32 : FVec Ideal S512x1024 .bf16) := by entry_read; rfl
  rw [e]; exact flat_proj _ k n

theorem projO_at (c : Dev nD) (k n : Fin 1024) : V m c main_v25 (ix2 k n) = m ((c : Thread nD τ).loc main_arg9) (ix3 0 k n) := by
  have e : V m c main_v25 = (truncf .bf16 (shapeCast S1024x1024 (m ((c : Thread nD τ).loc main_arg9) : FVec Ideal S1x1024x1024 .f32) shapeCasts_S1x1024x1024_S1024x1024) bitsLt_bf16_f32 : FVec Ideal S1024x1024 .bf16) := by entry_read; rfl
  rw [e]; exact flat_out _ k n

/-! A block of an array read at an index: row `r` of row block `t` is row `256 t + r`; the parameters are whole. -/

theorem attn_block (X : FVec Ideal S65536x512 .bf16) (t : Fin cfg0.N) (r : Fin 256) (k : Fin 512) (R : Fin 65536) (h : R.val = t.val * 256 + r.val) :
    View.ld (((cfg0.win 0).blk t).view.read (Elt Ideal) X) r0_2 (ix2 r k) = X (ix2 R k) := by
  pointwise; refine congrArg X ?_; blk_ext [idx t]

theorem scan_block (X : FVec Ideal S2x65536x512 .f32) (t : Fin cfg0.N) (d : Fin 2) (inb) (r : Fin 256) (k : Fin 512) (R : Fin 65536) (h : R.val = t.val * 256 + r.val) :
    View.ld (((cfg0.win 1).blk t).view.read (Elt Ideal) X) (Rect.unit (s := S2x256x512) ![d.val, 0, 0] S1x256x512.size inb) (ix3 0 r k) = X (ix3 d R k) := by
  refine (View.ld_unit_apply_of _ _ _ _ _ (ix3 d r k) (by intro a; match a with | ⟨0, _⟩ => simp | ⟨1, _⟩ => simp | ⟨2, _⟩ => simp)).trans ?_
  refine congrArg X ?_; blk_ext [idx t]

theorem gate_block (X : FVec Ideal S65536x3072 .bf16) (t : Fin cfg0.N) (r : Fin 256) (k : Fin 512) (R : Fin 65536) (K : Fin 3072)
    (h : R.val = t.val * 256 + r.val) (hK : K.val = 512 + k.val) :
    View.ld (((cfg0.win 2).blk t).view.read (Elt Ideal) X) r0_2 (ix2 r k) = X (ix2 R K) := by
  pointwise; refine congrArg X ?_; blk_ext [idx t]

theorem gateA_block (X : FVec Ideal S65536x3072 .bf16) (t : Fin cfg0.N) (r : Fin 256) (k : Fin 1024) (R : Fin 65536) (K : Fin 3072)
    (h : R.val = t.val * 256 + r.val) (hK : K.val = 1024 + k.val) :
    View.ld (((cfg0.win 3).blk t).view.read (Elt Ideal) X) r0_8 (ix2 r k) = X (ix2 R K) := by
  pointwise; refine congrArg X ?_; blk_ext [idx t]

theorem gateB_block (X : FVec Ideal S65536x3072 .bf16) (t : Fin cfg0.N) (r : Fin 256) (k : Fin 1024) (R : Fin 65536) (K : Fin 3072)
    (h : R.val = t.val * 256 + r.val) (hK : K.val = 2048 + k.val) :
    View.ld (((cfg0.win 4).blk t).view.read (Elt Ideal) X) r0_8 (ix2 r k) = X (ix2 R K) := by
  pointwise; refine congrArg X ?_; blk_ext [idx t]

theorem row_block (X : FVec Ideal S65536x1024 .f32) (t : Fin cfg0.N) (r : Fin 256) (k : Fin 1024) (R : Fin 65536) (h : R.val = t.val * 256 + r.val) :
    View.ld (((cfg0.win 5).blk t).view.read (Elt Ideal) X) r0_8 (ix2 r k) = X (ix2 R k) := by
  pointwise; refine congrArg X ?_; blk_ext [idx t]

theorem scale_block (X : FVec Ideal S1x512 .f32) (t : Fin cfg0.N) (o : Nat) (inb) (j : Fin 128) (k : Fin 512) (h : k.val = o + j.val) :
    View.ld (((cfg0.win 8).blk t).view.read (Elt Ideal) X) (Rect.unit (s := S1x512) ![0, o] S1x128.size inb) (ix2 0 j) = X (ix2 0 k) := by
  refine (View.ld_unit_apply_of _ _ _ _ _ (ix2 0 k) (by intro a; match a with | ⟨0, _⟩ => simp | ⟨1, _⟩ => simp [h])).trans ?_
  refine congrArg X ?_; blk_ext [idx t]

theorem gain0_block (X : FVec Ideal S1x1024 .f32) (t : Fin cfg0.N) (k : Fin 1024) :
    View.ld (((cfg0.win 6).blk t).view.read (Elt Ideal) X) r0_10 (ix2 0 k) = X (ix2 0 k) := by
  pointwise; refine congrArg X ?_; blk_ext [idx t]

theorem shift0_block (X : FVec Ideal S1x1024 .f32) (t : Fin cfg0.N) (k : Fin 1024) :
    View.ld (((cfg0.win 7).blk t).view.read (Elt Ideal) X) r0_10 (ix2 0 k) = X (ix2 0 k) := by
  pointwise; refine congrArg X ?_; blk_ext [idx t]

theorem gain1_block (X : FVec Ideal S1x1024 .f32) (t : Fin cfg0.N) (k : Fin 1024) :
    View.ld (((cfg0.win 12).blk t).view.read (Elt Ideal) X) r0_10 (ix2 0 k) = X (ix2 0 k) := by
  pointwise; refine congrArg X ?_; blk_ext [idx t]

theorem shift1_block (X : FVec Ideal S1x1024 .f32) (t : Fin cfg0.N) (k : Fin 1024) :
    View.ld (((cfg0.win 13).blk t).view.read (Elt Ideal) X) r0_10 (ix2 0 k) = X (ix2 0 k) := by
  pointwise; refine congrArg X ?_; blk_ext [idx t]

theorem projA_block (X : FVec Ideal S512x1024 .bf16) (t : Fin cfg0.N) (k : Fin 512) (n : Fin 1024) :
    View.ld (((cfg0.win 9).blk t).view.read (Elt Ideal) X) r0_7 (ix2 k n) = X (ix2 k n) := by
  pointwise; refine congrArg X ?_; blk_ext [idx t]

theorem projB_block (X : FVec Ideal S512x1024 .bf16) (t : Fin cfg0.N) (k : Fin 512) (n : Fin 1024) :
    View.ld (((cfg0.win 10).blk t).view.read (Elt Ideal) X) r0_7 (ix2 k n) = X (ix2 k n) := by
  pointwise; refine congrArg X ?_; blk_ext [idx t]

theorem projO_block (X : FVec Ideal S1024x1024 .bf16) (t : Fin cfg0.N) (k n : Fin 1024) :
    View.ld (((cfg0.win 11).blk t).view.read (Elt Ideal) X) r0_9 (ix2 k n) = X (ix2 k n) := by
  pointwise; refine congrArg X ?_; blk_ext [idx t]

set_option maxHeartbeats 1600000 in
theorem final16 (c : Dev nD) : (dats m 0 c).arrAt 16 cfg0.N
    = Cert.Reference3Ideal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 16 _ (by decide +kernel) fun t _ y => ?_
  have e16 := (idx t).2.2.2.2.2.2.2.2.2.2.2.2.2.2
  blk_simp
  rw [after0_16]
  unfold_out out0_16
  canon_tiles x h
  rw [eq_ix2 x, eq_ix2 ((win0_16.blk t).view.emb y)]
  have hk : x 1 = (win0_16.blk t).view.emb y 1 := Fin.ext (by dsimp only; blk_simp [e16]; omega)
  rw [hk]
  have hr : ((win0_16.blk t).view.emb y 0).val = t.val * 256 + (x 0).val := by dsimp only; blk_simp [e16]; omega
  refine Eq.trans ?_ (Cert.Reference3Ideal.Merge.hidden_at ..).symm
  refine (hidden_at _ _ _ _ _ _ _ _ _ _ _ _ _ _ _ _ _ _ (fun j => (m ((c : Thread nD τ).loc main_arg6)) (ix2 0 j)) ?_ ?_ ?_ ?_ _ _).trans ?_
  · exact fun j => (scale_block (V m c main_v30) t 0 _ j ⟨j.val, by omega⟩ (by simp)).trans (scale_at m c _)
  · exact fun j => (scale_block (V m c main_v30) t 128 _ j ⟨128 + j.val, by omega⟩ rfl).trans (scale_at m c _)
  · exact fun j => (scale_block (V m c main_v30) t 256 _ j ⟨256 + j.val, by omega⟩ rfl).trans (scale_at m c _)
  · exact fun j => (scale_block (V m c main_v30) t 384 _ j ⟨384 + j.val, by omega⟩ rfl).trans (scale_at m c _)
  congr 1
  · funext j; exact (attn_block (V m c main_arg0) t _ j _ hr).trans (congrFun (V_main_arg0 m c) _)
  · funext j
    exact congrArg₂ (· + ·) ((scan_block (V m c main_arg1) t 0 _ _ j _ hr).trans (congrFun (V_main_arg1 m c) _))
      ((scan_block (V m c main_arg1) t 1 _ _ j _ hr).trans (congrFun (V_main_arg1 m c) _))
  · funext j; exact (gate_block (V m c main_arg2) t _ j _ ⟨512 + j.val, by omega⟩ hr rfl).trans (congrFun (V_main_arg2 m c) _)
  · funext j; exact (gateA_block (V m c main_arg2) t _ j _ ⟨1024 + j.val, by omega⟩ hr rfl).trans (congrFun (V_main_arg2 m c) _)
  · funext j; exact (gateB_block (V m c main_arg2) t _ j _ ⟨2048 + j.val, by omega⟩ hr rfl).trans (congrFun (V_main_arg2 m c) _)
  · funext j; exact (row_block (V m c main_v0) t _ j _ hr).trans (rows_at m c _ j)
  · funext j; exact (gain0_block (V m c main_v28) t j).trans (gain0_at m c j)
  · funext j; exact (shift0_block (V m c main_v29) t j).trans (shift0_at m c j)
  · funext j; exact (gain1_block (V m c main_v31) t j).trans (gain1_at m c j)
  · funext j; exact (shift1_block (V m c main_v32) t j).trans (shift1_at m c j)
  · funext i j; exact (projA_block (V m c main_v21) t i j).trans (projA_at m c i j)
  · funext i j; exact (projB_block (V m c main_v23) t i j).trans (projB_at m c i j)
  · funext i j; exact (projO_block (V m c main_v25) t i j).trans (projO_at m c i j)

end Cert.Kernel3Ideal.Merge
-- ==== Proof.MergeClaim.lean ====
/- The merge call computes the reference's hidden rows. -/
module

public import proofs.«01_k».proof.Defs
public import proofs.«01_k».proof.Proof.MergeValue
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.Merge

set_option maxHeartbeats 2000000 in
open Cert.Reference3Ideal.Read in
/-- The gated heads, the two projections, their gated sum, the output projection, the residual and its norm: the
    call's first array is the reference's, whatever the arguments hold. -/
theorem agrees : Cert.algebraic_Kernel3Ideal_Reference3Ideal
    (hKernel3Ideal := Cert.Kernel3Ideal.Gen.facts) (hReference3Ideal := Cert.Reference3Ideal.Gen.facts) := by
  pair_intro
  · run_from Cert.Kernel3Ideal.Gen.run_main m g
    exact hc.1 16
  · refine (θ_run _ _ _).mono (fun r h c => ?_) (Cert.Reference3Ideal.Value.run (F := Ideal) m' g')
    obtain ⟨r0, keep⟩ := h c
    obtain ⟨h0, h1, h2, h3, h4, h5, h6, h7, h8, h9, h10, h11, -⟩ := hagree c
    refine ⟨r0.trans ((val_main_v101_eq m' c).trans ?_), keep⟩
    rw [h0, h1, h2, h3, h4, h5, h6, h7, h8, h9, h10, h11]; exact (Cert.Kernel3Ideal.Merge.final16 m c).symm

end Cert.Merge
-- ==== Proof.FinalValue.lean ====
/- The final call's result array is the reference's: the residual sum with the two experts' outputs, normalised. -/
module

public import proofs.«01_k».proof.Proof.Norm
public import proofs.«01_k».proof.Proof.Gen.Kernel4Ideal.Frame
public import proofs.«01_k».proof.Proof.Gen.Reference4Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

/-- A token's residual: the scaled hidden row plus the outputs of its two experts. -/
def Cert.Final.residual (h y0 y1 : Fin 1024 → EReal) (k : Fin 1024) : EReal :=
  Ideal.ofBits .f32 0x3F9837F0#32 * h k + (y0 k + y1 k)

namespace Cert.Reference4Ideal.Final

open Cert.Reference4Ideal Cert.Reference4Ideal.Gen Cert.Reference4Ideal.Read

theorem residual_at (x0 : FVec Ideal S65536x1024 .f32) (x1 : FVec Ideal S131072x1024 .f32) (r : Fin 65536) (k : Fin 1024) :
    val_main_v4 (F := Ideal) x0 x1 (ix2 r k)
      = Cert.Final.residual (fun k => x0 (ix2 r k)) (fun k => x1 (ix2 ⟨r.val * 2, by omega⟩ k)) (fun k => x1 (ix2 ⟨r.val * 2 + 1, by omega⟩ k)) k := by
  pointwise [val_main_v4, val_main_v3, val_main_v2, val_main_cst_0, val_main_v1, val_main_cst, val_main_v0, Cert.Final.residual]
  simp [Fin.sum_univ_two]

theorem out_at (x0 : FVec Ideal S65536x1024 .f32) (x1 : FVec Ideal S131072x1024 .f32) (x2 x3 : FVec Ideal S1x1024 .f32)
    (r : Fin 65536) (k : Fin 1024) :
    val_main_v28 (F := Ideal) x0 x1 x2 x3 (ix2 r k)
      = Cert.layerNorm (fun k => val_main_v4 (F := Ideal) x0 x1 (ix2 r k)) (fun k => x2 (ix2 0 k)) (fun k => x3 (ix2 0 k)) k := by
  pointwise [val_main_v28, val_main_v27, val_main_v26, val_main_v25, val_main_v24, val_main_v23, val_main_v22, val_main_v21,
    val_main_v20, val_main_v19, val_main_v18, val_main_cst_5, val_main_v17, val_main_v16, val_main_cst_4, val_main_v15,
    val_main_v14, val_main_cst_3, val_main_v13, val_main_v12, val_main_v11, val_main_v10, val_main_v9, val_main_cst_2,
    val_main_v8, val_main_v7, val_main_cst_1, val_main_v6, val_main_v5, Cert.layerNorm]

end Cert.Reference4Ideal.Final

namespace Cert.Kernel4Ideal.Final

open Cert.Kernel4Ideal Cert.Kernel4Ideal.Gen

theorem piece_at (h y0 y1 : FVec Ideal S512x1024 .f32) (g b : FVec Ideal S1x1024 .f32) (r : Fin 512) (k : Fin 1024) :
    k0_pay1 (F := Ideal) h y0 y1 g b (ix2 r k)
      = Cert.layerNorm (Cert.Final.residual (fun k => h (ix2 r k)) (fun k => y0 (ix2 r k)) (fun k => y1 (ix2 r k)))
          (fun k => g (ix2 0 k)) (fun k => b (ix2 0 k)) k := by
  pointwise [k0_pay1, Cert.layerNorm, Cert.Final.residual]
  simp only [add_assoc]

variable (m : (ℓ : Loc nD τ sig) → Buf (Elt Ideal) ℓ)

/-- Every window's block index at a grid point: the row blocks move with the point, the parameters stay. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

theorem flat_pairs (x : FVec Ideal S131072x1024 .f32) (r : Fin 65536) (k : Fin 2048) (R : Fin 131072) (K : Fin 1024)
    (h : R.val * 1024 + K.val = r.val * 2048 + k.val) :
    shapeCast S65536x2048 x shapeCasts_S131072x1024_S65536x2048 (ix2 r k) = x (ix2 R K) := by
  pointwise
  exact congrArg₂ (fun a b => x (ix2 a b)) (Fin.ext (by dsimp only; omega)) (Fin.ext (by dsimp only; omega))

theorem flat_twice (x : FVec Ideal S1x1024 .f32) (k : Fin 1024) :
    shapeCast S1x1024 (shapeCast S1024 x shapeCasts_S1x1024_S1024) shapeCasts_S1024_S1x1024 (ix2 0 k) = x (ix2 0 k) := by pointwise

theorem pairs_at (c : Dev nD) (r : Fin 65536) (k : Fin 2048) (R : Fin 131072) (K : Fin 1024)
    (h : R.val * 1024 + K.val = r.val * 2048 + k.val) :
    V m c main_v0 (ix2 r k) = m ((c : Thread nD τ).loc main_arg1) (ix2 R K) := by
  have e : V m c main_v0 = shapeCast S65536x2048 (m ((c : Thread nD τ).loc main_arg1)) shapeCasts_S131072x1024_S65536x2048 := by entry_read; rfl
  rw [e]; exact flat_pairs _ r k R K h

theorem gain_at (c : Dev nD) (k : Fin 1024) : V m c main_v3 (ix2 0 k) = m ((c : Thread nD τ).loc main_arg2) (ix2 0 k) := by
  have e : V m c main_v3 = shapeCast S1x1024 (shapeCast S1024 (m ((c : Thread nD τ).loc main_arg2)) shapeCasts_S1x1024_S1024) shapeCasts_S1024_S1x1024 := by entry_read; rfl
  rw [e]; exact flat_twice _ k

theorem shift_at (c : Dev nD) (k : Fin 1024) : V m c main_v4 (ix2 0 k) = m ((c : Thread nD τ).loc main_arg3) (ix2 0 k) := by
  have e : V m c main_v4 = shapeCast S1x1024 (shapeCast S1024 (m ((c : Thread nD τ).loc main_arg3)) shapeCasts_S1x1024_S1024) shapeCasts_S1024_S1x1024 := by entry_read; rfl
  rw [e]; exact flat_twice _ k

/-- A block of an array read at an index: row `r` of row block `t` is row `512 t + r`; the parameters are whole. -/
theorem row_block (X : FVec Ideal S65536x1024 .f32) (t : Fin cfg0.N) (r : Fin 512) (k : Fin 1024) (R : Fin 65536)
    (h : R.val = t.val * 512 + r.val) :
    View.ld (((cfg0.win 0).blk t).view.read (Elt Ideal) X) r0_0 (ix2 r k) = X (ix2 R k) := by
  pointwise
  refine congrArg X ?_
  blk_ext [idx t]

theorem pair_block (X : FVec Ideal S65536x2048 .f32) (t : Fin cfg0.N) (o : Nat) (inb) (r : Fin 512) (k : Fin 1024) (R : Fin 65536)
    (K : Fin 2048) (h : R.val = t.val * 512 + r.val) (hK : K.val = o + k.val) :
    View.ld (((cfg0.win 1).blk t).view.read (Elt Ideal) X) (Rect.unit (s := S512x2048) ![0, o] S512x1024.size inb) (ix2 r k) = X (ix2 R K) := by
  refine (View.ld_unit_apply_of _ _ _ _ _ (ix2 r K) (by intro a; match a with | ⟨0, _⟩ => simp | ⟨1, _⟩ => simp [hK])).trans ?_
  refine congrArg X ?_
  blk_ext [idx t]

theorem gain_block (X : FVec Ideal S1x1024 .f32) (t : Fin cfg0.N) (k : Fin 1024) :
    View.ld (((cfg0.win 2).blk t).view.read (Elt Ideal) X) r0_3 (ix2 0 k) = X (ix2 0 k) := by
  pointwise
  refine congrArg X ?_
  blk_ext [idx t]

theorem shift_block (X : FVec Ideal S1x1024 .f32) (t : Fin cfg0.N) (k : Fin 1024) :
    View.ld (((cfg0.win 3).blk t).view.read (Elt Ideal) X) r0_3 (ix2 0 k) = X (ix2 0 k) := by
  pointwise
  refine congrArg X ?_
  blk_ext [idx t]

theorem final4 (c : Dev nD) : (dats m 0 c).arrAt 4 cfg0.N
    = Cert.Reference4Ideal.Read.val_main_v28 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  obtain ⟨e0, e1, e2, e3, e4⟩ := idx t
  blk_simp
  rw [after0_4]
  unfold out0_4
  canon_tiles x h
  rw [eq_ix2 x, eq_ix2 ((win0_4.blk t).view.emb y)]
  refine Eq.trans ?_ (Cert.Reference4Ideal.Final.out_at ..).symm
  refine (piece_at ..).trans ?_
  have hk : x 1 = (win0_4.blk t).view.emb y 1 := Fin.ext (by dsimp only; blk_simp [e4]; omega)
  rw [hk]
  have hr : ((win0_4.blk t).view.emb y 0).val = t.val * 512 + (x 0).val := by dsimp only; blk_simp [e4]; omega
  congr 1
  · funext k
    refine Eq.trans ?_ (Cert.Reference4Ideal.Final.residual_at ..).symm
    congr 1 <;> funext k
    · exact (row_block (V m c main_arg0) t _ k _ hr).trans (congrFun (V_main_arg0 m c) _)
    · exact (pair_block (V m c main_v0) t _ _ _ k _ ⟨k.val, by omega⟩ hr (by simp)).trans (pairs_at m c _ _ _ k (by dsimp only; omega))
    · exact (pair_block (V m c main_v0) t _ _ _ k _ ⟨1024 + k.val, by omega⟩ hr rfl).trans (pairs_at m c _ _ _ k (by dsimp only; omega))
  · funext k; exact (gain_block (V m c main_v3) t k).trans (gain_at m c k)
  · funext k; exact (shift_block (V m c main_v4) t k).trans (shift_at m c k)

end Cert.Kernel4Ideal.Final
-- ==== Proof.FinalClaim.lean ====
/- The final call computes the reference's result. -/
module

public import proofs.«01_k».proof.Defs
public import proofs.«01_k».proof.Proof.FinalValue
public import proofs.«01_k».proof.Proof.Gen.Reference4Ideal.Run
public import Idealize.ShloMosaic.Lib.Claim

@[expose] public section

set_option maxRecDepth 16384

noncomputable section

open Idealize.ShloMosaic Idealize.ShloMosaic.TcCoe Idealize.SL.Sem

namespace Cert.Final

open Cert.Reference4Ideal.Read in
/-- The residual sum and its norm: the call's array is the reference's, whatever the arguments hold. -/
theorem agrees : Cert.algebraic_Kernel4Ideal_Reference4Ideal
    (hKernel4Ideal := Cert.Kernel4Ideal.Gen.facts) (hReference4Ideal := Cert.Reference4Ideal.Gen.facts) := by
  pair_intro
  · run_from Cert.Kernel4Ideal.Gen.run_main m g
  · refine (θ_run _ _ _).mono (fun r h c => ?_) (Cert.Reference4Ideal.Value.run (F := Ideal) m' g')
    obtain ⟨r0, a0, a1, a2, a3⟩ := h c
    obtain ⟨h0, h1, h2, h3⟩ := hagree c
    refine ⟨r0.trans ((val_main_v28_eq _ _ _ _).trans ?_), a0, a1, a2, a3⟩
    rw [h0, h1, h2, h3]; exact (Cert.Kernel4Ideal.Final.final4 m c).symm

end Cert.Final
-- ==== Proof.RouteBlocks.lean ====
/- The merge call's blocks, and the arrays it is entered with, at an index. -/
module

public import proofs.«01_k».proof.Proof.Gen.Kernel5Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel5Ideal.Route

open Cert.Kernel5Ideal Cert.Kernel5Ideal.Gen

variable (m : (ℓ : Loc nD τ sig) → Buf (Elt Ideal) ℓ)

/-- Every window's block index at a grid point: the row blocks move with the point, the parameters stay. -/
theorem idx : ∀ t : Fin cfg0.N, win0_0.index t = ![t.val, 0] ∧ win0_1.index t = ![0, t.val, 0] ∧ win0_2.index t = ![t.val, 1]
    ∧ win0_3.index t = ![t.val, 1] ∧ win0_4.index t = ![t.val, 2] ∧ win0_5.index t = ![t.val, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0]
    ∧ win0_17.index t = ![0, t.val] ∧ win0_18.index t = ![0, t.val] :=
  (by decide +kernel : ∀ t : Fin grid0.N, _)

/-! The arrays the call is entered with, at an index, from the arguments. -/

theorem flat_rows (x : FVec Ideal S8x8192x1024 .f32) (r : Fin 65536) (k : Fin 1024) :
    shapeCast S65536x1024 x shapeCasts_S8x8192x1024_S65536x1024 (ix2 r k)
      = x (ix3 ⟨r.val / 8192, by omega⟩ ⟨r.val % 8192, by omega⟩ k) := by pointwise

theorem flat_vec (x : FVec Ideal S1024 .f32) (k : Fin 1024) :
    shapeCast S1x1024 x shapeCasts_S1024_S1x1024 (ix2 0 k) = x (ix1 k) := by pointwise

theorem flat_twice (x : FVec Ideal S1x1024 .f32) (k : Fin 1024) :
    shapeCast S1x1024 (shapeCast S1024 x shapeCasts_S1x1024_S1024) shapeCasts_S1024_S1x1024 (ix2 0 k) = x (ix2 0 k) := by pointwise

theorem flat_gain (x : FVec Ideal S1x512 .f32) (k : Fin 512) :
    shapeCast S1x512 (shapeCast S512 x shapeCasts_S1x512_S512) shapeCasts_S512_S1x512 (ix2 0 k) = x (ix2 0 k) := by pointwise

theorem flat_proj (x : FVec Ideal S1x512x1024 .f32) (k : Fin 512) (n : Fin 1024) :
    (truncf .bf16 (shapeCast S512x1024 x shapeCasts_S1x512x1024_S512x1024) bitsLt_bf16_f32 : FVec Ideal S512x1024 .bf16) (ix2 k n)
      = x (ix3 0 k n) := by pointwise

theorem flat_out (x : FVec Ideal S1x1024x1024 .f32) (k : Fin 1024) (n : Fin 1024) :
    (truncf .bf16 (shapeCast S1024x1024 x shapeCasts_S1x1024x1024_S1024x1024) bitsLt_bf16_f32 : FVec Ideal S1024x1024 .bf16) (ix2 k n)
      = x (ix3 0 k n) := by pointwise

theorem embed_rows_at (c : Dev nD) (r : Fin 65536) (k : Fin 1024) :
    V m c main_v0 (ix2 r k) = m ((c : Thread nD τ).loc main_arg3) (ix3 ⟨r.val / 8192, by omega⟩ ⟨r.val % 8192, by omega⟩ k) := by
  have e : V m c main_v0 = shapeCast S65536x1024 (m ((c : Thread nD τ).loc main_arg3)) shapeCasts_S8x8192x1024_S65536x1024 := by entry_read; rfl
  rw [e]; exact flat_rows _ r k

theorem gain0_at (c : Dev nD) (k : Fin 1024) : V m c main_v28 (ix2 0 k) = m ((c : Thread nD τ).loc main_arg4) (ix1 k) := by
  have e : V m c main_v28 = shapeCast S1x1024 (m ((c : Thread nD τ).loc main_arg4)) shapeCasts_S1024_S1x1024 := by entry_read; rfl
  rw [e]; exact flat_vec _ k

theorem shift0_at (c : Dev nD) (k : Fin 1024) : V m c main_v29 (ix2 0 k) = m ((c : Thread nD τ).loc main_arg5) (ix1 k) := by
  have e : V m c main_v29 = shapeCast S1x1024 (m ((c : Thread nD τ).loc main_arg5)) shapeCasts_S1024_S1x1024 := by entry_read; rfl
  rw [e]; exact flat_vec _ k

theorem gain1_at (c : Dev nD) (k : Fin 1024) : V m c main_v31 (ix2 0 k) = m ((c : Thread nD τ).loc main_arg10) (ix2 0 k) := by
  have e : V m c main_v31 = shapeCast S1x1024 (shapeCast S1024 (m ((c : Thread nD τ).loc main_arg10)) shapeCasts_S1x1024_S1024) shapeCasts_S1024_S1x1024 := by entry_read; rfl
  rw [e]; exact flat_twice _ k

theorem shift1_at (c : Dev nD) (k : Fin 1024) : V m c main_v32 (ix2 0 k) = m ((c : Thread nD τ).loc main_arg11) (ix2 0 k) := by
  have e : V m c main_v32 = shapeCast S1x1024 (shapeCast S1024 (m ((c : Thread nD τ).loc main_arg11)) shapeCasts_S1x1024_S1024) shapeCasts_S1024_S1x1024 := by entry_read; rfl
  rw [e]; exact flat_twice _ k

theorem scale_at (c : Dev nD) (k : Fin 512) : V m c main_v30 (ix2 0 k) = m ((c : Thread nD τ).loc main_arg6) (ix2 0 k) := by
  have e : V m c main_v30 = shapeCast S1x512 (shapeCast S512 (m ((c : Thread nD τ).loc main_arg6)) shapeCasts_S1x512_S512) shapeCasts_S512_S1x512 := by entry_read; rfl
  rw [e]; exact flat_gain _ k

theorem projA_at (c : Dev nD) (k : Fin 512) (n : Fin 1024) : V m c main_v21 (ix2 k n) = m ((c : Thread nD τ).loc main_arg7) (ix3 0 k n) := by
  have e : V m c main_v21 = (truncf .bf16 (shapeCast S512x1024 (m ((c : Thread nD τ).loc main_arg7) : FVec Ideal S1x512x1024 .f32) shapeCasts_S1x512x1024_S512x1024) bitsLt_bf16_f32 : FVec Ideal S512x1024 .bf16) := by entry_read; rfl
  rw [e]; exact flat_proj _ k n

theorem projB_at (c : Dev nD) (k : Fin 512) (n : Fin 1024) : V m c main_v23 (ix2 k n) = m ((c : Thread nD τ).loc main_arg8) (ix3 0 k n) := by
  have e : V m c main_v23 = (truncf .bf16 (shapeCast S512x1024 (m ((c : Thread nD τ).loc main_arg8) : FVec Ideal S1x512x1024 .f32) shapeCasts_S1x512x1024_S512x1024) bitsLt_bf16_f32 : FVec Ideal S512x1024 .bf16) := by entry_read; rfl
  rw [e]; exact flat_proj _ k n

theorem projO_at (c : Dev nD) (k n : Fin 1024) : V m c main_v25 (ix2 k n) = m ((c : Thread nD τ).loc main_arg9) (ix3 0 k n) := by
  have e : V m c main_v25 = (truncf .bf16 (shapeCast S1024x1024 (m ((c : Thread nD τ).loc main_arg9) : FVec Ideal S1x1024x1024 .f32) shapeCasts_S1x1024x1024_S1024x1024) bitsLt_bf16_f32 : FVec Ideal S1024x1024 .bf16) := by entry_read; rfl
  rw [e]; exact flat_out _ k n

/-! A block of an array read at an index: row `r` of row block `t` is row `256 t + r`; the parameters are whole. -/

theorem attn_block (X : FVec Ideal S65536x512 .bf16) (t : Fin cfg0.N) (r : Fin 256) (k : Fin 512) (R : Fin 65536) (h : R.val = t.val * 256 + r.val) :
    View.ld (((cfg0.win 0).blk t).view.read (Elt Ideal) X) r0_2 (ix2 r k) = X (ix2 R k) := by
  pointwise; refine congrArg X ?_; blk_ext [idx t]

theorem scan_block (X : FVec Ideal S2x65536x512 .f32) (t : Fin cfg0.N) (d : Fin 2) (inb) (r : Fin 256) (k : Fin 512) (R : Fin 65536) (h : R.val = t.val * 256 + r.val) :
    View.ld (((cfg0.win 1).blk t).view.read (Elt Ideal) X) (Rect.unit (s := S2x256x512) ![d.val, 0, 0] S1x256x512.size inb) (ix3 0 r k) = X (ix3 d R k) := by
  refine (View.ld_unit_apply_of _ _ _ _ _ (ix3 d r k) (by intro a; match a with | ⟨0, _⟩ => simp | ⟨1, _⟩ => simp | ⟨2, _⟩ => simp)).trans ?_
  refine congrArg X ?_; blk_ext [idx t]

theorem gate_block (X : FVec Ideal S65536x3072 .bf16) (t : Fin cfg0.N) (r : Fin 256) (k : Fin 512) (R : Fin 65536) (K : Fin 3072)
    (h : R.val = t.val * 256 + r.val) (hK : K.val = 512 + k.val) :
    View.ld (((cfg0.win 2).blk t).view.read (Elt Ideal) X) r0_2 (ix2 r k) = X (ix2 R K) := by
  pointwise; refine congrArg X ?_; blk_ext [idx t]

theorem gateA_block (X : FVec Ideal S65536x3072 .bf16) (t : Fin cfg0.N) (r : Fin 256) (k : Fin 1024) (R : Fin 65536) (K : Fin 3072)
    (h : R.val = t.val * 256 + r.val) (hK : K.val = 1024 + k.val) :
    View.ld (((cfg0.win 3).blk t).view.read (Elt Ideal) X) r0_8 (ix2 r k) = X (ix2 R K) := by
  pointwise; refine congrArg X ?_; blk_ext [idx t]

theorem gateB_block (X : FVec Ideal S65536x3072 .bf16) (t : Fin cfg0.N) (r : Fin 256) (k : Fin 1024) (R : Fin 65536) (K : Fin 3072)
    (h : R.val = t.val * 256 + r.val) (hK : K.val = 2048 + k.val) :
    View.ld (((cfg0.win 4).blk t).view.read (Elt Ideal) X) r0_8 (ix2 r k) = X (ix2 R K) := by
  pointwise; refine congrArg X ?_; blk_ext [idx t]

theorem row_block (X : FVec Ideal S65536x1024 .f32) (t : Fin cfg0.N) (r : Fin 256) (k : Fin 1024) (R : Fin 65536) (h : R.val = t.val * 256 + r.val) :
    View.ld (((cfg0.win 5).blk t).view.read (Elt Ideal) X) r0_8 (ix2 r k) = X (ix2 R k) := by
  pointwise; refine congrArg X ?_; blk_ext [idx t]

theorem scale_block (X : FVec Ideal S1x512 .f32) (t : Fin cfg0.N) (o : Nat) (inb) (j : Fin 128) (k : Fin 512) (h : k.val = o + j.val) :
    View.ld (((cfg0.win 8).blk t).view.read (Elt Ideal) X) (Rect.unit (s := S1x512) ![0, o] S1x128.size inb) (ix2 0 j) = X (ix2 0 k) := by
  refine (View.ld_unit_apply_of _ _ _ _ _ (ix2 0 k) (by intro a; match a with | ⟨0, _⟩ => simp | ⟨1, _⟩ => simp [h])).trans ?_
  refine congrArg X ?_; blk_ext [idx t]

theorem gain0_block (X : FVec Ideal S1x1024 .f32) (t : Fin cfg0.N) (k : Fin 1024) :
    View.ld (((cfg0.win 6).blk t).view.read (Elt Ideal) X) r0_10 (ix2 0 k) = X (ix2 0 k) := by
  pointwise; refine congrArg X ?_; blk_ext [idx t]

theorem shift0_block (X : FVec Ideal S1x1024 .f32) (t : Fin cfg0.N) (k : Fin 1024) :
    View.ld (((cfg0.win 7).blk t).view.read (Elt Ideal) X) r0_10 (ix2 0 k) = X (ix2 0 k) := by
  pointwise; refine congrArg X ?_; blk_ext [idx t]

theorem gain1_block (X : FVec Ideal S1x1024 .f32) (t : Fin cfg0.N) (k : Fin 1024) :
    View.ld (((cfg0.win 12).blk t).view.read (Elt Ideal) X) r0_10 (ix2 0 k) = X (ix2 0 k) := by
  pointwise; refine congrArg X ?_; blk_ext [idx t]

theorem shift1_block (X : FVec Ideal S1x1024 .f32) (t : Fin cfg0.N) (k : Fin 1024) :
    View.ld (((cfg0.win 13).blk t).view.read (Elt Ideal) X) r0_10 (ix2 0 k) = X (ix2 0 k) := by
  pointwise; refine congrArg X ?_; blk_ext [idx t]

theorem projA_block (X : FVec Ideal S512x1024 .bf16) (t : Fin cfg0.N) (k : Fin 512) (n : Fin 1024) :
    View.ld (((cfg0.win 9).blk t).view.read (Elt Ideal) X) r0_7 (ix2 k n) = X (ix2 k n) := by
  pointwise; refine congrArg X ?_; blk_ext [idx t]

theorem projB_block (X : FVec Ideal S512x1024 .bf16) (t : Fin cfg0.N) (k : Fin 512) (n : Fin 1024) :
    View.ld (((cfg0.win 10).blk t).view.read (Elt Ideal) X) r0_7 (ix2 k n) = X (ix2 k n) := by
  pointwise; refine congrArg X ?_; blk_ext [idx t]

theorem projO_block (X : FVec Ideal S1024x1024 .bf16) (t : Fin cfg0.N) (k n : Fin 1024) :
    View.ld (((cfg0.win 11).blk t).view.read (Elt Ideal) X) r0_9 (ix2 k n) = X (ix2 k n) := by
  pointwise; refine congrArg X ?_; blk_ext [idx t]

theorem table_block (X : FVec Ideal S128x1024 .f32) (t : Fin cfg0.N) (r : Fin 128) (k : Fin 1024) :
    View.ld (((cfg0.win 14).blk t).view.read (Elt Ideal) X) r0_11 (ix2 r k) = X (ix2 r k) := by
  pointwise; refine congrArg X ?_; blk_ext [idx t]

theorem bias_block (X : FVec Ideal S128x128 .f32) (t : Fin cfg0.N) (r : Fin 128) :
    View.ld (((cfg0.win 15).blk t).view.read (Elt Ideal) X) r0_12 (ix2 r 0) = X (ix2 r 0) := by
  pointwise; refine congrArg X ?_; blk_ext [idx t]

end Cert.Kernel5Ideal.Route
-- ==== Proof.RouteMath.lean ====
/- The router's selection on one token's logits: first greatest, second greatest, and what the two experts weigh. -/
module

public import proofs.«01_k».proof.Proof.AttnMath
public import Idealize.ShloMosaic.Lib.SortFacts
public import Idealize.ShloMosaic.Lib.Pointwise

@[expose] public section

noncomputable section

open Idealize.ShloMosaic
open scoped BigOperators

namespace Cert.Route

/-- Position `a` comes before `b` in the order of decreasing numbers, equal numbers in the order of positions. -/
def Earlier {n : Nat} (f : Fin n → EReal) (a b : Fin n) : Prop := f b < f a ∨ (f a = f b ∧ a < b)

theorem pairwise_insert {n : Nat} (f : Fin n → EReal) (a : Fin n) (l : List (Fin n)) (ha : ∀ b ∈ l, a < b) (hl : l.Pairwise (Earlier f)) :
    (insertBefore (fun x y => decide (f y < f x)) a l).Pairwise (Earlier f) := by
  induction l with
  | nil => simp [insertBefore]
  | cons b l ih =>
    obtain ⟨hb, hl'⟩ := List.pairwise_cons.mp hl
    unfold insertBefore
    split
    · next h =>
      have hba : f a < f b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : f b ≤ f a := by simpa using h
      refine List.pairwise_cons.mpr ⟨fun x hx => ?_, hl⟩
      have hle : f x ≤ f a := by
        rcases List.mem_cons.mp hx with rfl | hx'
        · exact hab
        · rcases hb x hx' with h1 | ⟨h1, -⟩
          · exact h1.le.trans hab
          · exact h1 ▸ hab
      rcases hle.lt_or_eq with h1 | h1
      · exact Or.inl h1
      · exact Or.inr ⟨h1.symm, ha x hx⟩

theorem pairwise_sort {n : Nat} (f : Fin n → EReal) (l : List (Fin n)) (hl : l.Pairwise (· < ·)) :
    (stableSort (fun x y => decide (f y < f x)) l).Pairwise (Earlier f) := by
  induction l with
  | nil => simp [stableSort]
  | cons a l ih =>
    obtain ⟨ha, hl'⟩ := List.pairwise_cons.mp hl
    unfold stableSort
    exact pairwise_insert f a _ (fun b hb => ha b ((perm_stableSort _ l).mem_iff.mp hb)) (ih hl')

/-- The position of the `k`-th greatest number, equal numbers in the order of positions. -/
def rank {n : Nat} (f : Fin n → EReal) (k : Fin n) : Fin n := sortedFrom (fun x y => decide (f y < f x)) k

theorem rank_earlier {n : Nat} (f : Fin n → EReal) (a b : Fin n) (h : a < b) : Earlier f (rank f a) (rank f b) := by
  unfold rank sortedFrom
  have := pairwise_sort f (List.finRange n) (List.pairwise_lt_finRange n)
  rw [List.pairwise_iff_get] at this
  exact this _ _ h

/-- The first of the greatest. -/
theorem rank_zero {n : Nat} [NeZero n] (f : Fin n → EReal) (k : Fin n) : k = rank f 0 ∨ Earlier f (rank f 0) k := by
  obtain ⟨q, rfl⟩ := sortedFrom_surjective (fun x y => decide (f y < f x)) k
  rcases eq_or_ne q 0 with rfl | hq
  · exact .inl rfl
  · exact .inr (rank_earlier f 0 q (Fin.pos_iff_ne_zero.mpr hq))

theorem rank_one_ne (f : Fin 8 → EReal) : rank f 1 ≠ rank f 0 := fun h =>
  absurd (sortedFrom_injective _ h) (by decide)

/-- The first of the greatest among the others. -/
theorem rank_one (f : Fin 8 → EReal) (k : Fin 8) (h0 : k ≠ rank f 0) : k = rank f 1 ∨ Earlier f (rank f 1) k := by
  obtain ⟨q, rfl⟩ := sortedFrom_surjective (fun x y => decide (f y < f x)) k
  have q0 : q ≠ 0 := fun h => h0 (h ▸ rfl)
  rcases eq_or_ne q 1 with rfl | hq
  · exact .inl rfl
  · exact .inr (rank_earlier f 1 q (by omega))

/-- `i` is the first position of the greatest number. -/
def IsFirst {n : Nat} (f : Fin n → EReal) (i : Fin n) : Prop := ∀ k, k ≠ i → Earlier f i k

theorem IsFirst.le {n : Nat} {f : Fin n → EReal} {i : Fin n} (h : IsFirst f i) (k : Fin n) : f k ≤ f i := by
  rcases eq_or_ne k i with rfl | hk
  · exact le_rfl
  · rcases h k hk with h | ⟨h, -⟩
    · exact h.le
    · exact h.ge

theorem isFirst_rank {n : Nat} [NeZero n] (f : Fin n → EReal) : IsFirst f (rank f 0) := fun k hk => (rank_zero f k).resolve_left hk

/-- The second greatest is the first of the greatest once the first is overwritten by a number below all. -/
theorem isFirst_second (f : Fin 8 → EReal) (z : EReal) (hz : ∀ k, z < f k) :
    IsFirst (fun k => if k = rank f 0 then z else f k) (rank f 1) := by
  intro k hk
  unfold Earlier
  dsimp only
  rw [if_neg (rank_one_ne f)]
  rcases eq_or_ne k (rank f 0) with rfl | h0
  · rw [if_pos rfl]; exact .inl (hz _)
  · rw [if_neg h0]; exact (rank_one f k h0).resolve_left hk

/-- Eight marks, the first at `i`: the least of the marked positions is `i`. -/
theorem first_mark : ∀ (b : Fin 8 → Bool) (i : Fin 8), b i = true → (∀ j, j < i → b j = false) →
    Finset.univ.fold IntOp.minsi 2147483647#32 (fun k : Fin 8 => if b k = true then BitVec.ofNat 32 k.val else 8#32) = BitVec.ofNat 32 i.val := by
  decide +kernel

theorem max_eq {n : Nat} (f : Fin n → EReal) (i : Fin n) (h : IsFirst f i) : Finset.univ.fold max ⊥ f = f i := by
  apply le_antisymm
  · rw [Finset.fold_max_le]; exact ⟨bot_le, fun k _ => h.le k⟩
  · rw [Finset.le_fold_max]; exact .inr ⟨i, Finset.mem_univ _, le_rfl⟩

/-- The least position at which the greatest number stands is the first of the greatest. -/
theorem index_eq (f : Fin 8 → EReal) (i : Fin 8) (h : IsFirst f i) :
    Finset.univ.fold IntOp.minsi 2147483647#32 (fun k : Fin 8 => if f k = Finset.univ.fold max ⊥ f then BitVec.ofNat 32 k.val else 8#32) = BitVec.ofNat 32 i.val := by
  rw [max_eq f i h, ← first_mark (fun k => decide (f k = f i)) i (by simp) (fun j hj => ?_)]
  · simp only [decide_eq_true_eq]
  · rw [decide_eq_false_iff_not]
    rcases h j hj.ne with h | ⟨-, h⟩
    · exact h.ne
    · exact absurd h hj.not_gt

open Cert.Attn (low low_eq peak weight weight_nonneg total_pos exp_coe exp_bot)

theorem IsFirst.peak_eq {n : Nat} {f : Fin n → EReal} {i : Fin n} (h : IsFirst f i) : peak f = f i := by
  unfold peak
  rw [low_eq]
  exact max_eq f i h

theorem IsFirst.index {f : Fin 8 → EReal} {i : Fin 8} (h : IsFirst f i) :
    Finset.univ.fold IntOp.minsi 2147483647#32 (fun k : Fin 8 => if f k = peak f then BitVec.ofNat 32 k.val else 8#32) = BitVec.ofNat 32 i.val := by
  unfold peak
  rw [low_eq]
  exact index_eq f i h

/-- The softmax of the numbers. -/
def share {n : Nat} (f : Fin n → EReal) (k : Fin n) : EReal := Ideal.div (weight f k) (∑ j, weight f j)

theorem share_nonneg {n : Nat} (f : Fin n → EReal) (hn : 0 < n) (h : ∀ k, f k ≠ ⊥ ∧ f k ≠ ⊤) (k : Fin n) : 0 ≤ share f k := by
  have ht := total_pos f hn h
  unfold share Ideal.div
  rw [if_neg ht.ne']
  exact mul_nonneg (weight_nonneg f k) (EReal.inv_nonneg_of_nonneg ht.le)

/-- Minus one, as the program writes it. -/
abbrev below : EReal := Ideal.ofBits .f32 0xBF800000#32

theorem below_lt : below < 0 := by
  have : below = ((-(1 : ℝ) : ℝ) : EReal) := by
    simp [below, Ideal.ofBits, Ideal.ieee]
    rw [← EReal.coe_mul]
    norm_num
  rw [this]
  exact_mod_cast (by norm_num : (-(1 : ℝ)) < 0)

/-- The four groups' logits in a column of eight, the rest at minus infinity. -/
def padded (g : Fin 4 → EReal) (k : Fin 8) : EReal := if h : k.val < 4 then g ⟨k.val, h⟩ else low

theorem isFirst_padded (g : Fin 4 → EReal) (i : Fin 4) (hi : IsFirst g i) (hb : g i ≠ ⊥) : IsFirst (padded g) ⟨i.val, by omega⟩ := by
  intro k hk
  have e : padded g ⟨i.val, by omega⟩ = g i := dif_pos i.isLt
  unfold Earlier
  rw [e]
  by_cases h : k.val < 4
  · have e' : padded g k = g ⟨k.val, h⟩ := dif_pos h
    rw [e']
    exact hi ⟨k.val, h⟩ fun q => hk (Fin.ext (by rw [← q]))
  · have e' : padded g k = low := dif_neg h
    rw [e', low_eq]
    exact .inl (bot_lt_iff_ne_bot.mpr hb)

theorem weight_first (g : Fin 4 → EReal) (i : Fin 4) (hi : IsFirst g i) (h : ∀ k, g k ≠ ⊥ ∧ g k ≠ ⊤) : weight g i = 1 := by
  unfold weight
  rw [hi.peak_eq]
  lift g i to ℝ using ⟨(h i).2, (h i).1⟩ with x
  rw [← EReal.coe_sub, sub_self, exp_coe, Real.exp_zero, EReal.coe_one]

theorem sum_padded (g : Fin 4 → EReal) (h : ∀ k, g k ≠ ⊥ ∧ g k ≠ ⊤) : ∑ k, weight (padded g) k = ∑ k, weight g k := by
  have hp : peak (padded g) = peak g := by
    rw [(isFirst_padded g _ (isFirst_rank g) (h _).1).peak_eq, (isFirst_rank g).peak_eq]
    exact dif_pos (rank g 0).isLt
  have hl : low - peak g = ⊥ := by rw [low_eq, EReal.bot_sub]
  unfold weight
  rw [hp]
  simp [Fin.sum_univ_succ, padded, hl, exp_bot]

/-- The chosen group's softmax is one over the sum of the weights: its own weight is one. -/
theorem share_first (g : Fin 4 → EReal) (h : ∀ k, g k ≠ ⊥ ∧ g k ≠ ⊤) :
    Ideal.div 1 (∑ k, weight (padded g) k) = share g (rank g 0) := by
  unfold share
  rw [sum_padded g h, weight_first g _ (isFirst_rank g) h]

/-- A token's experts' softmax within its chosen group. -/
def inGroup (g : Fin 4 → EReal) (e : Fin 4 → Fin 8 → EReal) : Fin 8 → EReal := share (e (rank g 0))

/-- A token's column of experts: its two choices, then zeros. -/
def expert (g : Fin 4 → EReal) (e : Fin 4 → Fin 8 → EReal) (k : Fin 8) : BitVec 32 :=
  if k.val = 0 then IntOp.addi (IntOp.muli (BitVec.ofNat 32 (rank g 0).val) 8#32) (BitVec.ofNat 32 (rank (inGroup g e) 0).val)
  else if k.val = 1 then IntOp.addi (IntOp.muli (BitVec.ofNat 32 (rank g 0).val) 8#32) (BitVec.ofNat 32 (rank (inGroup g e) 1).val)
  else 0#32

/-- A token's column of weights: of its two choices, then zeros. -/
def portion (g : Fin 4 → EReal) (e : Fin 4 → Fin 8 → EReal) (k : Fin 8) : EReal :=
  let p := inGroup g e
  let total := p (rank p 0) + p (rank p 1)
  if k.val = 0 then Ideal.div (share g (rank g 0) * p (rank p 0)) total
  else if k.val = 1 then Ideal.div (share g (rank g 0) * p (rank p 1)) total
  else 0

end Cert.Route
-- ==== Proof.RouteBody.lean ====
/- The router's pure values in the merge call: what it stores of one token, from the token's logits. -/
module

public import proofs.«01_k».proof.Proof.RouteMath
public import proofs.«01_k».proof.Proof.Gen.Kernel5Ideal.Frame

@[expose] public section

set_option maxRecDepth 16384

noncomputable section

open Idealize.ShloMosaic
open scoped BigOperators

namespace Cert.Kernel5Ideal.Route

open Cert.Kernel5Ideal Cert.Kernel5Ideal.Gen
open Cert.Attn (low low_eq peak weight)
open Cert.Route

theorem in_four : ∀ k : Fin 8, IntOp.cmpi .slt (BitVec.ofNat 32 k.val) 4#32 = if k.val < 4 then 1#1 else 0#1 := by decide +kernel

theorem same_word : ∀ i k : Fin 8, IntOp.cmpi .eq (BitVec.ofNat 32 k.val) (BitVec.ofNat 32 i.val) = if k = i then 1#1 else 0#1 := by decide +kernel

theorem same_group : ∀ (i : Fin 4) (k : Fin 4), IntOp.cmpi .eq (BitVec.ofNat 32 i.val) (BitVec.ofNat 32 k.val) = if i = k then 1#1 else 0#1 := by decide +kernel

variable (v : FVec Ideal S128x256 .f32) (n : Fin 256) (g : Fin 4 → EReal) (e : Fin 4 → Fin 8 → EReal)

/-- The row numbers of a column of eight. -/
abbrev rows : IVec S8x256 32 := iota .tc S8x256 32 [0] iota_S8x256_d0_w32

theorem rows_at (k : Fin 8) : rows (ix2 k n) = BitVec.ofNat 32 k.val := by
  pointwise

theorem pick (he : ∀ (i : Fin 4) (k : Fin 8), v (ix2 ⟨8 + 8 * i.val + k.val, by omega⟩ n) = e i k) (i : Fin 4) (k : Fin 8) :
    Scalar.select (IntOp.cmpi .eq (BitVec.ofNat 32 i.val) 3#32) (v (ix2 ⟨32 + k.val, by omega⟩ n))
      (Scalar.select (IntOp.cmpi .eq (BitVec.ofNat 32 i.val) 2#32) (v (ix2 ⟨24 + k.val, by omega⟩ n))
        (Scalar.select (IntOp.cmpi .eq (BitVec.ofNat 32 i.val) 1#32) (v (ix2 ⟨16 + k.val, by omega⟩ n)) (v (ix2 ⟨8 + k.val, by omega⟩ n)))) = e i k := by
  rw [← he]
  fin_cases i <;> rfl

section Group

variable (hg : ∀ k : Fin 4, v (ix2 ⟨k.val, by omega⟩ n) = g k)
include hg

theorem group_at (k : Fin 8) : k0_pay22 (F := Ideal) v k0_pay21 (ix2 k n) = padded g k := by
  pointwise [k0_pay22, k0_pay21]
  rw [in_four]
  unfold padded
  split_ifs with h
  · exact hg ⟨k.val, h⟩
  · rfl

theorem top_at : k0_pay23 (F := Ideal) v k0_pay21 (ix2 0 n) = peak (padded g) := by
  pointwise [k0_pay23]
  simp only [group_at v n g hg]
  rfl

variable (fg : ∀ k, g k ≠ ⊥ ∧ g k ≠ ⊤)
include fg

theorem chosen_at : k0_pay24 (F := Ideal) v rows k0_pay21 (ix2 0 n) = BitVec.ofNat 32 (rank g 0).val := by
  pointwise [k0_pay24]
  simp only [group_at v n g hg, top_at v n g hg]
  exact (isFirst_padded g _ (isFirst_rank g) (fg _).1).index

theorem groupWeight_at : k0_pay25 (F := Ideal) v k0_pay21 (ix2 0 n) = share g (rank g 0) := by
  pointwise [k0_pay25]
  simp only [group_at v n g hg, top_at v n g hg]
  exact share_first g fg

variable (he : ∀ (i : Fin 4) (k : Fin 8), v (ix2 ⟨8 + 8 * i.val + k.val, by omega⟩ n) = e i k)
include he

theorem share_at (k : Fin 8) : k0_pay26 (F := Ideal) v rows k0_pay21 (ix2 k n) = inGroup g e k := by
  pointwise [k0_pay26]
  simp only [chosen_at v n g hg fg, pick v n e he]
  rfl

end Group

section Experts

variable (P : FVec Ideal S8x256 .f32) (Q : FVec Ideal S1x256 .f32) (p : Fin 8 → EReal) (hP : ∀ k, P (ix2 k n) = p k) (hQ : Q (ix2 0 n) = peak p)
include hP hQ

theorem first_at : k0_pay28 (F := Ideal) rows P Q (ix2 0 n) = BitVec.ofNat 32 (rank p 0).val := by
  pointwise [k0_pay28]
  simp only [hP, hQ]
  exact (isFirst_rank p).index

theorem rest_at (k : Fin 8) : k0_pay29 (F := Ideal) rows P Q (ix2 k n) = if k = rank p 0 then below else p k := by
  pointwise [k0_pay29]
  rw [first_at n P Q p hP hQ, same_word, hP]
  split_ifs <;> rfl

variable (hp : ∀ k, 0 ≤ p k)
include hp

theorem isFirst_rest : IsFirst (fun k => if k = rank p 0 then below else p k) (rank p 1) := isFirst_second p below fun k => below_lt.trans_le (hp k)

theorem second_at : k0_pay30 (F := Ideal) rows P Q (ix2 0 n) = p (rank p 1) := by
  pointwise [k0_pay30]
  simp only [rest_at n P Q p hP hQ]
  exact (isFirst_rest n P Q p hP hQ hp).peak_eq.trans (if_neg (rank_one_ne p))

theorem secondIndex : Finset.univ.fold IntOp.minsi 2147483647#32
      (fun k : Fin 8 => if k0_pay29 (F := Ideal) rows P Q (ix2 k n) = k0_pay30 (F := Ideal) rows P Q (ix2 0 n) then BitVec.ofNat 32 k.val else 8#32)
    = BitVec.ofNat 32 (rank p 1).val := by
  have h := isFirst_rest n P Q p hP hQ hp
  rw [second_at n P Q p hP hQ hp]
  simp only [rest_at n P Q p hP hQ]
  have hk := h.index
  rw [h.peak_eq, if_neg (rank_one_ne p)] at hk
  exact hk

end Experts

section Stored

variable (hg : ∀ k : Fin 4, v (ix2 ⟨k.val, by omega⟩ n) = g k) (he : ∀ (i : Fin 4) (k : Fin 8), v (ix2 ⟨8 + 8 * i.val + k.val, by omega⟩ n) = e i k)
  (fg : ∀ k, g k ≠ ⊥ ∧ g k ≠ ⊤) (fe : ∀ i k, e i k ≠ ⊥ ∧ e i k ≠ ⊤)
include hg he fg

theorem best_at : k0_pay27 (F := Ideal) v rows k0_pay21 (ix2 0 n) = peak (inGroup g e) := by
  pointwise [k0_pay27]
  simp only [share_at v n g e hg fg he]
  rfl

include fe

theorem inGroup_nonneg (k : Fin 8) : 0 ≤ inGroup g e k := share_nonneg _ (by omega) (fe _) k

/-- The two experts stored of a token are the reference's. -/
theorem expert_at (k : Fin 8) :
    k0_pay32 (F := Ideal) rows (k0_pay24 (F := Ideal) v rows k0_pay21) (k0_pay26 (F := Ideal) v rows k0_pay21) (k0_pay27 (F := Ideal) v rows k0_pay21) (ix2 k n)
      = expert g e k := by
  have hP := share_at v n g e hg fg he
  have hQ := best_at v n g e hg he fg
  have hp := inGroup_nonneg v n g e hg he fg fe
  have h2 := secondIndex n _ _ _ hP hQ hp
  have h1 := first_at n _ _ _ hP hQ
  have h0 := chosen_at v n g hg fg
  generalize k0_pay26 (F := Ideal) v rows k0_pay21 = P at h1 h2 ⊢
  generalize k0_pay27 (F := Ideal) v rows k0_pay21 = Q at h1 h2 ⊢
  generalize k0_pay24 (F := Ideal) v rows k0_pay21 = G at h0 ⊢
  pointwise [k0_pay32]
  rw [h0, h1, h2]
  unfold expert
  fin_cases k <;> rfl

/-- The two weights stored of a token are the reference's. -/
theorem portion_at (k : Fin 8) :
    k0_pay1 (F := Ideal) (k0_pay31 (F := Ideal) rows (k0_pay26 (F := Ideal) v rows k0_pay21) (k0_pay27 (F := Ideal) v rows k0_pay21)) (k0_pay33 rows)
        (k0_pay34 (F := Ideal) rows (k0_pay25 (F := Ideal) v k0_pay21) (k0_pay26 (F := Ideal) v rows k0_pay21) (k0_pay27 (F := Ideal) v rows k0_pay21)) (k0_pay35 rows)
        (k0_pay36 (F := Ideal) rows (k0_pay25 (F := Ideal) v k0_pay21) (k0_pay26 (F := Ideal) v rows k0_pay21) (k0_pay27 (F := Ideal) v rows k0_pay21)) (ix2 k n)
      = portion g e k := by
  have hP := share_at v n g e hg fg he
  have hQ := best_at v n g e hg he fg
  have hp := inGroup_nonneg v n g e hg he fg fe
  have h2 := second_at n _ _ _ hP hQ hp
  have h0 := groupWeight_at v n g hg fg
  rw [(isFirst_rank (inGroup g e)).peak_eq] at hQ
  generalize k0_pay26 (F := Ideal) v rows k0_pay21 = P at h2 ⊢
  generalize k0_pay27 (F := Ideal) v rows k0_pay21 = Q at hQ h2 ⊢
  generalize k0_pay25 (F := Ideal) v k0_pay21 = W at h0 ⊢
  pointwise [k0_pay1, k0_pay31, k0_pay33, k0_pay34, k0_pay35, k0_pay36]
  rw [h0, hQ, h2]
  unfold portion
  fin_cases k <;> rfl

end Stored

/-- The experts stored, of logits named by their rows. -/
theorem stored_expert (v : FVec Ideal S128x256 .f32) (n : Fin 256) (g : Fin 4 → EReal) (e : Fin 4 → Fin 8 → EReal)
    (hg : ∀ (k : Fin 4) (q : Fin 128), q.val = k.val → v (ix2 q n) = g k)
    (he : ∀ (i : Fin 4) (k : Fin 8) (q : Fin 128), q.val = 8 + 8 * i.val + k.val → v (ix2 q n) = e i k)
    (fg : ∀ k, g k ≠ ⊥ ∧ g k ≠ ⊤) (fe : ∀ i k, e i k ≠ ⊥ ∧ e i k ≠ ⊤) (k : Fin 8) :
    k0_pay32 (F := Ideal) rows (k0_pay24 (F := Ideal) v rows k0_pay21) (k0_pay26 (F := Ideal) v rows k0_pay21) (k0_pay27 (F := Ideal) v rows k0_pay21) (ix2 k n)
      = expert g e k :=
  expert_at v n g e (fun k => hg k _ rfl) (fun i k => he i k _ rfl) fg fe k

/-- The weights stored, of logits named by their rows. -/
theorem stored_portion (v : FVec Ideal S128x256 .f32) (n : Fin 256) (g : Fin 4 → EReal) (e : Fin 4 → Fin 8 → EReal)
    (hg : ∀ (k : Fin 4) (q : Fin 128), q.val = k.val → v (ix2 q n) = g k)
    (he : ∀ (i : Fin 4) (k : Fin 8) (q : Fin 128), q.val = 8 + 8 * i.val + k.val → v (ix2 q n) = e i k)
    (fg : ∀ k, g k ≠ ⊥ ∧ g k ≠ ⊤) (fe : ∀ i k, e i k ≠ ⊥ ∧ e i k ≠ ⊤) (k : Fin 8) :
    k0_pay1 (F := Ideal) (k0_pay31 (F := Ideal) rows (k0_pay26 (F := Ideal) v rows k0_pay21) (k0_pay27 (F := Ideal) v rows k0_pay21)) (k0_pay33 rows)
        (k0_pay34 (F := Ideal) rows (k0_pay25 (F := Ideal) v k0_pay21) (k0_pay26 (F := Ideal) v rows k0_pay21) (k0_pay27 (F := Ideal) v rows k0_pay21)) (k0_pay35 rows)
        (k0_pay36 (F := Ideal) rows (k0_pay25 (F := Ideal) v k0_pay21) (k0_pay26 (F := Ideal) v rows k0_pay21) (k0_pay27 (F := Ideal) v rows k0_pay21)) (ix2 k n)
      = portion g e k :=
  portion_at v n g e (fun k => hg k _ rfl) (fun i k => he i k _ rfl) fg fe k

end Cert.Kernel5Ideal.Route
-- ==== Proof.RouteRef.lean ====
/- The router's reference at an index: each token's experts and weights, from its logits. -/
module

public import proofs.«01_k».proof.Proof.RouteMath
public import proofs.«01_k».proof.Proof.MergeRef
public import proofs.«01_k».proof.Proof.Gen.Reference5Ideal.Read

@[expose] public section

set_option maxRecDepth 16384

noncomputable section

open Idealize.ShloMosaic
open scoped BigOperators

namespace Cert.Reference5Ideal.Route

open Cert.Reference5Ideal Cert.Reference5Ideal.Gen Cert.Reference5Ideal.Read
open Cert.Attn (low low_eq peak weight)
open Cert.Route

/-- A row with one of its positions replaced. -/
theorem along_one {a b : Nat} (r : Fin a) (q k : Fin b) (h : 1 < Shape.rank ⟨2, ![a, b]⟩) : Shape.Idx.along (s := ⟨2, ![a, b]⟩) (ix2 r q) ⟨1, h⟩ k = ix2 r k := by
  unfold Shape.Idx.along
  funext i
  fin_cases i <;> rfl

/-- The order of the sort, over the extended reals. -/
theorem before_eq {n : Nat} (f : Fin n → EReal) :
    (fun k k' => FloatOps.cmpfTotal (F := Ideal) (φ := .f32) .gt (f k) (f k') == 1#1) = fun x y => decide (f y < f x) := by
  funext k k'
  by_cases h : f k' < f k <;> simp [FloatOps.cmpfTotal, Ideal.cmpTotal, CmpDirection.ordered, Ideal.cmp, h]

/-- The first columns of a table. -/
theorem slice_at {α : Type} {a b c : Nat} (Y : (⟨2, ![a, b]⟩ : Shape).Idx → α) (h : (⟨2, ![a, b]⟩ : Shape).Slices (fun _ => 0) ⟨2, ![a, c]⟩) (hc : c ≤ b) (r : Fin a) (k : Fin c) :
    extractStridedSlice ⟨2, ![a, c]⟩ (fun _ => 0) Y h (ix2 r k) = Y (ix2 r (k.castLE hc)) := by
  unfold extractStridedSlice
  refine congrArg Y (funext fun i => ?_)
  fin_cases i <;> exact Fin.ext (Nat.zero_add _)

/-- The greatest of each row and where they stand, by rank. -/
theorem topK_at {a b c : Nat} (X : FVec Ideal ⟨2, ![a, b]⟩ .f32) (h : (⟨2, ![a, b]⟩ : Shape).Slices (fun _ => 0) ⟨2, ![a, c]⟩) (hc : c ≤ b) (r : Fin a) (k : Fin c) :
    (Host.topK ⟨2, ![a, c]⟩ 1 (FloatOps.cmpfTotal (F := Ideal) (φ := .f32) .gt) X h).2 (ix2 r k) = BitVec.ofNat 32 (rank (fun k => X (ix2 r k)) (k.castLE hc)).val
    ∧ (Host.topK ⟨2, ![a, c]⟩ 1 (FloatOps.cmpfTotal (F := Ideal) (φ := .f32) .gt) X h).1 (ix2 r k) = X (ix2 r (rank (fun k => X (ix2 r k)) (k.castLE hc))) := by
  unfold rank
  rw [← before_eq]
  unfold Host.topK Host.sort2
  dsimp only
  rw [slice_at _ h hc, slice_at _ h hc]
  have h2 : 1 < Shape.rank ⟨2, ![a, b]⟩ := Nat.one_lt_two
  simp only [dif_pos h2]
  have e (q : Fin b) : Shape.Idx.along (s := ⟨2, ![a, b]⟩) (ix2 r (k.castLE hc)) ⟨1, h2⟩ q = ix2 r q := along_one r _ q h2
  have eb : (fun p q => FloatOps.cmpfTotal (F := Ideal) (φ := .f32) .gt (X (Shape.Idx.along (s := ⟨2, ![a, b]⟩) (ix2 r (k.castLE hc)) ⟨1, h2⟩ p))
      (X (Shape.Idx.along (s := ⟨2, ![a, b]⟩) (ix2 r (k.castLE hc)) ⟨1, h2⟩ q)) == 1#1)
      = fun p q : Fin b => FloatOps.cmpfTotal (F := Ideal) (φ := .f32) .gt (X (ix2 r p)) (X (ix2 r q)) == 1#1 := by
    funext p q
    exact congrArg₂ (fun u v => FloatOps.cmpfTotal (F := Ideal) (φ := .f32) .gt u v == 1#1) (congrArg X (e p)) (congrArg X (e q))
  refine ⟨(congrArg (iotaInDim ⟨2, ![a, b]⟩ 32 ⟨1, h2⟩) (e _)).trans ?_, (congrArg X (e _)).trans ?_⟩
  · exact congrArg (fun B : Fin b → Fin b → Bool => BitVec.ofNat 32 (sortedFrom B (k.castLE hc)).val) eb
  · exact congrArg (fun B : Fin b → Fin b → Bool => X (ix2 r (sortedFrom B (k.castLE hc)))) eb

variable (x0 : FVec Ideal S65536x512 .bf16) (x1 : FVec Ideal S2x65536x512 .f32) (x2 : FVec Ideal S65536x3072 .bf16) (x3 : FVec Ideal S8x8192x1024 .f32)
  (x4 x5 : FVec Ideal S1024 .f32) (x6 : FVec Ideal S1x512 .f32) (x7 x8 : FVec Ideal S1x512x1024 .f32) (x9 : FVec Ideal S1x1024x1024 .f32)
  (x10 x11 : FVec Ideal S1x1024 .f32) (x12 : FVec Ideal S1x1024x4 .f32) (x13 : FVec Ideal S1x4 .f32) (x14 : FVec Ideal S1x1024x32 .f32) (x15 : FVec Ideal S1x32 .f32)

theorem hidden_eq : val_main_v101 (F := Ideal) x0 x1 x2 x3 x4 x5 x6 x7 x8 x9 x10 x11
    = Cert.Reference3Ideal.Read.val_main_v101 (F := Ideal) x0 x1 x2 x3 x4 x5 x6 x7 x8 x9 x10 x11 := rfl

theorem group_at (r : Fin 65536) (k : Fin 4) : val_main_v107 (F := Ideal) x0 x1 x2 x3 x4 x5 x6 x7 x8 x9 x10 x11 x12 x13 (ix2 r k)
    = (∑ j : Fin 1024, val_main_v101 (F := Ideal) x0 x1 x2 x3 x4 x5 x6 x7 x8 x9 x10 x11 (ix2 r j) * x12 (ix3 0 j k)) + x13 (ix2 0 k) := by
  pointwise [val_main_v107, val_main_v106, val_main_v105, val_main_v104, val_main_v103, val_main_v102]

theorem experts_at (r : Fin 65536) (k : Fin 32) : val_main_v113 (F := Ideal) x0 x1 x2 x3 x4 x5 x6 x7 x8 x9 x10 x11 x14 x15 (ix2 r k)
    = (∑ j : Fin 1024, val_main_v101 (F := Ideal) x0 x1 x2 x3 x4 x5 x6 x7 x8 x9 x10 x11 (ix2 r j) * x14 (ix3 0 j k)) + x15 (ix2 0 k) := by
  pointwise [val_main_v113, val_main_v112, val_main_v111, val_main_v110, val_main_v109, val_main_v108]

/-- A token's groups' logits. -/
abbrev groups (r : Fin 65536) (k : Fin 4) : EReal := val_main_v107 (F := Ideal) x0 x1 x2 x3 x4 x5 x6 x7 x8 x9 x10 x11 x12 x13 (ix2 r k)

/-- A token's experts' logits, by group. -/
abbrev experts (r : Fin 65536) (i : Fin 4) (k : Fin 8) : EReal :=
  val_main_v113 (F := Ideal) x0 x1 x2 x3 x4 x5 x6 x7 x8 x9 x10 x11 x14 x15 (ix2 r ⟨i.val * 8 + k.val, by omega⟩)

theorem same_number : ∀ x i : Fin 4, IntOp.cmpi .eq (BitVec.ofNat 32 x.val) (BitVec.ofNat 32 i.val) = if x = i then 1#1 else 0#1 := by
  decide +kernel

/-- A sum in which one entry alone is not zero. -/
theorem sum_pick (f : Fin 4 → EReal) (i : Fin 4) :
    ∑ x : Fin 4, Scalar.select (IntOp.cmpi .eq (BitVec.ofNat 32 x.val) (BitVec.ofNat 32 i.val)) (f x) (id (constant (F := Ideal) S_ .f32 0x00000000#32) ix0) = f i := by
  have z : id (constant (F := Ideal) S_ .f32 0x00000000#32) ix0 = (0 : EReal) := by
    show Ideal.ofBits .f32 0x00000000#32 = 0
    simp [Ideal.ofBits, Ideal.ieee]
  rw [z]
  simp only [same_number]
  rw [Finset.sum_eq_single i]
  · rw [if_pos rfl]; rfl
  · intro x _ hx; rw [if_neg hx]; rfl
  · exact fun h => absurd (Finset.mem_univ i) h

theorem group_index (r : Fin 65536) : val_main_indices (F := Ideal) x0 x1 x2 x3 x4 x5 x6 x7 x8 x9 x10 x11 x12 x13 (ix2 r 0)
    = BitVec.ofNat 32 (rank (groups x0 x1 x2 x3 x4 x5 x6 x7 x8 x9 x10 x11 x12 x13 r) 0).val :=
  (topK_at (val_main_v107 (F := Ideal) x0 x1 x2 x3 x4 x5 x6 x7 x8 x9 x10 x11 x12 x13) sliceFits_S65536x4_S65536x1 (by omega) r 0).1

theorem chosen_at (r : Fin 65536) (k : Fin 4) : val_main_v118 (F := Ideal) x0 x1 x2 x3 x4 x5 x6 x7 x8 x9 x10 x11 x12 x13 (ix2 r k)
    = IntOp.cmpi .eq (BitVec.ofNat 32 k.val) (BitVec.ofNat 32 (rank (groups x0 x1 x2 x3 x4 x5 x6 x7 x8 x9 x10 x11 x12 x13 r) 0).val) := by
  rw [← group_index]
  generalize e : val_main_indices (F := Ideal) x0 x1 x2 x3 x4 x5 x6 x7 x8 x9 x10 x11 x12 x13 = y
  pointwise [val_main_v118, val_main_v117, val_main_v116, val_main_v115, val_main_v114]
  rw [e]

theorem soft_at (r : Fin 65536) (k : Fin 4) : val_main_v129 (F := Ideal) x0 x1 x2 x3 x4 x5 x6 x7 x8 x9 x10 x11 x12 x13 (ix2 r k) = share (groups x0 x1 x2 x3 x4 x5 x6 x7 x8 x9 x10 x11 x12 x13 r) k := by
  unfold groups share weight
  have hp : val_main_v121 (F := Ideal) x0 x1 x2 x3 x4 x5 x6 x7 x8 x9 x10 x11 x12 x13 (ix1 r) = peak fun k => val_main_v107 (F := Ideal) x0 x1 x2 x3 x4 x5 x6 x7 x8 x9 x10 x11 x12 x13 (ix2 r k) := by
    rw [← Cert.Attn.max_low_peak]
    unfold peak
    generalize e : val_main_v107 (F := Ideal) x0 x1 x2 x3 x4 x5 x6 x7 x8 x9 x10 x11 x12 x13 = y
    pointwise [val_main_v121, val_main_v120, val_main_v119, val_main_cst_17, val_main_cst_18]
    rw [e]
  rw [← hp]
  generalize e : val_main_v121 (F := Ideal) x0 x1 x2 x3 x4 x5 x6 x7 x8 x9 x10 x11 x12 x13 = z
  generalize e' : val_main_v107 (F := Ideal) x0 x1 x2 x3 x4 x5 x6 x7 x8 x9 x10 x11 x12 x13 = y
  pointwise [val_main_v129, val_main_v128, val_main_v127, val_main_v126, val_main_v125, val_main_v124, val_main_v123, val_main_v122, val_main_cst_19]
  rw [e, e']

theorem group_share (r : Fin 65536) : val_main_v132 (F := Ideal) x0 x1 x2 x3 x4 x5 x6 x7 x8 x9 x10 x11 x12 x13 (ix2 r 0)
    = share (groups x0 x1 x2 x3 x4 x5 x6 x7 x8 x9 x10 x11 x12 x13 r) (rank (groups x0 x1 x2 x3 x4 x5 x6 x7 x8 x9 x10 x11 x12 x13 r) 0) := by
  rw [← sum_pick (fun k => share (groups x0 x1 x2 x3 x4 x5 x6 x7 x8 x9 x10 x11 x12 x13 r) k)]
  simp only [← soft_at, ← chosen_at]
  pointwise [val_main_v132, val_main_v131, val_main_v130, val_main_call1_v0, val_main_call1_v1, val_main_cst_20, val_main_cst_21]

theorem row_at (r : Fin 65536) (k : Fin 8) : val_main_v136 (F := Ideal) x0 x1 x2 x3 x4 x5 x6 x7 x8 x9 x10 x11 x12 x13 x14 x15 (ix2 r k)
    = experts x0 x1 x2 x3 x4 x5 x6 x7 x8 x9 x10 x11 x14 x15 r (rank (groups x0 x1 x2 x3 x4 x5 x6 x7 x8 x9 x10 x11 x12 x13 r) 0) k := by
  rw [← sum_pick (fun i => experts x0 x1 x2 x3 x4 x5 x6 x7 x8 x9 x10 x11 x14 x15 r i k)]
  simp only [← chosen_at]
  unfold experts
  pointwise [val_main_v136, val_main_v135, val_main_v134, val_main_v133, val_main_call2_v0, val_main_call2_v1, val_main_call2_v2, val_main_cst_22, val_main_cst_23]

set_option maxRecDepth 100000 in
theorem in_group_at (r : Fin 65536) (k : Fin 8) : val_main_v147 (F := Ideal) x0 x1 x2 x3 x4 x5 x6 x7 x8 x9 x10 x11 x12 x13 x14 x15 (ix2 r k)
    = inGroup (groups x0 x1 x2 x3 x4 x5 x6 x7 x8 x9 x10 x11 x12 x13 r) (experts x0 x1 x2 x3 x4 x5 x6 x7 x8 x9 x10 x11 x14 x15 r) k := by
  have hf : experts x0 x1 x2 x3 x4 x5 x6 x7 x8 x9 x10 x11 x14 x15 r (rank (groups x0 x1 x2 x3 x4 x5 x6 x7 x8 x9 x10 x11 x12 x13 r) 0) = fun k => val_main_v136 (F := Ideal) x0 x1 x2 x3 x4 x5 x6 x7 x8 x9 x10 x11 x12 x13 x14 x15 (ix2 r k) :=
    funext fun k => (row_at x0 x1 x2 x3 x4 x5 x6 x7 x8 x9 x10 x11 x12 x13 x14 x15 r k).symm
  unfold inGroup
  rw [hf]
  unfold share weight
  have hp : val_main_v139 (F := Ideal) x0 x1 x2 x3 x4 x5 x6 x7 x8 x9 x10 x11 x12 x13 x14 x15 (ix1 r) = peak fun k => val_main_v136 (F := Ideal) x0 x1 x2 x3 x4 x5 x6 x7 x8 x9 x10 x11 x12 x13 x14 x15 (ix2 r k) := by
    rw [← Cert.Attn.max_low_peak]
    unfold peak
    generalize e : val_main_v136 (F := Ideal) x0 x1 x2 x3 x4 x5 x6 x7 x8 x9 x10 x11 x12 x13 x14 x15 = y
    pointwise [val_main_v139, val_main_v138, val_main_v137, val_main_cst_24, val_main_cst_25]
    rw [e]
  rw [← hp]
  generalize e : val_main_v139 (F := Ideal) x0 x1 x2 x3 x4 x5 x6 x7 x8 x9 x10 x11 x12 x13 x14 x15 = z
  generalize e' : val_main_v136 (F := Ideal) x0 x1 x2 x3 x4 x5 x6 x7 x8 x9 x10 x11 x12 x13 x14 x15 = y
  pointwise [val_main_v147, val_main_v146, val_main_v145, val_main_v144, val_main_v143, val_main_v142, val_main_v141, val_main_v140, val_main_cst_26]
  rw [e, e']

theorem expert_index (r : Fin 65536) (k : Fin 2) : val_main_indices_28 (F := Ideal) x0 x1 x2 x3 x4 x5 x6 x7 x8 x9 x10 x11 x12 x13 x14 x15 (ix2 r k)
    = BitVec.ofNat 32 (rank (inGroup (groups x0 x1 x2 x3 x4 x5 x6 x7 x8 x9 x10 x11 x12 x13 r) (experts x0 x1 x2 x3 x4 x5 x6 x7 x8 x9 x10 x11 x14 x15 r)) (k.castLE (by omega))).val := by
  rw [← funext (in_group_at x0 x1 x2 x3 x4 x5 x6 x7 x8 x9 x10 x11 x12 x13 x14 x15 r)]
  exact (topK_at (val_main_v147 (F := Ideal) x0 x1 x2 x3 x4 x5 x6 x7 x8 x9 x10 x11 x12 x13 x14 x15) sliceFits_S65536x8_S65536x2 (by omega) r k).1

theorem expert_share (r : Fin 65536) (k : Fin 2) : val_main_values_27 (F := Ideal) x0 x1 x2 x3 x4 x5 x6 x7 x8 x9 x10 x11 x12 x13 x14 x15 (ix2 r k)
    = inGroup (groups x0 x1 x2 x3 x4 x5 x6 x7 x8 x9 x10 x11 x12 x13 r) (experts x0 x1 x2 x3 x4 x5 x6 x7 x8 x9 x10 x11 x14 x15 r) (rank (inGroup (groups x0 x1 x2 x3 x4 x5 x6 x7 x8 x9 x10 x11 x12 x13 r) (experts x0 x1 x2 x3 x4 x5 x6 x7 x8 x9 x10 x11 x14 x15 r)) (k.castLE (by omega))) := by
  rw [← funext (in_group_at x0 x1 x2 x3 x4 x5 x6 x7 x8 x9 x10 x11 x12 x13 x14 x15 r)]
  exact (topK_at (val_main_v147 (F := Ideal) x0 x1 x2 x3 x4 x5 x6 x7 x8 x9 x10 x11 x12 x13 x14 x15) sliceFits_S65536x8_S65536x2 (by omega) r k).2

/-- The first result: each token's experts. -/
theorem ids_at (r : Fin 65536) (k : Fin 8) : val_main_v159 (F := Ideal) x0 x1 x2 x3 x4 x5 x6 x7 x8 x9 x10 x11 x12 x13 x14 x15 (ix2 k r)
    = expert (groups x0 x1 x2 x3 x4 x5 x6 x7 x8 x9 x10 x11 x12 x13 r) (experts x0 x1 x2 x3 x4 x5 x6 x7 x8 x9 x10 x11 x14 x15 r) k := by
  have h : val_main_v159 (F := Ideal) x0 x1 x2 x3 x4 x5 x6 x7 x8 x9 x10 x11 x12 x13 x14 x15 (ix2 k r)
      = if h : k.val < 2 then IntOp.addi (IntOp.muli (val_main_indices (F := Ideal) x0 x1 x2 x3 x4 x5 x6 x7 x8 x9 x10 x11 x12 x13 (ix2 r 0)) 8#32) (val_main_indices_28 (F := Ideal) x0 x1 x2 x3 x4 x5 x6 x7 x8 x9 x10 x11 x12 x13 x14 x15 (ix2 r ⟨k.val, h⟩)) else 0#32 := by
    generalize e : val_main_indices (F := Ideal) x0 x1 x2 x3 x4 x5 x6 x7 x8 x9 x10 x11 x12 x13 = y
    generalize e' : val_main_indices_28 (F := Ideal) x0 x1 x2 x3 x4 x5 x6 x7 x8 x9 x10 x11 x12 x13 x14 x15 = z
    pointwise [val_main_v159, val_main_v158, val_main_v157, val_main_v156, val_main_v155, val_main_v154, val_main_c, val_main_c_30, val_main_call3_v0]
    rw [e, e']
    rfl
  rw [h]
  simp only [group_index, expert_index]
  unfold expert
  match k with
  | ⟨0, _⟩ => rfl
  | ⟨1, _⟩ => rfl
  | ⟨n + 2, _⟩ => rfl

/-- The second result: their weights. -/
theorem weights_at (r : Fin 65536) (k : Fin 8) : val_main_v161 (F := Ideal) x0 x1 x2 x3 x4 x5 x6 x7 x8 x9 x10 x11 x12 x13 x14 x15 (ix2 k r)
    = portion (groups x0 x1 x2 x3 x4 x5 x6 x7 x8 x9 x10 x11 x12 x13 r) (experts x0 x1 x2 x3 x4 x5 x6 x7 x8 x9 x10 x11 x14 x15 r) k := by
  have h : val_main_v161 (F := Ideal) x0 x1 x2 x3 x4 x5 x6 x7 x8 x9 x10 x11 x12 x13 x14 x15 (ix2 k r)
      = if h : k.val < 2 then Ideal.div (val_main_v132 (F := Ideal) x0 x1 x2 x3 x4 x5 x6 x7 x8 x9 x10 x11 x12 x13 (ix2 r 0) * val_main_values_27 (F := Ideal) x0 x1 x2 x3 x4 x5 x6 x7 x8 x9 x10 x11 x12 x13 x14 x15 (ix2 r ⟨k.val, h⟩))
          (∑ x : Fin 2, val_main_values_27 (F := Ideal) x0 x1 x2 x3 x4 x5 x6 x7 x8 x9 x10 x11 x12 x13 x14 x15 (ix2 r x)) else (0 : EReal) := by
    have z : FloatOps.sitofp (F := Ideal) .f32 0#32 = (0 : EReal) := by
      simp [FloatOps.sitofp]
    rw [← z]
    generalize e : val_main_v132 (F := Ideal) x0 x1 x2 x3 x4 x5 x6 x7 x8 x9 x10 x11 x12 x13 = y
    generalize e' : val_main_values_27 (F := Ideal) x0 x1 x2 x3 x4 x5 x6 x7 x8 x9 x10 x11 x12 x13 x14 x15 = w
    pointwise [val_main_v161, val_main_v160, val_main_v153, val_main_v152, val_main_v151, val_main_v150, val_main_v149, val_main_v148, val_main_cst_29, val_main_c_31, val_main_call4_v0]
    rw [e, e']
  rw [h]
  simp only [group_share, expert_share, Fin.sum_univ_two]
  unfold portion
  match k with
  | ⟨0, _⟩ => rfl
  | ⟨1, _⟩ => rfl
  | ⟨n + 2, _⟩ => rfl

end Cert.Reference5Ideal.Route
-- ==== Proof.RouteTable.lean ====
/- The merge call's logits from its blocks, and the router's table and biases the call is entered with. -/
module

public import proofs.«01_k».proof.Proof.Gen.Kernel5Ideal.Frame
public import proofs.«01_k».proof.Proof.MergeBody
public import Idealize.ShloMosaic.Lib.Pointwise
public import Idealize.ShloMosaic.Lib.Pipeline.ValueKit
public import Idealize.ShloMosaic.Lib.Routing.OpsSet

@[expose] public section

set_option maxRecDepth 16384

noncomputable section

open Idealize.ShloMosaic Idealize.ShloMosaic.TcCoe Idealize.SL.Sem
open Idealize.ShloMosaic.Routing
open scoped BigOperators

namespace Cert.Kernel5Ideal.Route

open Cert.Kernel5Ideal Cert.Kernel5Ideal.Gen

/-- The logits, from the hidden rows, the table and the biases. -/
theorem logits_at (y x z : FVec Ideal S256x1024 .f32) (b g1 b1 : FVec Ideal S1x1024 .f32) (wr : FVec Ideal S128x1024 .f32) (br : FVec Ideal S128x1 .f32)
    (r : Fin 128) (n : Fin 256) :
    k0_pay20 (F := Ideal) y b x z g1 b1 wr br (ix2 r n)
      = (∑ j : Fin 1024, k0_pay19 (F := Ideal) y b x z g1 b1 (ix2 n j) * wr (ix2 r j)) + br (ix2 r 0) := by
  simp only [fun j => mul_comm (k0_pay19 (F := Ideal) y b x z g1 b1 (ix2 n j)) (wr (ix2 r j))]
  unfold k0_pay20
  generalize k0_pay19 (F := Ideal) y b x z g1 b1 = H
  pointwise

/-- The hidden rows, as of the call's first result. -/
theorem hidden_at (a : FVec Ideal S256x512 .bf16) (p q : FVec Ideal S1x256x512 .f32) (g : FVec Ideal S256x512 .bf16) (n0 n1 n2 n3 : FVec Ideal S1x128 .f32)
    (ga gb : FVec Ideal S256x1024 .bf16) (x : FVec Ideal S256x1024 .f32) (g0 b0 g1 b1 : FVec Ideal S1x1024 .f32) (wa wb : FVec Ideal S512x1024 .bf16)
    (wo : FVec Ideal S1024x1024 .bf16) (n : Fin 512 → EReal)
    (e0 : ∀ j : Fin 128, n0 (ix2 0 j) = n ⟨j.val, by omega⟩) (e1 : ∀ j : Fin 128, n1 (ix2 0 j) = n ⟨128 + j.val, by omega⟩)
    (e2 : ∀ j : Fin 128, n2 (ix2 0 j) = n ⟨256 + j.val, by omega⟩) (e3 : ∀ j : Fin 128, n3 (ix2 0 j) = n ⟨384 + j.val, by omega⟩)
    (r : Fin 256) (k : Fin 1024) :
    k0_pay19 (F := Ideal)
      (k0_pay15 (F := Ideal) (k0_pay12 (F := Ideal) a wa)
        (k0_pay13 (F := Ideal) (k0_pay3 (F := Ideal) g) (k0_pay4 (F := Ideal) p q g n0)
          (k0_pay8 (F := Ideal) (k0_pay5 (F := Ideal) p q) (k0_pay6 (F := Ideal) p q) (k0_pay7 (F := Ideal) g) (Scalar.ofBits .f32 0x358637BD#32) n1)
          (k0_pay9 (F := Ideal) (k0_pay2 (F := Ideal) p q) (k0_pay3 (F := Ideal) g) n2)
          (k0_pay10 (F := Ideal) (k0_pay2 (F := Ideal) p q)) (k0_pay11 (F := Ideal) (k0_pay2 (F := Ideal) p q)) n3 wb)
        (k0_pay14 (F := Ideal) ga) (Scalar.ofBits .f32 0x3F800000#32) gb wo)
      (k0_pay16 (F := Ideal) b0) (k0_pay17 (F := Ideal) x) (k0_pay18 (F := Ideal) g0) g1 b1 (ix2 r k)
      = Cert.Merge.hidden (fun j => a (ix2 r j)) (fun j => p (ix3 0 r j) + q (ix3 0 r j)) (fun j => g (ix2 r j)) n (fun j => ga (ix2 r j))
          (fun j => gb (ix2 r j)) (fun j => x (ix2 r j)) (fun j => g0 (ix2 0 j)) (fun j => b0 (ix2 0 j)) (fun j => g1 (ix2 0 j)) (fun j => b1 (ix2 0 j))
          (fun i j => wa (ix2 i j)) (fun i j => wb (ix2 i j)) (fun i j => wo (ix2 i j)) k :=
  Cert.Kernel3Ideal.Merge.hidden_at a p q g n0 n1 n2 n3 ga gb x g0 b0 g1 b1 wa wb wo n e0 e1 e2 e3 r k

/-! Where the updates of the four scatters land: from the row their word names, in order. -/

theorem lands_groups (w : IVec S1 32) (a : Fin 4) (b : Fin 1024) (r : Fin 128) (k : Fin 1024) :
    scatter_S128x1024_S1_S4x1024_01_n_0_0.resultIdx? (ix2 a b) w = some (ix2 r k) ↔ (w (ix1 0)).toInt + a.val = r.val ∧ b = k := by
  have s0 : scatter_S128x1024_S1_S4x1024_01_n_0_0.start (ix2 a b) w 0 = (w (ix1 0)).toInt :=
    congrArg (fun i => (w i).toInt) (funext fun i => by match i with | ⟨0, _⟩ => rfl)
  have s1 : scatter_S128x1024_S1_S4x1024_01_n_0_0.start (ix2 a b) w 1 = 0 := rfl
  have w0 : scatter_S128x1024_S1_S4x1024_01_n_0_0.window (ix2 a b) 0 = a.val := rfl
  have w1 : scatter_S128x1024_S1_S4x1024_01_n_0_0.window (ix2 a b) 1 = b.val := rfl
  refine (resultIdx?_ix2 scatter_S128x1024_S1_S4x1024_01_n_0_0 _ w r k).trans ?_
  rw [s0, s1, w0, w1]
  omega

theorem lands_experts (w : IVec S1 32) (a : Fin 32) (b : Fin 1024) (r : Fin 128) (k : Fin 1024) :
    scatter_S128x1024_S1_S32x1024_01_n_0_0.resultIdx? (ix2 a b) w = some (ix2 r k) ↔ (w (ix1 0)).toInt + a.val = r.val ∧ b = k := by
  have s0 : scatter_S128x1024_S1_S32x1024_01_n_0_0.start (ix2 a b) w 0 = (w (ix1 0)).toInt :=
    congrArg (fun i => (w i).toInt) (funext fun i => by match i with | ⟨0, _⟩ => rfl)
  have s1 : scatter_S128x1024_S1_S32x1024_01_n_0_0.start (ix2 a b) w 1 = 0 := rfl
  have w0 : scatter_S128x1024_S1_S32x1024_01_n_0_0.window (ix2 a b) 0 = a.val := rfl
  have w1 : scatter_S128x1024_S1_S32x1024_01_n_0_0.window (ix2 a b) 1 = b.val := rfl
  refine (resultIdx?_ix2 scatter_S128x1024_S1_S32x1024_01_n_0_0 _ w r k).trans ?_
  rw [s0, s1, w0, w1]
  omega

theorem lands_group (w : IVec S1 32) (a : Fin 4) (r : Fin 128) :
    scatter_S128_S1_S4_0_n_0_0.resultIdx? (ix1 a) w = some (ix1 r) ↔ (w (ix1 0)).toInt + a.val = r.val := by
  have s0 : scatter_S128_S1_S4_0_n_0_0.start (ix1 a) w 0 = (w (ix1 0)).toInt :=
    congrArg (fun i => (w i).toInt) (funext fun i => by match i with | ⟨0, _⟩ => rfl)
  have w0 : scatter_S128_S1_S4_0_n_0_0.window (ix1 a) 0 = a.val := rfl
  refine (resultIdx?_ix1 scatter_S128_S1_S4_0_n_0_0 _ w r).trans ?_
  rw [s0, w0]

theorem lands_expert (w : IVec S1 32) (a : Fin 32) (r : Fin 128) :
    scatter_S128_S1_S32_0_n_0_0.resultIdx? (ix1 a) w = some (ix1 r) ↔ (w (ix1 0)).toInt + a.val = r.val := by
  have s0 : scatter_S128_S1_S32_0_n_0_0.start (ix1 a) w 0 = (w (ix1 0)).toInt :=
    congrArg (fun i => (w i).toInt) (funext fun i => by match i with | ⟨0, _⟩ => rfl)
  have w0 : scatter_S128_S1_S32_0_n_0_0.window (ix1 a) 0 = a.val := rfl
  refine (resultIdx?_ix1 scatter_S128_S1_S32_0_n_0_0 _ w r).trans ?_
  rw [s0, w0]

/-- The word a scatter starts at. -/
abbrev word (n : BitVec 32) : IVec S1 32 := broadcastInDim S1 ![] bcast_S_S1 (constantI S_ 32 n)

theorem word_zero : (word 0#32 (ix1 0)).toInt = 0 := by decide +kernel
theorem word_eight : (word 8#32 (ix1 0)).toInt = 8 := by decide +kernel

/-- The router's table: the groups' rows first, the experts' from the eighth, the rest zero. -/
def table (x : FVec Ideal S1x1024x4 .f32) (y : FVec Ideal S1x1024x32 .f32) : FVec Ideal S128x1024 .f32 :=
  Host.scatter scatter_S128x1024_S1_S32x1024_01_n_0_0 (fun _ b => b)
    (Host.scatter scatter_S128x1024_S1_S4x1024_01_n_0_0 (fun _ b => b) (broadcastInDim S128x1024 ![] bcast_S_S128x1024 (constant S_ .f32 0x00000000#32)) (word 0#32)
      (transpose S4x1024 [1, 0] (shapeCast S1024x4 x shapeCasts_S1x1024x4_S1024x4) transposes_S1024x4_S4x1024_1_0))
    (word 8#32) (transpose S32x1024 [1, 0] (shapeCast S1024x32 y shapeCasts_S1x1024x32_S1024x32) transposes_S1024x32_S32x1024_1_0)

/-- Its column of biases. -/
def biases (x : FVec Ideal S1x4 .f32) (y : FVec Ideal S1x32 .f32) : FVec Ideal S128 .f32 :=
  Host.scatter scatter_S128_S1_S32_0_n_0_0 (fun _ b => b)
    (Host.scatter scatter_S128_S1_S4_0_n_0_0 (fun _ b => b) (broadcastInDim S128 ![] bcast_S_S128 (constant S_ .f32 0x00000000#32)) (word 0#32)
      (shapeCast S4 x shapeCasts_S1x4_S4))
    (word 8#32) (shapeCast S32 y shapeCasts_S1x32_S32)

theorem groups_row (x : FVec Ideal S1x1024x4 .f32) (k : Fin 4) (j : Fin 1024) :
    transpose S4x1024 [1, 0] (shapeCast S1024x4 x shapeCasts_S1x1024x4_S1024x4) transposes_S1024x4_S4x1024_1_0 (ix2 k j) = x (ix3 0 j k) := by
  pointwise

theorem experts_row (y : FVec Ideal S1x1024x32 .f32) (k : Fin 32) (j : Fin 1024) :
    transpose S32x1024 [1, 0] (shapeCast S1024x32 y shapeCasts_S1x1024x32_S1024x32) transposes_S1024x32_S32x1024_1_0 (ix2 k j) = y (ix3 0 j k) := by
  pointwise

theorem table_group (x : FVec Ideal S1x1024x4 .f32) (y : FVec Ideal S1x1024x32 .f32) (k : Fin 4) (j : Fin 1024) (r : Fin 128) (h : r.val = k.val) :
    table x y (ix2 r j) = x (ix3 0 j k) := by
  unfold table
  rw [scatter_set_miss scatter_S128x1024_S1_S32x1024_01_n_0_0 _ _ _ (ix2 r j) fun i hi => by
    have h0 := ((lands_experts _ (i 0) (i 1) _ _).1 ((congrArg (scatter_S128x1024_S1_S32x1024_01_n_0_0.resultIdx? · _) (eq_ix2 i)).symm.trans hi)).1
    rw [word_eight] at h0; omega]
  refine scatter_set_hit scatter_S128x1024_S1_S4x1024_01_n_0_0 _ _ _ (ix2 r j) _ (fun i hi => ?_) (ix2 k j) ((lands_groups _ _ _ _ _).2 ⟨by rw [word_zero]; omega, rfl⟩)
  rw [eq_ix2 i] at hi ⊢
  obtain ⟨h0, h1⟩ := (lands_groups _ _ _ _ _).1 hi
  rw [word_zero] at h0
  rw [h1, show i 0 = k from Fin.ext (by omega)]
  exact groups_row x k j

theorem table_expert (x : FVec Ideal S1x1024x4 .f32) (y : FVec Ideal S1x1024x32 .f32) (k : Fin 32) (j : Fin 1024) (r : Fin 128) (h : r.val = 8 + k.val) :
    table x y (ix2 r j) = y (ix3 0 j k) := by
  unfold table
  refine scatter_set_hit scatter_S128x1024_S1_S32x1024_01_n_0_0 _ _ _ (ix2 r j) _ (fun i hi => ?_) (ix2 k j) ((lands_experts _ _ _ _ _).2 ⟨by rw [word_eight]; omega, rfl⟩)
  rw [eq_ix2 i] at hi ⊢
  obtain ⟨h0, h1⟩ := (lands_experts _ _ _ _ _).1 hi
  rw [word_eight] at h0
  rw [h1, show i 0 = k from Fin.ext (by omega)]
  exact experts_row y k j

theorem bias_group (x : FVec Ideal S1x4 .f32) (y : FVec Ideal S1x32 .f32) (k : Fin 4) (r : Fin 128) (h : r.val = k.val) :
    biases x y (ix1 r) = x (ix2 0 k) := by
  unfold biases
  rw [scatter_set_miss scatter_S128_S1_S32_0_n_0_0 _ _ _ (ix1 r) fun i hi => by
    have h0 := (lands_expert _ (i 0) _).1 ((congrArg (scatter_S128_S1_S32_0_n_0_0.resultIdx? · _) (eq_ix1 i)).symm.trans hi)
    rw [word_eight] at h0; omega]
  refine scatter_set_hit scatter_S128_S1_S4_0_n_0_0 _ _ _ (ix1 r) _ (fun i hi => ?_) (ix1 k) ((lands_group _ _ _).2 (by rw [word_zero]; omega))
  rw [eq_ix1 i] at hi ⊢
  have h0 := (lands_group _ _ _).1 hi
  rw [word_zero] at h0
  rw [show i 0 = k from Fin.ext (by omega)]
  pointwise

theorem bias_expert (x : FVec Ideal S1x4 .f32) (y : FVec Ideal S1x32 .f32) (k : Fin 32) (r : Fin 128) (h : r.val = 8 + k.val) :
    biases x y (ix1 r) = y (ix2 0 k) := by
  unfold biases
  refine scatter_set_hit scatter_S128_S1_S32_0_n_0_0 _ _ _ (ix1 r) _ (fun i hi => ?_) (ix1 k) ((lands_expert _ _ _).2 (by rw [word_eight]; omega))
  rw [eq_ix1 i] at hi ⊢
  have h0 := (lands_expert _ _ _).1 hi
  rw [word_eight] at h0
  rw [show i 0 = k from Fin.ext (by omega)]
  pointwise

variable (m : (ℓ : Loc nD τ sig) → Buf (Elt Ideal) ℓ)

theorem table_eq (c : Dev nD) : V m c main_v9 = table (m ((c : Thread nD τ).loc main_arg12)) (m ((c : Thread nD τ).loc main_arg14)) := by
  entry_read
  rfl

theorem bias_at (c : Dev nD) (r : Fin 128) (k : Fin 128) : V m c main_v18 (ix2 r k) = biases (m ((c : Thread nD τ).loc main_arg13)) (m ((c : Thread nD τ).loc main_arg15)) (ix1 r) := by
  have e : V m c main_v18 = broadcastInDim S128x128 ![0, 1] bcast_S128x1_S128x128_0_1 (broadcastInDim S128x1 ![0] bcast_S128_S128x1_0
      (biases (m ((c : Thread nD τ).loc main_arg13)) (m ((c : Thread nD τ).loc main_arg15)))) := by entry_read; rfl
  rw [e]
  generalize biases (m ((c : Thread nD τ).loc main_arg13)) (m ((c : Thread nD τ).loc main_arg15)) = y
  pointwise

end Cert.Kernel5Ideal.Route
-- ==== Proof.RouteValue.lean ====
/- The router's two results of the merge call are the reference's, of finite logits. -/
module

public import proofs.«01_k».proof.Proof.RouteBlocks
public import proofs.«01_k».proof.Proof.RouteBody
public import proofs.«01_k».proof.Proof.RouteRef
public import proofs.«01_k».proof.Proof.RouteTable
public import Idealize.ShloMosaic.Lib.Pipeline.ValueKit

@[expose] public section

set_option maxRecDepth 16384

noncomputable section

open Idealize.ShloMosaic Idealize.ShloMosaic.TcCoe Idealize.SL.Sem
open scoped BigOperators

namespace Cert.Kernel5Ideal.Route

open Cert.Kernel5Ideal Cert.Kernel5Ideal.Gen
open Cert.Reference5Ideal.Route (groups experts)

variable (m : (ℓ : Loc nD τ sig) → Buf (Elt Ideal) ℓ)

/-- The hidden rows that the logits are of. -/
abbrev hiddenRows (c : Dev nD) : FVec Ideal ⟨2, ![65536, 1024]⟩ .f32 :=
  Cert.Reference5Ideal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- A token's groups' logits, and its experts'. -/
abbrev groupsOf (c : Dev nD) (r : Fin 65536) : Fin 4 → EReal :=
  groups (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) r
abbrev expertsOf (c : Dev nD) (r : Fin 65536) : Fin 4 → Fin 8 → EReal :=
  experts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg14)) (m ((c : Thread nD τ).loc main_arg15)) r

set_option maxHeartbeats 1600000 in
/-- The logits of a block, by row of the table. -/
theorem block_logits (c : Dev nD) (t : Fin cfg0.N) (q : Fin 128) (n : Fin 256) (R : Fin 65536) (hr : R.val = t.val * 256 + n.val) :
    k0_pay44 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q n)
      = (∑ j : Fin 1024, hiddenRows m c (ix2 R j) * table (m ((c : Thread nD τ).loc main_arg12)) (m ((c : Thread nD τ).loc main_arg14)) (ix2 q j)) + biases (m ((c : Thread nD τ).loc main_arg13)) (m ((c : Thread nD τ).loc main_arg15)) (ix1 q) := by
  unfold k0_pay44 k0_pay42 k0_pay41 k0_pay40 k0_pay39 k0_pay38 k0_pay37
  refine (logits_at ..).trans ?_
  refine congrArg₂ (· + ·) (Finset.sum_congr rfl fun l _ => congrArg₂ (· * ·) ?_ ?_) ?_
  rotate_left
  · exact (table_block (V m c main_v9) t q l).trans (congrFun (table_eq m c) _)
  · exact (bias_block (V m c main_v18) t q).trans (bias_at m c q 0)
  unfold hiddenRows
  rw [Cert.Reference5Ideal.Route.hidden_eq]
  refine Eq.trans ?_ (Cert.Reference3Ideal.Merge.hidden_at ..).symm
  refine (hidden_at _ _ _ _ _ _ _ _ _ _ _ _ _ _ _ _ _ _ (fun j => (m ((c : Thread nD τ).loc main_arg6)) (ix2 0 j)) ?_ ?_ ?_ ?_ _ _).trans ?_
  · exact fun j => (scale_block (V m c main_v30) t 0 _ j ⟨j.val, by omega⟩ (by simp)).trans (scale_at m c _)
  · exact fun j => (scale_block (V m c main_v30) t 128 _ j ⟨128 + j.val, by omega⟩ rfl).trans (scale_at m c _)
  · exact fun j => (scale_block (V m c main_v30) t 256 _ j ⟨256 + j.val, by omega⟩ rfl).trans (scale_at m c _)
  · exact fun j => (scale_block (V m c main_v30) t 384 _ j ⟨384 + j.val, by omega⟩ rfl).trans (scale_at m c _)
  congr 1
  · funext j; exact (attn_block (V m c main_arg0) t _ j _ hr).trans (congrFun (V_main_arg0 m c) _)
  · funext j
    exact congrArg₂ (· + ·) ((scan_block (V m c main_arg1) t 0 _ _ j _ hr).trans (congrFun (V_main_arg1 m c) _))
      ((scan_block (V m c main_arg1) t 1 _ _ j _ hr).trans (congrFun (V_main_arg1 m c) _))
  · funext j; exact (gate_block (V m c main_arg2) t _ j _ ⟨512 + j.val, by omega⟩ hr rfl).trans (congrFun (V_main_arg2 m c) _)
  · funext j; exact (gateA_block (V m c main_arg2) t _ j _ ⟨1024 + j.val, by omega⟩ hr rfl).trans (congrFun (V_main_arg2 m c) _)
  · funext j; exact (gateB_block (V m c main_arg2) t _ j _ ⟨2048 + j.val, by omega⟩ hr rfl).trans (congrFun (V_main_arg2 m c) _)
  · funext j; exact (row_block (V m c main_v0) t _ j _ hr).trans (embed_rows_at m c _ j)
  · funext j; exact (gain0_block (V m c main_v28) t j).trans (gain0_at m c j)
  · funext j; exact (shift0_block (V m c main_v29) t j).trans (shift0_at m c j)
  · funext j; exact (gain1_block (V m c main_v31) t j).trans (gain1_at m c j)
  · funext j; exact (shift1_block (V m c main_v32) t j).trans (shift1_at m c j)
  · funext i j; exact (projA_block (V m c main_v21) t i j).trans (projA_at m c i j)
  · funext i j; exact (projB_block (V m c main_v23) t i j).trans (projB_at m c i j)
  · funext i j; exact (projO_block (V m c main_v25) t i j).trans (projO_at m c i j)

theorem block_groups (c : Dev nD) (t : Fin cfg0.N) (k : Fin 4) (n : Fin 256) (q : Fin 128) (hq : q.val = k.val) (R : Fin 65536) (hr : R.val = t.val * 256 + n.val) :
    k0_pay44 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q n) = groupsOf m c R k := by
  rw [block_logits m c t _ n R hr]
  unfold groupsOf groups
  rw [Cert.Reference5Ideal.Route.group_at]
  exact congrArg₂ (· + ·) (Finset.sum_congr rfl fun j _ => congrArg₂ (· * ·) rfl (table_group _ _ k j _ hq)) (bias_group _ _ k _ hq)

theorem block_experts (c : Dev nD) (t : Fin cfg0.N) (i : Fin 4) (k : Fin 8) (n : Fin 256) (q : Fin 128) (hq : q.val = 8 + 8 * i.val + k.val) (R : Fin 65536) (hr : R.val = t.val * 256 + n.val) :
    k0_pay44 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 q n) = expertsOf m c R i k := by
  rw [block_logits m c t _ n R hr]
  unfold expertsOf experts
  rw [Cert.Reference5Ideal.Route.experts_at]
  have h : q.val = 8 + (i.val * 8 + k.val) := by omega
  exact congrArg₂ (· + ·) (Finset.sum_congr rfl fun j _ => congrArg₂ (· * ·) rfl (table_expert _ _ ⟨i.val * 8 + k.val, by omega⟩ j _ h))
    (bias_expert _ _ ⟨i.val * 8 + k.val, by omega⟩ _ h)

set_option maxHeartbeats 1600000 in
/-- Each token's experts. -/
theorem final17 (c : Dev nD) (fg : ∀ r k, groupsOf m c r k ≠ ⊥ ∧ groupsOf m c r k ≠ ⊤) (fe : ∀ r i k, expertsOf m c r i k ≠ ⊥ ∧ expertsOf m c r i k ≠ ⊤) :
    (dats m 0 c).arrAt 17 cfg0.N = Cert.Reference5Ideal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 17 _ (by decide +kernel) fun t _ y => ?_
  have e17 := (idx t).2.2.2.2.2.2.2.2.2.2.2.2.2.2.2.2.1
  blk_simp
  rw [after0_17]
  unfold out0_17
  canon_tiles x h
  rw [eq_ix2 x, eq_ix2 ((win0_17.blk t).view.emb y)]
  have hk : x 0 = (win0_17.blk t).view.emb y 0 := Fin.ext (by dsimp only; blk_simp [e17]; omega)
  rw [hk]
  have hr : ((win0_17.blk t).view.emb y 1).val = t.val * 256 + (x 1).val := by dsimp only; blk_simp [e17]; omega
  refine Eq.trans ?_ (Cert.Reference5Ideal.Route.ids_at ..).symm
  exact stored_expert _ (x 1) _ _ (fun k q hq => block_groups m c t k _ q hq _ hr) (fun i k q hq => block_experts m c t i k _ q hq _ hr) (fg _) (fe _) _

set_option maxHeartbeats 1600000 in
/-- Their weights. -/
theorem final18 (c : Dev nD) (fg : ∀ r k, groupsOf m c r k ≠ ⊥ ∧ groupsOf m c r k ≠ ⊤) (fe : ∀ r i k, expertsOf m c r i k ≠ ⊥ ∧ expertsOf m c r i k ≠ ⊤) :
    (dats m 0 c).arrAt 18 cfg0.N = Cert.Reference5Ideal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (dats m 0 c).arrAt_eq_of_covers 18 _ (by decide +kernel) fun t _ y => ?_
  have e18 := (idx t).2.2.2.2.2.2.2.2.2.2.2.2.2.2.2.2.2
  blk_simp
  rw [after0_18]
  unfold out0_18
  canon_tiles x h
  rw [eq_ix2 x, eq_ix2 ((win0_18.blk t).view.emb y)]
  have hk : x 0 = (win0_18.blk t).view.emb y 0 := Fin.ext (by dsimp only; blk_simp [e18]; omega)
  rw [hk]
  have hr : ((win0_18.blk t).view.emb y 1).val = t.val * 256 + (x 1).val := by dsimp only; blk_simp [e18]; omega
  refine Eq.trans ?_ (Cert.Reference5Ideal.Route.weights_at ..).symm
  exact stored_portion _ (x 1) _ _ (fun k q hq => block_groups m c t k _ q hq _ hr) (fun i k q hq => block_experts m c t i k _ q hq _ hr) (fg _) (fe _) _

end Cert.Kernel5Ideal.Route
-- ==== Proof.RouteClaim.lean ====
/- The router's two results of the merge call are the reference's, where the logits are finite. -/
module

public import proofs.«01_k».proof.Defs
public import proofs.«01_k».proof.Proof.AttnClaim
public import proofs.«01_k».proof.Proof.RouteValue
public import proofs.«01_k».proof.Proof.Gen.Kernel5Ideal.Value
public import proofs.«01_k».proof.Proof.Gen.Pre_finite_logits
public import proofs.«01_k».proof.Proof.Gen.Reference5Ideal.Run
public import Idealize.ShloMosaic.Lib.Claim

@[expose] public section

set_option maxRecDepth 16384

noncomputable section

open Idealize.ShloMosaic Idealize.ShloMosaic.TcCoe Idealize.SL.Sem

namespace Cert.Route

section

open Cert.Reference5Ideal Cert.Reference5Ideal.Gen Cert.Reference5Ideal.Read
open Cert.Reference5Ideal.Route (groups experts)

variable [Cert.Pre_finite_logits.Facts]

variable (x0 : FVec Ideal S65536x512 .bf16) (x1 : FVec Ideal S2x65536x512 .f32) (x2 : FVec Ideal S65536x3072 .bf16) (x3 : FVec Ideal S8x8192x1024 .f32)
  (x4 x5 : FVec Ideal S1024 .f32) (x6 : FVec Ideal S1x512 .f32) (x7 x8 : FVec Ideal S1x512x1024 .f32) (x9 : FVec Ideal S1x1024x1024 .f32)
  (x10 x11 : FVec Ideal S1x1024 .f32) (x12 : FVec Ideal S1x1024x4 .f32) (x13 : FVec Ideal S1x4 .f32) (x14 : FVec Ideal S1x1024x32 .f32) (x15 : FVec Ideal S1x32 .f32)

theorem pre_groups : (Cert.Pre_finite_logits.fn (F := Ideal) x0 x1 x2 x3 x4 x5 x6 x7 x8 x9 x10 x11 x12 x13 x14 x15).1
    = fun i => IntOp.andi (FloatOps.cmpf (F := Ideal) (φ := .f32) .ogt (val_main_v107 (F := Ideal) x0 x1 x2 x3 x4 x5 x6 x7 x8 x9 x10 x11 x12 x13 i) (Ideal.ofBits .f32 0xFF800000#32))
        (FloatOps.cmpf (F := Ideal) (φ := .f32) .olt (val_main_v107 (F := Ideal) x0 x1 x2 x3 x4 x5 x6 x7 x8 x9 x10 x11 x12 x13 i) (Ideal.ofBits .f32 0x7F800000#32)) := rfl

theorem pre_experts : (Cert.Pre_finite_logits.fn (F := Ideal) x0 x1 x2 x3 x4 x5 x6 x7 x8 x9 x10 x11 x12 x13 x14 x15).2
    = fun i => IntOp.andi (FloatOps.cmpf (F := Ideal) (φ := .f32) .ogt (val_main_v113 (F := Ideal) x0 x1 x2 x3 x4 x5 x6 x7 x8 x9 x10 x11 x14 x15 i) (Ideal.ofBits .f32 0xFF800000#32))
        (FloatOps.cmpf (F := Ideal) (φ := .f32) .olt (val_main_v113 (F := Ideal) x0 x1 x2 x3 x4 x5 x6 x7 x8 x9 x10 x11 x14 x15 i) (Ideal.ofBits .f32 0x7F800000#32)) := rfl

theorem finite_groups (h : (Cert.Pre_finite_logits.fn (F := Ideal) x0 x1 x2 x3 x4 x5 x6 x7 x8 x9 x10 x11 x12 x13 x14 x15).1 = fun _ => 1#1) (r : Fin 65536) (k : Fin 4) :
    groups x0 x1 x2 x3 x4 x5 x6 x7 x8 x9 x10 x11 x12 x13 r k ≠ ⊥ ∧ groups x0 x1 x2 x3 x4 x5 x6 x7 x8 x9 x10 x11 x12 x13 r k ≠ ⊤ := by
  rw [pre_groups] at h
  exact Cert.Attn.finite_of_between _ (congrFun h (ix2 r k))

theorem finite_experts (h : (Cert.Pre_finite_logits.fn (F := Ideal) x0 x1 x2 x3 x4 x5 x6 x7 x8 x9 x10 x11 x12 x13 x14 x15).2 = fun _ => 1#1) (r : Fin 65536) (i : Fin 4) (k : Fin 8) :
    experts x0 x1 x2 x3 x4 x5 x6 x7 x8 x9 x10 x11 x14 x15 r i k ≠ ⊥ ∧ experts x0 x1 x2 x3 x4 x5 x6 x7 x8 x9 x10 x11 x14 x15 r i k ≠ ⊤ := by
  rw [pre_experts] at h
  exact Cert.Attn.finite_of_between _ (congrFun h (ix2 r ⟨i.val * 8 + k.val, by omega⟩))

end

set_option maxHeartbeats 2000000 in
open Cert.Reference5Ideal.Read in
/-- The call's experts and weights are the reference's, of finite logits. -/
theorem agrees : Cert.algebraic_Kernel5Ideal_Reference5Ideal_pre_finite_logits
    (hKernel5Ideal := Cert.Kernel5Ideal.Gen.facts) (hReference5Ideal := Cert.Reference5Ideal.Gen.facts)
    (hPre_finite_logits := Cert.Pre_finite_logits.Gen.facts) := by
  haveI := Cert.Pre_finite_logits.Gen.facts
  intro m g m' g' hpre hagree
  have fg (c) := finite_groups _ _ _ _ _ _ _ _ _ _ _ _ _ _ _ _ (hpre c).1
  have fe (c) := finite_experts _ _ _ _ _ _ _ _ _ _ _ _ _ _ _ _ (hpre c).2
  refine ⟨fun c => (Cert.Kernel5Ideal.Gen.dats m 0 c).arrAt 17 Cert.Kernel5Ideal.cfg0.N, fun c => (Cert.Kernel5Ideal.Gen.dats m 0 c).arrAt 18 Cert.Kernel5Ideal.cfg0.N,
    (θ_run _ _ _).mono (fun r h c => (h c).2) (Cert.Kernel5Ideal.Value.run_blocks m g), ?_⟩
  · refine (θ_run _ _ _).mono (fun r h c => ?_) (Cert.Reference5Ideal.Value.run (F := Ideal) m' g')
    obtain ⟨r0, r1, keep⟩ := h c
    obtain ⟨h0, h1, h2, h3, h4, h5, h6, h7, h8, h9, h10, h11, h12, h13, h14, h15⟩ := hagree c
    refine ⟨r0.trans ((val_main_v159_eq (StableHlo.launchContents m' c)).trans ?_), r1.trans ((val_main_v161_eq (StableHlo.launchContents m' c)).trans ?_), keep⟩
    · change val_main_v159 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11)) (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13)) (m' ((c.tc : Thread Cert.Reference5Ideal.nD Cert.Reference5Ideal.τ).loc Cert.Reference5Ideal.main_arg14)) (m' ((c.tc : Thread Cert.Reference5Ideal.nD Cert.Reference5Ideal.τ).loc Cert.Reference5Ideal.main_arg15)) = _
      rw [h0, h1, h2, h3, h4, h5, h6, h7, h8, h9, h10, h11, h12, h13, h14, h15]
      exact (Cert.Kernel5Ideal.Route.final17 m c (fg c) (fe c)).symm
    · change val_main_v161 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11)) (m' ((c.tc : Thread Cert.Reference5Ideal.nD Cert.Reference5Ideal.τ).loc Cert.Reference5Ideal.main_arg12)) (m' ((c.tc : Thread Cert.Reference5Ideal.nD Cert.Reference5Ideal.τ).loc Cert.Reference5Ideal.main_arg13)) (m' ((c.tc : Thread Cert.Reference5Ideal.nD Cert.Reference5Ideal.τ).loc Cert.Reference5Ideal.main_arg14)) (m' ((c.tc : Thread Cert.Reference5Ideal.nD Cert.Reference5Ideal.τ).loc Cert.Reference5Ideal.main_arg15)) = _
      rw [h0, h1, h2, h3, h4, h5, h6, h7, h8, h9, h10, h11, h12, h13, h14, h15]
      exact (Cert.Kernel5Ideal.Route.final18 m c (fg c) (fe c)).symm

end Cert.Route
-- ==== Proof.lean ====
/- The proof of the claims: the generated frames, and the value claims. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_scores
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_finite_logits
public import proofs.«01_k».proof.Proof.AttnClaim
public import proofs.«01_k».proof.Proof.InprojClaim
public import proofs.«01_k».proof.Proof.MergeClaim
public import proofs.«01_k».proof.Proof.FinalClaim
public import proofs.«01_k».proof.Proof.RouteClaim
public import Idealize.ShloMosaic.Adequacy
public import Idealize.ShloMosaic.Init

@[expose] public section

noncomputable section

namespace Cert.Proof

open Idealize.ShloMosaic Idealize.SL.Sem

/-- The attention's reference runs, keeps its arguments and names no semaphore. -/
theorem quiet1 : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run (F := Ideal) m ρ)

/-- So does the projection's. -/
theorem quiet2 : Cert.quiescent_Reference2Ideal (hReference2Ideal := Cert.Reference2Ideal.Gen.facts) :=
  fun m ρ _ => (θ_run Cert.Reference2Ideal.defs _ _).mono (fun r h => ⟨fun c => (h c).2.2.2, sem_eq_zero_of_no_sems (by decide) r.2⟩)
    (Cert.Reference2Ideal.Value.run (F := Ideal) m ρ)

/-- So does the merge's. -/
theorem quiet3 : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩)
    (Cert.Reference3Ideal.Value.run (F := Ideal) m ρ)

/-- So does the final norm's. -/
theorem quiet4 : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩)
    (Cert.Reference4Ideal.Value.run (F := Ideal) m ρ)

/-- So does the router's. -/
theorem quiet5 : Cert.quiescent_Reference5Ideal (hReference5Ideal := Cert.Reference5Ideal.Gen.facts) :=
  fun m ρ _ => (θ_run Cert.Reference5Ideal.defs _ _).mono (fun r h => ⟨fun c => (h c).2.2, sem_eq_zero_of_no_sems (by decide) r.2⟩)
    (Cert.Reference5Ideal.Value.run (F := Ideal) m ρ)

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Pre_finite_scores.Gen.facts, Cert.Pre_finite_logits.Gen.facts,
   fun m ρ _ => Cert.Kernel.Gen.frame m ρ, fun m ρ _ => Cert.KernelIdeal.Gen.frame m ρ,
   fun m ρ _ => Cert.KernelIdeal.Gen.frame m ρ, quiet1, fun m ρ _ => quiet1 m ρ trivial,
   fun m ρ _ => Cert.Kernel2.Gen.frame m ρ, fun m ρ _ => Cert.Kernel2Ideal.Gen.frame m ρ, quiet2,
   fun m ρ _ => Cert.Kernel3.Gen.frame m ρ, fun m ρ _ => Cert.Kernel3Ideal.Gen.frame m ρ, quiet3,
   fun m ρ _ => Cert.Kernel4.Gen.frame m ρ, fun m ρ _ => Cert.Kernel4Ideal.Gen.frame m ρ, quiet4,
   fun m ρ _ => Cert.Kernel5.Gen.frame m ρ, fun m ρ _ => Cert.Kernel5Ideal.Gen.frame m ρ,
   fun m ρ _ => Cert.Kernel5Ideal.Gen.frame m ρ, quiet5, fun m ρ _ => quiet5 m ρ trivial,
   trivial, Cert.Attn.agrees,
   trivial, Cert.Inproj.agrees,
   trivial, Cert.Merge.agrees,
   trivial, Cert.Final.agrees,
   trivial, Cert.Route.agrees⟩

end Cert.Proof

end
